-- ==== Defs.lean ====
def Pre_Score (m : (ℓ : Loc Cert.Score.nD Cert.Score.τ Cert.Score.sig) → Buf (Elt Bits) ℓ) : Prop :=
  True

def Pre_ScoreIdeal (m : (ℓ : Loc Cert.ScoreIdeal.nD Cert.ScoreIdeal.τ Cert.ScoreIdeal.sig) → Buf (Elt Ideal) ℓ) : Prop :=
  True

def Pre_ScoreReferenceIdeal (m : (ℓ : Loc Cert.ScoreReferenceIdeal.nD Cert.ScoreReferenceIdeal.τ Cert.ScoreReferenceIdeal.sig) → Buf (Elt Ideal) ℓ) : Prop :=
  True

def Pre_Select (m : (ℓ : Loc Cert.Select.nD Cert.Select.τ Cert.Select.sig) → Buf (Elt Bits) ℓ) : Prop :=
  True

def Pre_SelectIdeal (m : (ℓ : Loc Cert.SelectIdeal.nD Cert.SelectIdeal.τ Cert.SelectIdeal.sig) → Buf (Elt Ideal) ℓ) : Prop :=
  True

def Pre_SelectIdeal_drawn [hPre_drawn : Cert.Pre_drawn.Facts] (m : (ℓ : Loc Cert.SelectIdeal.nD Cert.SelectIdeal.τ Cert.SelectIdeal.sig) → Buf (Elt Ideal) ℓ) : Prop :=
  ∀ c : Dev Cert.SelectIdeal.nD,
    (Cert.Pre_drawn.fn (F := Ideal) (m ((c.tc : Thread Cert.SelectIdeal.nD Cert.SelectIdeal.τ).loc Cert.SelectIdeal.main_arg0)) (m ((c.tc : Thread Cert.SelectIdeal.nD Cert.SelectIdeal.τ).loc Cert.SelectIdeal.main_arg1)) (m ((c.tc : Thread Cert.SelectIdeal.nD Cert.SelectIdeal.τ).loc Cert.SelectIdeal.main_arg2)) (m ((c.tc : Thread Cert.SelectIdeal.nD Cert.SelectIdeal.τ).loc Cert.SelectIdeal.main_arg3)) (m ((c.tc : Thread Cert.SelectIdeal.nD Cert.SelectIdeal.τ).loc Cert.SelectIdeal.main_arg4))) = (fun _ => 1#1)

def Pre_SelectReferenceIdeal (m : (ℓ : Loc Cert.SelectReferenceIdeal.nD Cert.SelectReferenceIdeal.τ Cert.SelectReferenceIdeal.sig) → Buf (Elt Ideal) ℓ) : Prop :=
  True

def Pre_SelectReferenceIdeal_drawn [hPre_drawn : Cert.Pre_drawn.Facts] (m : (ℓ : Loc Cert.SelectReferenceIdeal.nD Cert.SelectReferenceIdeal.τ Cert.SelectReferenceIdeal.sig) → Buf (Elt Ideal) ℓ) : Prop :=
  ∀ c : Dev Cert.SelectReferenceIdeal.nD,
    (Cert.Pre_drawn.fn (F := Ideal) (m ((c.tc : Thread Cert.SelectReferenceIdeal.nD Cert.SelectReferenceIdeal.τ).loc Cert.SelectReferenceIdeal.main_arg0)) (m ((c.tc : Thread Cert.SelectReferenceIdeal.nD Cert.SelectReferenceIdeal.τ).loc Cert.SelectReferenceIdeal.main_arg1)) (m ((c.tc : Thread Cert.SelectReferenceIdeal.nD Cert.SelectReferenceIdeal.τ).loc Cert.SelectReferenceIdeal.main_arg2)) (m ((c.tc : Thread Cert.SelectReferenceIdeal.nD Cert.SelectReferenceIdeal.τ).loc Cert.SelectReferenceIdeal.main_arg3)) (m ((c.tc : Thread Cert.SelectReferenceIdeal.nD Cert.SelectReferenceIdeal.τ).loc Cert.SelectReferenceIdeal.main_arg4))) = (fun _ => 1#1)

def quiescent_Score [hScore : Cert.Score.Facts] : Prop :=
  ∀ (m : (ℓ : Loc Cert.Score.nD Cert.Score.τ Cert.Score.sig) → Buf (Elt Bits) ℓ) (g : Dev Cert.Score.nD → PrngReg), Pre_Score m →
    θ_run (Cert.Score.defs (F := Bits)) (onTc (τ := Cert.Score.τ) (Cert.Score.main (F := Bits))) ⟨m, fun _ => 0, g⟩ (fun r => (∀ c : Dev Cert.Score.nD,
      r.2.mem ((c.tc : Thread Cert.Score.nD Cert.Score.τ).loc Cert.Score.main_arg0) = m ((c.tc : Thread Cert.Score.nD Cert.Score.τ).loc Cert.Score.main_arg0)
      ∧ r.2.mem ((c.tc : Thread Cert.Score.nD Cert.Score.τ).loc Cert.Score.main_arg1) = m ((c.tc : Thread Cert.Score.nD Cert.Score.τ).loc Cert.Score.main_arg1)
      ∧ r.2.mem ((c.tc : Thread Cert.Score.nD Cert.Score.τ).loc Cert.Score.main_arg2) = m ((c.tc : Thread Cert.Score.nD Cert.Score.τ).loc Cert.Score.main_arg2))
      ∧ r.2.sem = fun _ => 0)

def quiescent_ScoreIdeal [hScoreIdeal : Cert.ScoreIdeal.Facts] : Prop :=
  ∀ (m : (ℓ : Loc Cert.ScoreIdeal.nD Cert.ScoreIdeal.τ Cert.ScoreIdeal.sig) → Buf (Elt Ideal) ℓ) (g : Dev Cert.ScoreIdeal.nD → PrngReg), Pre_ScoreIdeal m →
    θ_run (Cert.ScoreIdeal.defs (F := Ideal)) (onTc (τ := Cert.ScoreIdeal.τ) (Cert.ScoreIdeal.main (F := Ideal))) ⟨m, fun _ => 0, g⟩ (fun r => (∀ c : Dev Cert.ScoreIdeal.nD,
      r.2.mem ((c.tc : Thread Cert.ScoreIdeal.nD Cert.ScoreIdeal.τ).loc Cert.ScoreIdeal.main_arg0) = m ((c.tc : Thread Cert.ScoreIdeal.nD Cert.ScoreIdeal.τ).loc Cert.ScoreIdeal.main_arg0)
      ∧ r.2.mem ((c.tc : Thread Cert.ScoreIdeal.nD Cert.ScoreIdeal.τ).loc Cert.ScoreIdeal.main_arg1) = m ((c.tc : Thread Cert.ScoreIdeal.nD Cert.ScoreIdeal.τ).loc Cert.ScoreIdeal.main_arg1)
      ∧ r.2.mem ((c.tc : Thread Cert.ScoreIdeal.nD Cert.ScoreIdeal.τ).loc Cert.ScoreIdeal.main_arg2) = m ((c.tc : Thread Cert.ScoreIdeal.nD Cert.ScoreIdeal.τ).loc Cert.ScoreIdeal.main_arg2))
      ∧ r.2.sem = fun _ => 0)

def quiescent_ScoreReferenceIdeal [hScoreReferenceIdeal : Cert.ScoreReferenceIdeal.Facts] : Prop :=
  ∀ (m : (ℓ : Loc Cert.ScoreReferenceIdeal.nD Cert.ScoreReferenceIdeal.τ Cert.ScoreReferenceIdeal.sig) → Buf (Elt Ideal) ℓ) (g : Dev Cert.ScoreReferenceIdeal.nD → PrngReg), Pre_ScoreReferenceIdeal m →
    θ_run (Cert.ScoreReferenceIdeal.defs (F := Ideal)) (onTc (τ := Cert.ScoreReferenceIdeal.τ) (Cert.ScoreReferenceIdeal.main (F := Ideal))) ⟨m, fun _ => 0, g⟩ (fun r => (∀ c : Dev Cert.ScoreReferenceIdeal.nD,
      r.2.mem ((c.tc : Thread Cert.ScoreReferenceIdeal.nD Cert.ScoreReferenceIdeal.τ).loc Cert.ScoreReferenceIdeal.main_arg0) = m ((c.tc : Thread Cert.ScoreReferenceIdeal.nD Cert.ScoreReferenceIdeal.τ).loc Cert.ScoreReferenceIdeal.main_arg0)
      ∧ r.2.mem ((c.tc : Thread Cert.ScoreReferenceIdeal.nD Cert.ScoreReferenceIdeal.τ).loc Cert.ScoreReferenceIdeal.main_arg1) = m ((c.tc : Thread Cert.ScoreReferenceIdeal.nD Cert.ScoreReferenceIdeal.τ).loc Cert.ScoreReferenceIdeal.main_arg1)
      ∧ r.2.mem ((c.tc : Thread Cert.ScoreReferenceIdeal.nD Cert.ScoreReferenceIdeal.τ).loc Cert.ScoreReferenceIdeal.main_arg2) = m ((c.tc : Thread Cert.ScoreReferenceIdeal.nD Cert.ScoreReferenceIdeal.τ).loc Cert.ScoreReferenceIdeal.main_arg2))
      ∧ r.2.sem = fun _ => 0)

def quiescent_Select [hSelect : Cert.Select.Facts] : Prop :=
  ∀ (m : (ℓ : Loc Cert.Select.nD Cert.Select.τ Cert.Select.sig) → Buf (Elt Bits) ℓ) (g : Dev Cert.Select.nD → PrngReg), Pre_Select m →
    θ_run (Cert.Select.defs (F := Bits)) (onTc (τ := Cert.Select.τ) (Cert.Select.main (F := Bits))) ⟨m, fun _ => 0, g⟩ (fun r => (∀ c : Dev Cert.Select.nD,
      r.2.mem ((c.tc : Thread Cert.Select.nD Cert.Select.τ).loc Cert.Select.main_arg0) = m ((c.tc : Thread Cert.Select.nD Cert.Select.τ).loc Cert.Select.main_arg0)
      ∧ r.2.mem ((c.tc : Thread Cert.Select.nD Cert.Select.τ).loc Cert.Select.main_arg1) = m ((c.tc : Thread Cert.Select.nD Cert.Select.τ).loc Cert.Select.main_arg1)
      ∧ r.2.mem ((c.tc : Thread Cert.Select.nD Cert.Select.τ).loc Cert.Select.main_arg2) = m ((c.tc : Thread Cert.Select.nD Cert.Select.τ).loc Cert.Select.main_arg2)
      ∧ r.2.mem ((c.tc : Thread Cert.Select.nD Cert.Select.τ).loc Cert.Select.main_arg3) = m ((c.tc : Thread Cert.Select.nD Cert.Select.τ).loc Cert.Select.main_arg3)
      ∧ r.2.mem ((c.tc : Thread Cert.Select.nD Cert.Select.τ).loc Cert.Select.main_arg4) = m ((c.tc : Thread Cert.Select.nD Cert.Select.τ).loc Cert.Select.main_arg4))
      ∧ r.2.sem = fun _ => 0)

def quiescent_SelectIdeal [hSelectIdeal : Cert.SelectIdeal.Facts] : Prop :=
  ∀ (m : (ℓ : Loc Cert.SelectIdeal.nD Cert.SelectIdeal.τ Cert.SelectIdeal.sig) → Buf (Elt Ideal) ℓ) (g : Dev Cert.SelectIdeal.nD → PrngReg), Pre_SelectIdeal m →
    θ_run (Cert.SelectIdeal.defs (F := Ideal)) (onTc (τ := Cert.SelectIdeal.τ) (Cert.SelectIdeal.main (F := Ideal))) ⟨m, fun _ => 0, g⟩ (fun r => (∀ c : Dev Cert.SelectIdeal.nD,
      r.2.mem ((c.tc : Thread Cert.SelectIdeal.nD Cert.SelectIdeal.τ).loc Cert.SelectIdeal.main_arg0) = m ((c.tc : Thread Cert.SelectIdeal.nD Cert.SelectIdeal.τ).loc Cert.SelectIdeal.main_arg0)
      ∧ r.2.mem ((c.tc : Thread Cert.SelectIdeal.nD Cert.SelectIdeal.τ).loc Cert.SelectIdeal.main_arg1) = m ((c.tc : Thread Cert.SelectIdeal.nD Cert.SelectIdeal.τ).loc Cert.SelectIdeal.main_arg1)
      ∧ r.2.mem ((c.tc : Thread Cert.SelectIdeal.nD Cert.SelectIdeal.τ).loc Cert.SelectIdeal.main_arg2) = m ((c.tc : Thread Cert.SelectIdeal.nD Cert.SelectIdeal.τ).loc Cert.SelectIdeal.main_arg2)
      ∧ r.2.mem ((c.tc : Thread Cert.SelectIdeal.nD Cert.SelectIdeal.τ).loc Cert.SelectIdeal.main_arg3) = m ((c.tc : Thread Cert.SelectIdeal.nD Cert.SelectIdeal.τ).loc Cert.SelectIdeal.main_arg3)
      ∧ r.2.mem ((c.tc : Thread Cert.SelectIdeal.nD Cert.SelectIdeal.τ).loc Cert.SelectIdeal.main_arg4) = m ((c.tc : Thread Cert.SelectIdeal.nD Cert.SelectIdeal.τ).loc Cert.SelectIdeal.main_arg4))
      ∧ r.2.sem = fun _ => 0)

def quiescent_SelectIdeal_pre_drawn [hSelectIdeal : Cert.SelectIdeal.Facts] [hPre_drawn : Cert.Pre_drawn.Facts] : Prop :=
  ∀ (m : (ℓ : Loc Cert.SelectIdeal.nD Cert.SelectIdeal.τ Cert.SelectIdeal.sig) → Buf (Elt Ideal) ℓ) (g : Dev Cert.SelectIdeal.nD → PrngReg), Pre_SelectIdeal_drawn m →
    θ_run (Cert.SelectIdeal.defs (F := Ideal)) (onTc (τ := Cert.SelectIdeal.τ) (Cert.SelectIdeal.main (F := Ideal))) ⟨m, fun _ => 0, g⟩ (fun r => (∀ c : Dev Cert.SelectIdeal.nD,
      r.2.mem ((c.tc : Thread Cert.SelectIdeal.nD Cert.SelectIdeal.τ).loc Cert.SelectIdeal.main_arg0) = m ((c.tc : Thread Cert.SelectIdeal.nD Cert.SelectIdeal.τ).loc Cert.SelectIdeal.main_arg0)
      ∧ r.2.mem ((c.tc : Thread Cert.SelectIdeal.nD Cert.SelectIdeal.τ).loc Cert.SelectIdeal.main_arg1) = m ((c.tc : Thread Cert.SelectIdeal.nD Cert.SelectIdeal.τ).loc Cert.SelectIdeal.main_arg1)
      ∧ r.2.mem ((c.tc : Thread Cert.SelectIdeal.nD Cert.SelectIdeal.τ).loc Cert.SelectIdeal.main_arg2) = m ((c.tc : Thread Cert.SelectIdeal.nD Cert.SelectIdeal.τ).loc Cert.SelectIdeal.main_arg2)
      ∧ r.2.mem ((c.tc : Thread Cert.SelectIdeal.nD Cert.SelectIdeal.τ).loc Cert.SelectIdeal.main_arg3) = m ((c.tc : Thread Cert.SelectIdeal.nD Cert.SelectIdeal.τ).loc Cert.SelectIdeal.main_arg3)
      ∧ r.2.mem ((c.tc : Thread Cert.SelectIdeal.nD Cert.SelectIdeal.τ).loc Cert.SelectIdeal.main_arg4) = m ((c.tc : Thread Cert.SelectIdeal.nD Cert.SelectIdeal.τ).loc Cert.SelectIdeal.main_arg4))
      ∧ r.2.sem = fun _ => 0)

def quiescent_SelectReferenceIdeal [hSelectReferenceIdeal : Cert.SelectReferenceIdeal.Facts] : Prop :=
  ∀ (m : (ℓ : Loc Cert.SelectReferenceIdeal.nD Cert.SelectReferenceIdeal.τ Cert.SelectReferenceIdeal.sig) → Buf (Elt Ideal) ℓ) (g : Dev Cert.SelectReferenceIdeal.nD → PrngReg), Pre_SelectReferenceIdeal m →
    θ_run (Cert.SelectReferenceIdeal.defs (F := Ideal)) (onTc (τ := Cert.SelectReferenceIdeal.τ) (Cert.SelectReferenceIdeal.main (F := Ideal))) ⟨m, fun _ => 0, g⟩ (fun r => (∀ c : Dev Cert.SelectReferenceIdeal.nD,
      r.2.mem ((c.tc : Thread Cert.SelectReferenceIdeal.nD Cert.SelectReferenceIdeal.τ).loc Cert.SelectReferenceIdeal.main_arg0) = m ((c.tc : Thread Cert.SelectReferenceIdeal.nD Cert.SelectReferenceIdeal.τ).loc Cert.SelectReferenceIdeal.main_arg0)
      ∧ r.2.mem ((c.tc : Thread Cert.SelectReferenceIdeal.nD Cert.SelectReferenceIdeal.τ).loc Cert.SelectReferenceIdeal.main_arg1) = m ((c.tc : Thread Cert.SelectReferenceIdeal.nD Cert.SelectReferenceIdeal.τ).loc Cert.SelectReferenceIdeal.main_arg1)
      ∧ r.2.mem ((c.tc : Thread Cert.SelectReferenceIdeal.nD Cert.SelectReferenceIdeal.τ).loc Cert.SelectReferenceIdeal.main_arg2) = m ((c.tc : Thread Cert.SelectReferenceIdeal.nD Cert.SelectReferenceIdeal.τ).loc Cert.SelectReferenceIdeal.main_arg2)
      ∧ r.2.mem ((c.tc : Thread Cert.SelectReferenceIdeal.nD Cert.SelectReferenceIdeal.τ).loc Cert.SelectReferenceIdeal.main_arg3) = m ((c.tc : Thread Cert.SelectReferenceIdeal.nD Cert.SelectReferenceIdeal.τ).loc Cert.SelectReferenceIdeal.main_arg3)
      ∧ r.2.mem ((c.tc : Thread Cert.SelectReferenceIdeal.nD Cert.SelectReferenceIdeal.τ).loc Cert.SelectReferenceIdeal.main_arg4) = m ((c.tc : Thread Cert.SelectReferenceIdeal.nD Cert.SelectReferenceIdeal.τ).loc Cert.SelectReferenceIdeal.main_arg4))
      ∧ r.2.sem = fun _ => 0)

def quiescent_SelectReferenceIdeal_pre_drawn [hSelectReferenceIdeal : Cert.SelectReferenceIdeal.Facts] [hPre_drawn : Cert.Pre_drawn.Facts] : Prop :=
  ∀ (m : (ℓ : Loc Cert.SelectReferenceIdeal.nD Cert.SelectReferenceIdeal.τ Cert.SelectReferenceIdeal.sig) → Buf (Elt Ideal) ℓ) (g : Dev Cert.SelectReferenceIdeal.nD → PrngReg), Pre_SelectReferenceIdeal_drawn m →
    θ_run (Cert.SelectReferenceIdeal.defs (F := Ideal)) (onTc (τ := Cert.SelectReferenceIdeal.τ) (Cert.SelectReferenceIdeal.main (F := Ideal))) ⟨m, fun _ => 0, g⟩ (fun r => (∀ c : Dev Cert.SelectReferenceIdeal.nD,
      r.2.mem ((c.tc : Thread Cert.SelectReferenceIdeal.nD Cert.SelectReferenceIdeal.τ).loc Cert.SelectReferenceIdeal.main_arg0) = m ((c.tc : Thread Cert.SelectReferenceIdeal.nD Cert.SelectReferenceIdeal.τ).loc Cert.SelectReferenceIdeal.main_arg0)
      ∧ r.2.mem ((c.tc : Thread Cert.SelectReferenceIdeal.nD Cert.SelectReferenceIdeal.τ).loc Cert.SelectReferenceIdeal.main_arg1) = m ((c.tc : Thread Cert.SelectReferenceIdeal.nD Cert.SelectReferenceIdeal.τ).loc Cert.SelectReferenceIdeal.main_arg1)
      ∧ r.2.mem ((c.tc : Thread Cert.SelectReferenceIdeal.nD Cert.SelectReferenceIdeal.τ).loc Cert.SelectReferenceIdeal.main_arg2) = m ((c.tc : Thread Cert.SelectReferenceIdeal.nD Cert.SelectReferenceIdeal.τ).loc Cert.SelectReferenceIdeal.main_arg2)
      ∧ r.2.mem ((c.tc : Thread Cert.SelectReferenceIdeal.nD Cert.SelectReferenceIdeal.τ).loc Cert.SelectReferenceIdeal.main_arg3) = m ((c.tc : Thread Cert.SelectReferenceIdeal.nD Cert.SelectReferenceIdeal.τ).loc Cert.SelectReferenceIdeal.main_arg3)
      ∧ r.2.mem ((c.tc : Thread Cert.SelectReferenceIdeal.nD Cert.SelectReferenceIdeal.τ).loc Cert.SelectReferenceIdeal.main_arg4) = m ((c.tc : Thread Cert.SelectReferenceIdeal.nD Cert.SelectReferenceIdeal.τ).loc Cert.SelectReferenceIdeal.main_arg4))
      ∧ r.2.sem = fun _ => 0)

def preserves_Score_ScoreIdeal : Prop :=
  True

def algebraic_ScoreIdeal_ScoreReferenceIdeal_on_rows_scored [hScoreIdeal : Cert.ScoreIdeal.Facts] [hScoreReferenceIdeal : Cert.ScoreReferenceIdeal.Facts] [hOn_rows_scored : Cert.On_rows_scored.Facts] : Prop :=
  ∀ (m : (ℓ : Loc Cert.ScoreIdeal.nD Cert.ScoreIdeal.τ Cert.ScoreIdeal.sig) → Buf (Elt Ideal) ℓ) (g : Dev Cert.ScoreIdeal.nD → PrngReg)
    (m' : (ℓ : Loc Cert.ScoreReferenceIdeal.nD Cert.ScoreReferenceIdeal.τ Cert.ScoreReferenceIdeal.sig) → Buf (Elt Ideal) ℓ) (g' : Dev Cert.ScoreReferenceIdeal.nD → PrngReg), Pre_ScoreIdeal m →
    (∀ c : Dev Cert.ScoreIdeal.nD,
      m' ((c.tc : Thread Cert.ScoreReferenceIdeal.nD Cert.ScoreReferenceIdeal.τ).loc Cert.ScoreReferenceIdeal.main_arg0) = m ((c.tc : Thread Cert.ScoreIdeal.nD Cert.ScoreIdeal.τ).loc Cert.ScoreIdeal.main_arg0)
      ∧ m' ((c.tc : Thread Cert.ScoreReferenceIdeal.nD Cert.ScoreReferenceIdeal.τ).loc Cert.ScoreReferenceIdeal.main_arg1) = m ((c.tc : Thread Cert.ScoreIdeal.nD Cert.ScoreIdeal.τ).loc Cert.ScoreIdeal.main_arg1)
      ∧ m' ((c.tc : Thread Cert.ScoreReferenceIdeal.nD Cert.ScoreReferenceIdeal.τ).loc Cert.ScoreReferenceIdeal.main_arg2) = m ((c.tc : Thread Cert.ScoreIdeal.nD Cert.ScoreIdeal.τ).loc Cert.ScoreIdeal.main_arg2)) →
    ∃ (v0 : (c : Dev Cert.ScoreIdeal.nD) → Buf (Elt Ideal) ((c.tc : Thread Cert.ScoreIdeal.nD Cert.ScoreIdeal.τ).loc Cert.ScoreIdeal.main_v2)),
      θ_run (Cert.ScoreIdeal.defs (F := Ideal)) (onTc (τ := Cert.ScoreIdeal.τ) (Cert.ScoreIdeal.main (F := Ideal))) ⟨m, fun _ => 0, g⟩ (fun r => ∀ c : Dev Cert.ScoreIdeal.nD,
          (∀ i : (⟨3, ![16, 2097152, 128]⟩ : Shape).Idx, (Cert.On_rows_scored.fn (F := Ideal) (m ((c.tc : Thread Cert.ScoreIdeal.nD Cert.ScoreIdeal.τ).loc Cert.ScoreIdeal.main_arg0)) (m ((c.tc : Thread Cert.ScoreIdeal.nD Cert.ScoreIdeal.τ).loc Cert.ScoreIdeal.main_arg1)) (m ((c.tc : Thread Cert.ScoreIdeal.nD Cert.ScoreIdeal.τ).loc Cert.ScoreIdeal.main_arg2))) i = 1#1 → r.2.mem ((c.tc : Thread Cert.ScoreIdeal.nD Cert.ScoreIdeal.τ).loc Cert.ScoreIdeal.main_v2) i = v0 c i)
          ∧ r.2.mem ((c.tc : Thread Cert.ScoreIdeal.nD Cert.ScoreIdeal.τ).loc Cert.ScoreIdeal.main_arg0) = m ((c.tc : Thread Cert.ScoreIdeal.nD Cert.ScoreIdeal.τ).loc Cert.ScoreIdeal.main_arg0)
          ∧ r.2.mem ((c.tc : Thread Cert.ScoreIdeal.nD Cert.ScoreIdeal.τ).loc Cert.ScoreIdeal.main_arg1) = m ((c.tc : Thread Cert.ScoreIdeal.nD Cert.ScoreIdeal.τ).loc Cert.ScoreIdeal.main_arg1)
          ∧ r.2.mem ((c.tc : Thread Cert.ScoreIdeal.nD Cert.ScoreIdeal.τ).loc Cert.ScoreIdeal.main_arg2) = m ((c.tc : Thread Cert.ScoreIdeal.nD Cert.ScoreIdeal.τ).loc Cert.ScoreIdeal.main_arg2))
      ∧ θ_run (Cert.ScoreReferenceIdeal.defs (F := Ideal)) (onTc (τ := Cert.ScoreReferenceIdeal.τ) (Cert.ScoreReferenceIdeal.main (F := Ideal))) ⟨m', fun _ => 0, g'⟩ (fun r => ∀ c : Dev Cert.ScoreReferenceIdeal.nD,
          (∀ i : (⟨3, ![16, 2097152, 128]⟩ : Shape).Idx, (Cert.On_rows_scored.fn (F := Ideal) (m ((c.tc : Thread Cert.ScoreIdeal.nD Cert.ScoreIdeal.τ).loc Cert.ScoreIdeal.main_arg0)) (m ((c.tc : Thread Cert.ScoreIdeal.nD Cert.ScoreIdeal.τ).loc Cert.ScoreIdeal.main_arg1)) (m ((c.tc : Thread Cert.ScoreIdeal.nD Cert.ScoreIdeal.τ).loc Cert.ScoreIdeal.main_arg2))) i = 1#1 → r.2.mem ((c.tc : Thread Cert.ScoreReferenceIdeal.nD Cert.ScoreReferenceIdeal.τ).loc Cert.ScoreReferenceIdeal.main_v32) i = v0 c i)
          ∧ r.2.mem ((c.tc : Thread Cert.ScoreReferenceIdeal.nD Cert.ScoreReferenceIdeal.τ).loc Cert.ScoreReferenceIdeal.main_arg0) = m' ((c.tc : Thread Cert.ScoreReferenceIdeal.nD Cert.ScoreReferenceIdeal.τ).loc Cert.ScoreReferenceIdeal.main_arg0)
          ∧ r.2.mem ((c.tc : Thread Cert.ScoreReferenceIdeal.nD Cert.ScoreReferenceIdeal.τ).loc Cert.ScoreReferenceIdeal.main_arg1) = m' ((c.tc : Thread Cert.ScoreReferenceIdeal.nD Cert.ScoreReferenceIdeal.τ).loc Cert.ScoreReferenceIdeal.main_arg1)
          ∧ r.2.mem ((c.tc : Thread Cert.ScoreReferenceIdeal.nD Cert.ScoreReferenceIdeal.τ).loc Cert.ScoreReferenceIdeal.main_arg2) = m' ((c.tc : Thread Cert.ScoreReferenceIdeal.nD Cert.ScoreReferenceIdeal.τ).loc Cert.ScoreReferenceIdeal.main_arg2))

def preserves_Select_SelectIdeal : Prop :=
  True

def algebraic_SelectIdeal_SelectReferenceIdeal_pre_drawn [hSelectIdeal : Cert.SelectIdeal.Facts] [hSelectReferenceIdeal : Cert.SelectReferenceIdeal.Facts] [hPre_drawn : Cert.Pre_drawn.Facts] : Prop :=
  ∀ (m : (ℓ : Loc Cert.SelectIdeal.nD Cert.SelectIdeal.τ Cert.SelectIdeal.sig) → Buf (Elt Ideal) ℓ) (g : Dev Cert.SelectIdeal.nD → PrngReg)
    (m' : (ℓ : Loc Cert.SelectReferenceIdeal.nD Cert.SelectReferenceIdeal.τ Cert.SelectReferenceIdeal.sig) → Buf (Elt Ideal) ℓ) (g' : Dev Cert.SelectReferenceIdeal.nD → PrngReg), Pre_SelectIdeal_drawn m →
    (∀ c : Dev Cert.SelectIdeal.nD,
      m' ((c.tc : Thread Cert.SelectReferenceIdeal.nD Cert.SelectReferenceIdeal.τ).loc Cert.SelectReferenceIdeal.main_arg0) = m ((c.tc : Thread Cert.SelectIdeal.nD Cert.SelectIdeal.τ).loc Cert.SelectIdeal.main_arg0)
      ∧ m' ((c.tc : Thread Cert.SelectReferenceIdeal.nD Cert.SelectReferenceIdeal.τ).loc Cert.SelectReferenceIdeal.main_arg1) = m ((c.tc : Thread Cert.SelectIdeal.nD Cert.SelectIdeal.τ).loc Cert.SelectIdeal.main_arg1)
      ∧ m' ((c.tc : Thread Cert.SelectReferenceIdeal.nD Cert.SelectReferenceIdeal.τ).loc Cert.SelectReferenceIdeal.main_arg2) = m ((c.tc : Thread Cert.SelectIdeal.nD Cert.SelectIdeal.τ).loc Cert.SelectIdeal.main_arg2)
      ∧ m' ((c.tc : Thread Cert.SelectReferenceIdeal.nD Cert.SelectReferenceIdeal.τ).loc Cert.SelectReferenceIdeal.main_arg3) = m ((c.tc : Thread Cert.SelectIdeal.nD Cert.SelectIdeal.τ).loc Cert.SelectIdeal.main_arg3)
      ∧ m' ((c.tc : Thread Cert.SelectReferenceIdeal.nD Cert.SelectReferenceIdeal.τ).loc Cert.SelectReferenceIdeal.main_arg4) = m ((c.tc : Thread Cert.SelectIdeal.nD Cert.SelectIdeal.τ).loc Cert.SelectIdeal.main_arg4)) →
    ∃ (v0 : (c : Dev Cert.SelectIdeal.nD) → Buf (Elt Ideal) ((c.tc : Thread Cert.SelectIdeal.nD Cert.SelectIdeal.τ).loc Cert.SelectIdeal.main_v116)) (v1 : (c : Dev Cert.SelectIdeal.nD) → Buf (Elt Ideal) ((c.tc : Thread Cert.SelectIdeal.nD Cert.SelectIdeal.τ).loc Cert.SelectIdeal.main_v121)),
      θ_run (Cert.SelectIdeal.defs (F := Ideal)) (onTc (τ := Cert.SelectIdeal.τ) (Cert.SelectIdeal.main (F := Ideal))) ⟨m, fun _ => 0, g⟩ (fun r => ∀ c : Dev Cert.SelectIdeal.nD,
          r.2.mem ((c.tc : Thread Cert.SelectIdeal.nD Cert.SelectIdeal.τ).loc Cert.SelectIdeal.main_v116) = v0 c
          ∧ r.2.mem ((c.tc : Thread Cert.SelectIdeal.nD Cert.SelectIdeal.τ).loc Cert.SelectIdeal.main_v121) = v1 c
          ∧ r.2.mem ((c.tc : Thread Cert.SelectIdeal.nD Cert.SelectIdeal.τ).loc Cert.SelectIdeal.main_arg0) = m ((c.tc : Thread Cert.SelectIdeal.nD Cert.SelectIdeal.τ).loc Cert.SelectIdeal.main_arg0)
          ∧ r.2.mem ((c.tc : Thread Cert.SelectIdeal.nD Cert.SelectIdeal.τ).loc Cert.SelectIdeal.main_arg1) = m ((c.tc : Thread Cert.SelectIdeal.nD Cert.SelectIdeal.τ).loc Cert.SelectIdeal.main_arg1)
          ∧ r.2.mem ((c.tc : Thread Cert.SelectIdeal.nD Cert.SelectIdeal.τ).loc Cert.SelectIdeal.main_arg2) = m ((c.tc : Thread Cert.SelectIdeal.nD Cert.SelectIdeal.τ).loc Cert.SelectIdeal.main_arg2)
          ∧ r.2.mem ((c.tc : Thread Cert.SelectIdeal.nD Cert.SelectIdeal.τ).loc Cert.SelectIdeal.main_arg3) = m ((c.tc : Thread Cert.SelectIdeal.nD Cert.SelectIdeal.τ).loc Cert.SelectIdeal.main_arg3)
          ∧ r.2.mem ((c.tc : Thread Cert.SelectIdeal.nD Cert.SelectIdeal.τ).loc Cert.SelectIdeal.main_arg4) = m ((c.tc : Thread Cert.SelectIdeal.nD Cert.SelectIdeal.τ).loc Cert.SelectIdeal.main_arg4))
      ∧ θ_run (Cert.SelectReferenceIdeal.defs (F := Ideal)) (onTc (τ := Cert.SelectReferenceIdeal.τ) (Cert.SelectReferenceIdeal.main (F := Ideal))) ⟨m', fun _ => 0, g'⟩ (fun r => ∀ c : Dev Cert.SelectReferenceIdeal.nD,
          r.2.mem ((c.tc : Thread Cert.SelectReferenceIdeal.nD Cert.SelectReferenceIdeal.τ).loc Cert.SelectReferenceIdeal.main_v149) = v0 c
          ∧ r.2.mem ((c.tc : Thread Cert.SelectReferenceIdeal.nD Cert.SelectReferenceIdeal.τ).loc Cert.SelectReferenceIdeal.main_v153) = v1 c
          ∧ r.2.mem ((c.tc : Thread Cert.SelectReferenceIdeal.nD Cert.SelectReferenceIdeal.τ).loc Cert.SelectReferenceIdeal.main_arg0) = m' ((c.tc : Thread Cert.SelectReferenceIdeal.nD Cert.SelectReferenceIdeal.τ).loc Cert.SelectReferenceIdeal.main_arg0)
          ∧ r.2.mem ((c.tc : Thread Cert.SelectReferenceIdeal.nD Cert.SelectReferenceIdeal.τ).loc Cert.SelectReferenceIdeal.main_arg1) = m' ((c.tc : Thread Cert.SelectReferenceIdeal.nD Cert.SelectReferenceIdeal.τ).loc Cert.SelectReferenceIdeal.main_arg1)
          ∧ r.2.mem ((c.tc : Thread Cert.SelectReferenceIdeal.nD Cert.SelectReferenceIdeal.τ).loc Cert.SelectReferenceIdeal.main_arg2) = m' ((c.tc : Thread Cert.SelectReferenceIdeal.nD Cert.SelectReferenceIdeal.τ).loc Cert.SelectReferenceIdeal.main_arg2)
          ∧ r.2.mem ((c.tc : Thread Cert.SelectReferenceIdeal.nD Cert.SelectReferenceIdeal.τ).loc Cert.SelectReferenceIdeal.main_arg3) = m' ((c.tc : Thread Cert.SelectReferenceIdeal.nD Cert.SelectReferenceIdeal.τ).loc Cert.SelectReferenceIdeal.main_arg3)
          ∧ r.2.mem ((c.tc : Thread Cert.SelectReferenceIdeal.nD Cert.SelectReferenceIdeal.τ).loc Cert.SelectReferenceIdeal.main_arg4) = m' ((c.tc : Thread Cert.SelectReferenceIdeal.nD Cert.SelectReferenceIdeal.τ).loc Cert.SelectReferenceIdeal.main_arg4))

def Claim : Prop :=
  ∃ (hScore : Cert.Score.Facts) (hScoreIdeal : Cert.ScoreIdeal.Facts) (hScoreReferenceIdeal : Cert.ScoreReferenceIdeal.Facts) (hSelect : Cert.Select.Facts) (hSelectIdeal : Cert.SelectIdeal.Facts) (hSelectReferenceIdeal : Cert.SelectReferenceIdeal.Facts) (hPre_drawn : Cert.Pre_drawn.Facts) (hOn_rows_scored : Cert.On_rows_scored.Facts),
    quiescent_Score (hScore := hScore)
    ∧ quiescent_ScoreIdeal (hScoreIdeal := hScoreIdeal)
    ∧ quiescent_ScoreReferenceIdeal (hScoreReferenceIdeal := hScoreReferenceIdeal)
    ∧ quiescent_Select (hSelect := hSelect)
    ∧ quiescent_SelectIdeal (hSelectIdeal := hSelectIdeal)
    ∧ quiescent_SelectIdeal_pre_drawn (hSelectIdeal := hSelectIdeal) (hPre_drawn := hPre_drawn)
    ∧ quiescent_SelectReferenceIdeal (hSelectReferenceIdeal := hSelectReferenceIdeal)
    ∧ quiescent_SelectReferenceIdeal_pre_drawn (hSelectReferenceIdeal := hSelectReferenceIdeal) (hPre_drawn := hPre_drawn)
    ∧ preserves_Score_ScoreIdeal
    ∧ algebraic_ScoreIdeal_ScoreReferenceIdeal_on_rows_scored (hScoreIdeal := hScoreIdeal) (hScoreReferenceIdeal := hScoreReferenceIdeal) (hOn_rows_scored := hOn_rows_scored)
    ∧ preserves_Select_SelectIdeal
    ∧ algebraic_SelectIdeal_SelectReferenceIdeal_pre_drawn (hSelectIdeal := hSelectIdeal) (hSelectReferenceIdeal := hSelectReferenceIdeal) (hPre_drawn := hPre_drawn)
-- ==== On_rows_scored.lean ====
abbrev S2097152x11 : Shape := ⟨2, ![2097152, 11]⟩
abbrev S2097152x1 : Shape := ⟨2, ![2097152, 1]⟩
abbrev S2097152 : Shape := ⟨1, ![2097152]⟩
abbrev S1x2097152x1 : Shape := ⟨3, ![1, 2097152, 1]⟩
abbrev S_ : Shape := ⟨0, ![]⟩
abbrev S16x2097152x128 : Shape := ⟨3, ![16, 2097152, 128]⟩

class Facts : Prop where
  bcast_S2097152_S1x2097152x1_1 : S2097152.BroadcastsInDim S1x2097152x1 (![1] : Fin 1 → Fin S1x2097152x1.rank)
  bcast_S_S1x2097152x1 : S_.BroadcastsInDim S1x2097152x1 (![] : Fin 0 → Fin S1x2097152x1.rank)
  bcast_S1x2097152x1_S16x2097152x128_0_1_2 : S1x2097152x1.BroadcastsInDim S16x2097152x128 (![0, 1, 2] : Fin 3 → Fin S16x2097152x128.rank)

variable [Facts]

def fn {F : FTy → Type} [FloatOps F] (main_arg0 : FVec F S2097152x11 .f32) (main_arg1 : FVec F S2097152x1 .f32) (main_arg2 : IVec S2097152 32) : IVec S16x2097152x128 1 :=
  let main_v0 : IVec S2097152 32 := iotaInDim S2097152 32 0
  let main_v1 : IVec S1x2097152x1 32 := broadcastInDim S1x2097152x1 ![1] bcast_S2097152_S1x2097152x1_1 main_v0
  let main_c : IVec S_ 32 := constantI S_ 32 2096000#32
  let main_v2 : IVec S1x2097152x1 32 := broadcastInDim S1x2097152x1 ![] bcast_S_S1x2097152x1 main_c
  let main_v3 : IVec S1x2097152x1 1 := cmpi .slt main_v1 main_v2
  let main_v4 : IVec S16x2097152x128 1 := broadcastInDim S16x2097152x128 ![0, 1, 2] bcast_S1x2097152x1_S16x2097152x128_0_1_2 main_v3
  main_v4
-- ==== Pre_drawn.lean ====
abbrev S16x2097152x128 : Shape := ⟨3, ![16, 2097152, 128]⟩
abbrev S2097152x2 : Shape := ⟨2, ![2097152, 2]⟩
abbrev S2097152 : Shape := ⟨1, ![2097152]⟩
abbrev S2097152x4 : Shape := ⟨2, ![2097152, 4]⟩
abbrev S16x2 : Shape := ⟨2, ![16, 2]⟩
abbrev S_ : Shape := ⟨0, ![]⟩

class Facts : Prop where
  bcast_S_S2097152x4 : S_.BroadcastsInDim S2097152x4 (![] : Fin 0 → Fin S2097152x4.rank)
  reducesTo_S2097152x4_S_d0_1 : S2097152x4.ReducesTo [0, 1] S_
  h_S_ : 0 < S_.numel
  bcast_S_S16x2 : S_.BroadcastsInDim S16x2 (![] : Fin 0 → Fin S16x2.rank)
  reducesTo_S16x2_S_d0_1 : S16x2.ReducesTo [0, 1] S_

variable [Facts]

def fn {F : FTy → Type} [FloatOps F] (main_arg0 : FVec F S16x2097152x128 .f32) (main_arg1 : FVec F S2097152x2 .f32) (main_arg2 : IVec S2097152 32) (main_arg3 : FVec F S2097152x4 .f32) (main_arg4 : IVec S16x2 32) : IVec S_ 1 :=
  let main_cst : FVec F S_ .f32 := constant S_ .f32 0x00000000#32
  let main_v0 : FVec F S2097152x4 .f32 := broadcastInDim S2097152x4 ![] bcast_S_S2097152x4 main_cst
  let main_v1 : IVec S2097152x4 1 := cmpf .oge main_arg3 main_v0
  let main_c : IVec S_ 1 := constantI S_ 1 1#1
  let main_v2 : IVec S_ 1 := (fun x v => Host.reduce IntOp.andi x v reducesTo_S2097152x4_S_d0_1 h_S_) main_v1 main_c
  let main_c_0 : IVec S_ 32 := constantI S_ 32 1#32
  let main_v3 : IVec S16x2 32 := broadcastInDim S16x2 ![] bcast_S_S16x2 main_c_0
  let main_v4 : IVec S16x2 1 := cmpi .sge main_arg4 main_v3
  let main_c_1 : IVec S_ 1 := constantI S_ 1 1#1
  let main_v5 : IVec S_ 1 := (fun x v => Host.reduce IntOp.andi x v reducesTo_S16x2_S_d0_1 h_S_) main_v4 main_c_1
  let main_v6 : IVec S_ 1 := andi main_v2 main_v5
  main_v6
-- ==== Score.lean ====
abbrev S2097152x11 : Shape := ⟨2, ![2097152, 11]⟩
abbrev S2097152x1 : Shape := ⟨2, ![2097152, 1]⟩
abbrev S2097152 : Shape := ⟨1, ![2097152]⟩
abbrev S_ : Shape := ⟨0, ![]⟩
abbrev S2097152x128 : Shape := ⟨2, ![2097152, 128]⟩
abbrev S16x2097152x128 : Shape := ⟨3, ![16, 2097152, 128]⟩
abbrev S2000x128 : Shape := ⟨2, ![2000, 128]⟩
abbrev S2000x1 : Shape := ⟨2, ![2000, 1]⟩
abbrev S1x2000x128 : Shape := ⟨3, ![1, 2000, 128]⟩

abbrev nBuf : Space → Nat
  | .hbm => 8
  | .vmem => 8
  | .smem => 0
  | _ => 0

abbrev bufTy : (tb : Table) → Fin (tcTables nBuf tb) → BufTy
  | .hbm, ⟨0, _⟩ => ⟨S2097152x11, .f32⟩
  | .hbm, ⟨1, _⟩ => ⟨S2097152x1, .f32⟩
  | .hbm, ⟨2, _⟩ => ⟨S2097152, .i32⟩
  | .hbm, ⟨3, _⟩ => ⟨S_, .f32⟩
  | .hbm, ⟨4, _⟩ => ⟨S_, .f32⟩
  | .hbm, ⟨5, _⟩ => ⟨S2097152x128, .f32⟩
  | .hbm, ⟨6, _⟩ => ⟨S2097152x1, .i32⟩
  | .hbm, ⟨7, _⟩ => ⟨S16x2097152x128, .f32⟩
  | .local _ .vmem, ⟨0, _⟩ => ⟨S2000x128, .f32⟩
  | .local _ .vmem, ⟨1, _⟩ => ⟨S2000x128, .f32⟩
  | .local _ .vmem, ⟨2, _⟩ => ⟨S2000x1, .f32⟩
  | .local _ .vmem, ⟨3, _⟩ => ⟨S2000x1, .f32⟩
  | .local _ .vmem, ⟨4, _⟩ => ⟨S2000x1, .i32⟩
  | .local _ .vmem, ⟨5, _⟩ => ⟨S2000x1, .i32⟩
  | .local _ .vmem, ⟨6, _⟩ => ⟨S1x2000x128, .f32⟩
  | .local _ .vmem, ⟨7, _⟩ => ⟨S1x2000x128, .f32⟩
  | _, _ => ⟨S2097152x11, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 1048], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2000x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ScoreReferenceIdeal.lean ====
abbrev S2097152x11 : Shape := ⟨2, ![2097152, 11]⟩
abbrev S2097152x1 : Shape := ⟨2, ![2097152, 1]⟩
abbrev S2097152 : Shape := ⟨1, ![2097152]⟩
abbrev S_ : Shape := ⟨0, ![]⟩
abbrev S1 : Shape := ⟨1, ![1]⟩
abbrev S1x2097152x1 : Shape := ⟨3, ![1, 2097152, 1]⟩
abbrev S16 : Shape := ⟨1, ![16]⟩
abbrev S16x1x1 : Shape := ⟨3, ![16, 1, 1]⟩
abbrev S16x2097152x1 : Shape := ⟨3, ![16, 2097152, 1]⟩
abbrev S1x2097152x11 : Shape := ⟨3, ![1, 2097152, 11]⟩
abbrev S16x2097152x11 : Shape := ⟨3, ![16, 2097152, 11]⟩
abbrev S16x2097152x128 : Shape := ⟨3, ![16, 2097152, 128]⟩

abbrev nBuf : Space → Nat
  | .hbm => 49
  | .vmem => 0
  | .smem => 0
  | _ => 0

abbrev bufTy : (tb : Table) → Fin (tcTables nBuf tb) → BufTy
  | .hbm, ⟨0, _⟩ => ⟨S2097152x11, .f32⟩
  | .hbm, ⟨1, _⟩ => ⟨S2097152x1, .f32⟩
  | .hbm, ⟨2, _⟩ => ⟨S2097152, .i32⟩
  | .hbm, ⟨3, _⟩ => ⟨S2097152x11, .f32⟩
  | .hbm, ⟨4, _⟩ => ⟨S2097152x11, .f32⟩
  | .hbm, ⟨5, _⟩ => ⟨S_, .f32⟩
  | .hbm, ⟨6, _⟩ => ⟨S2097152x11, .f32⟩
  | .hbm, ⟨7, _⟩ => ⟨S2097152x11, .f32⟩
  | .hbm, ⟨8, _⟩ => ⟨S_, .f32⟩
  | .hbm, ⟨9, _⟩ => ⟨S2097152x11, .f32⟩
  | .hbm, ⟨10, _⟩ => ⟨S2097152x11, .f32⟩
  | .hbm, ⟨11, _⟩ => ⟨S2097152x1, .f32⟩
  | .hbm, ⟨12, _⟩ => ⟨S2097152x1, .f32⟩
  | .hbm, ⟨13, _⟩ => ⟨S_, .f32⟩
  | .hbm, ⟨14, _⟩ => ⟨S2097152x1, .f32⟩
  | .hbm, ⟨15, _⟩ => ⟨S2097152x1, .f32⟩
  | .hbm, ⟨16, _⟩ => ⟨S_, .f32⟩
  | .hbm, ⟨17, _⟩ => ⟨S2097152x1, .f32⟩
  | .hbm, ⟨18, _⟩ => ⟨S2097152x1, .f32⟩
  | .hbm, ⟨19, _⟩ => ⟨S2097152x11, .f32⟩
  | .hbm, ⟨20, _⟩ => ⟨S2097152x11, .f32⟩
  | .hbm, ⟨21, _⟩ => ⟨S_, .i32⟩
  | .hbm, ⟨22, _⟩ => ⟨S1, .i32⟩
  | .hbm, ⟨23, _⟩ => ⟨S_, .f32⟩
  | .hbm, ⟨24, _⟩ => ⟨S2097152, .f32⟩
  | .hbm, ⟨25, _⟩ => ⟨S2097152x11, .f32⟩
  | .hbm, ⟨26, _⟩ => ⟨S1x2097152x1, .i32⟩
  | .hbm, ⟨27, _⟩ => ⟨S16, .i32⟩
  | .hbm, ⟨28, _⟩ => ⟨S16x1x1, .i32⟩
  | .hbm, ⟨29, _⟩ => ⟨S16x2097152x1, .i32⟩
  | .hbm, ⟨30, _⟩ => ⟨S16x2097152x1, .i32⟩
  | .hbm, ⟨31, _⟩ => ⟨S16x2097152x1, .i1⟩
  | .hbm, ⟨32, _⟩ => ⟨S_, .f32⟩
  | .hbm, ⟨33, _⟩ => ⟨S2097152x11, .f32⟩
  | .hbm, ⟨34, _⟩ => ⟨S2097152x11, .i1⟩
  | .hbm, ⟨35, _⟩ => ⟨S1x2097152x11, .i1⟩
  | .hbm, ⟨36, _⟩ => ⟨S16x2097152x11, .i1⟩
  | .hbm, ⟨37, _⟩ => ⟨S16x2097152x11, .i1⟩
  | .hbm, ⟨38, _⟩ => ⟨S16x2097152x11, .i1⟩
  | .hbm, ⟨39, _⟩ => ⟨S2097152x11, .f32⟩
  | .hbm, ⟨40, _⟩ => ⟨S1x2097152x11, .f32⟩
  | .hbm, ⟨41, _⟩ => ⟨S_, .f32⟩
  | .hbm, ⟨42, _⟩ => ⟨S_, .f32⟩
  | .hbm, ⟨43, _⟩ => ⟨S16x2097152x11, .f32⟩
  | .hbm, ⟨44, _⟩ => ⟨S16x2097152x11, .f32⟩
  | .hbm, ⟨45, _⟩ => ⟨S16x2097152x11, .f32⟩
  | .hbm, ⟨46, _⟩ => ⟨S_, .f32⟩
  | .hbm, ⟨47, _⟩ => ⟨S_, .f32⟩
  | .hbm, ⟨48, _⟩ => ⟨S16x2097152x128, .f32⟩
  | _, _ => ⟨S2097152x11, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_5 : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_v31 : Ref sig .tc := ⟨.hbm, 45, rfl⟩
abbrev main_cst_6 : Ref sig .tc := ⟨.hbm, 46, rfl⟩
abbrev main_call1_v0 : Ref sig .tc := ⟨.hbm, 47, rfl⟩
abbrev main_v32 : Ref sig .tc := ⟨.hbm, 48, rfl⟩

abbrev nD : Nat := 1
abbrev τ : Topo := Topo.v7x

variable {F : FTy → Type} [FloatOps F]
-- ==== Select.lean ====
abbrev S16x2097152x128 : Shape := ⟨3, ![16, 2097152, 128]⟩
abbrev S2097152x2 : Shape := ⟨2, ![2097152, 2]⟩
abbrev S2097152 : Shape := ⟨1, ![2097152]⟩
abbrev S2097152x4 : Shape := ⟨2, ![2097152, 4]⟩
abbrev S16x2 : Shape := ⟨2, ![16, 2]⟩
abbrev S5 : Shape := ⟨1, ![5]⟩
abbrev S16x2097152x11 : Shape := ⟨3, ![16, 2097152, 11]⟩
abbrev S16x23068672 : Shape := ⟨2, ![16, 23068672]⟩
abbrev S16x1000 : Shape := ⟨2, ![16, 1000]⟩
abbrev S_ : Shape := ⟨0, ![]⟩
abbrev S2097152x1 : Shape := ⟨2, ![2097152, 1]⟩
abbrev S16x1000x1 : Shape := ⟨3, ![16, 1000, 1]⟩
abbrev S16x1000x2 : Shape := ⟨3, ![16, 1000, 2]⟩
abbrev S16x1024 : Shape := ⟨2, ![16, 1024]⟩
abbrev S16x1x1024 : Shape := ⟨3, ![16, 1, 1024]⟩
abbrev S16x1x128 : Shape := ⟨3, ![16, 1, 128]⟩
abbrev S16x1 : Shape := ⟨2, ![16, 1]⟩
abbrev S16 : Shape := ⟨1, ![16]⟩
abbrev S1 : Shape := ⟨1, ![1]⟩
abbrev S2 : Shape := ⟨1, ![2]⟩
abbrev S16x128x8 : Shape := ⟨3, ![16, 128, 8]⟩
abbrev S1x1x1024 : Shape := ⟨3, ![1, 1, 1024]⟩
abbrev S1x1x128 : Shape := ⟨3, ![1, 1, 128]⟩
abbrev S1x128x8 : Shape := ⟨3, ![1, 128, 8]⟩
abbrev S1x1024 : Shape := ⟨2, ![1, 1024]⟩
abbrev S1x1x1 : Shape := ⟨3, ![1, 1, 1]⟩
abbrev S1x1 : Shape := ⟨2, ![1, 1]⟩
abbrev S1x1023 : Shape := ⟨2, ![1, 1023]⟩
abbrev S1x2 : Shape := ⟨2, ![1, 2]⟩
abbrev S1x1022 : Shape := ⟨2, ![1, 1022]⟩
abbrev S1x4 : Shape := ⟨2, ![1, 4]⟩
abbrev S1x1020 : Shape := ⟨2, ![1, 1020]⟩
abbrev S1x8 : Shape := ⟨2, ![1, 8]⟩
abbrev S1x1016 : Shape := ⟨2, ![1, 1016]⟩
abbrev S1x16 : Shape := ⟨2, ![1, 16]⟩
abbrev S1x1008 : Shape := ⟨2, ![1, 1008]⟩
abbrev S1x32 : Shape := ⟨2, ![1, 32]⟩
abbrev S1x992 : Shape := ⟨2, ![1, 992]⟩
abbrev S1x64 : Shape := ⟨2, ![1, 64]⟩
abbrev S1x960 : Shape := ⟨2, ![1, 960]⟩
abbrev S1x128 : Shape := ⟨2, ![1, 128]⟩
abbrev S1x896 : Shape := ⟨2, ![1, 896]⟩
abbrev S1x256 : Shape := ⟨2, ![1, 256]⟩
abbrev S1x768 : Shape := ⟨2, ![1, 768]⟩
abbrev S1x512 : Shape := ⟨2, ![1, 512]⟩
abbrev S128x1024 : Shape := ⟨2, ![128, 1024]⟩
abbrev S2x1024 : Shape := ⟨2, ![2, 1024]⟩
abbrev S8x1024 : Shape := ⟨2, ![8, 1024]⟩
abbrev S128x8 : Shape := ⟨2, ![128, 8]⟩
abbrev S16x100x5 : Shape := ⟨3, ![16, 100, 5]⟩
abbrev S1600x5 : Shape := ⟨2, ![1600, 5]⟩
abbrev S16x100x1 : Shape := ⟨3, ![16, 100, 1]⟩
abbrev S16x100 : Shape := ⟨2, ![16, 100]⟩
abbrev S1600 : Shape := ⟨1, ![1600]⟩

abbrev nBuf : Space → Nat
  | .hbm => 210
  | .vmem => 20
  | .smem => 0
  | _ => 0

abbrev hbmTy0_0 (i : Nat) : BufTy := match i % 128 with
  | 0 => ⟨S16x2097152x128, .f32⟩
  | 1 => ⟨S2097152x2, .f32⟩
  | 2 => ⟨S2097152, .i32⟩
  | 3 => ⟨S2097152x4, .f32⟩
  | 4 => ⟨S16x2, .i32⟩
  | 5 => ⟨S5, .f32⟩
  | 6 => ⟨S16x2097152x11, .f32⟩
  | 7 => ⟨S16x23068672, .f32⟩
  | 8 => ⟨S16x1000, .f32⟩
  | 9 => ⟨S16x1000, .i32⟩
  | 10 => ⟨S_, .i32⟩
  | 11 => ⟨S_, .i32⟩
  | 12 => ⟨S16x1000, .i32⟩
  | 13 => ⟨S16x1000, .i32⟩
  | 14 => ⟨S16x1000, .i32⟩
  | 15 => ⟨S_, .i32⟩
  | 16 => ⟨S16x1000, .i32⟩
  | 17 => ⟨S16x1000, .i1⟩
  | 18 => ⟨S16x1000, .i32⟩
  | 19 => ⟨S16x1000, .i32⟩
  | 20 => ⟨S_, .i32⟩
  | 21 => ⟨S16x1000, .i32⟩
  | 22 => ⟨S16x1000, .i1⟩
  | 23 => ⟨S16x1000, .i1⟩
  | 24 => ⟨S_, .i32⟩
  | 25 => ⟨S16x1000, .i32⟩
  | 26 => ⟨S16x1000, .i32⟩
  | 27 => ⟨S16x1000, .i32⟩
  | 28 => ⟨S_, .i32⟩
  | 29 => ⟨S_, .i32⟩
  | 30 => ⟨S_, .i32⟩
  | 31 => ⟨S_, .i1⟩
  | 32 => ⟨S_, .i32⟩
  | 33 => ⟨S_, .i32⟩
  | 34 => ⟨S16x1000, .i32⟩
  | 35 => ⟨S16x1000, .i32⟩
  | 36 => ⟨S_, .i32⟩
  | 37 => ⟨S16x1000, .i32⟩
  | 38 => ⟨S16x1000, .i1⟩
  | 39 => ⟨S_, .i32⟩
  | 40 => ⟨S16x1000, .i32⟩
  | 41 => ⟨S16x1000, .i1⟩
  | 42 => ⟨S_, .i32⟩
  | 43 => ⟨S_, .i1⟩
  | 44 => ⟨S16x1000, .i1⟩
  | 45 => ⟨S16x1000, .i1⟩
  | 46 => ⟨S16x1000, .i1⟩
  | 47 => ⟨S16x1000, .i32⟩
  | 48 => ⟨S16x1000, .i32⟩
  | 49 => ⟨S16x1000, .i32⟩
  | 50 => ⟨S_, .i32⟩
  | 51 => ⟨S2097152, .i32⟩
  | 52 => ⟨S2097152, .i1⟩
  | 53 => ⟨S_, .i32⟩
  | 54 => ⟨S2097152, .i32⟩
  | 55 => ⟨S2097152, .i32⟩
  | 56 => ⟨S2097152, .i32⟩
  | 57 => ⟨S2097152x1, .i32⟩
  | 58 => ⟨S2097152, .f32⟩
  | 59 => ⟨S2097152x1, .f32⟩
  | 60 => ⟨S2097152x4, .f32⟩
  | 61 => ⟨S2097152x4, .f32⟩
  | 62 => ⟨S_, .i32⟩
  | 63 => ⟨S16x1000, .i32⟩
  | 64 => ⟨S16x1000, .i1⟩
  | 65 => ⟨S_, .i32⟩
  | 66 => ⟨S16x1000, .i32⟩
  | 67 => ⟨S16x1000, .i32⟩
  | 68 => ⟨S16x1000, .i32⟩
  | 69 => ⟨S_, .i32⟩
  | 70 => ⟨S16x1000, .i32⟩
  | 71 => ⟨S16x1000, .i32⟩
  | 72 => ⟨S16x1000x1, .i32⟩
  | 73 => ⟨S16x1000x1, .i32⟩
  | 74 => ⟨S16x1000x2, .i32⟩
  | 75 => ⟨S16x1000, .f32⟩
  | 76 => ⟨S_, .f32⟩
  | 77 => ⟨S_, .f32⟩
  | 78 => ⟨S16x1024, .f32⟩
  | 79 => ⟨S16x1x1024, .f32⟩
  | 80 => ⟨S_, .i32⟩
  | 81 => ⟨S16x1000, .i32⟩
  | 82 => ⟨S16x1000, .i1⟩
  | 83 => ⟨S_, .i32⟩
  | 84 => ⟨S16x1000, .i32⟩
  | 85 => ⟨S16x1000, .i32⟩
  | 86 => ⟨S16x1000, .i32⟩
  | 87 => ⟨S_, .i32⟩
  | 88 => ⟨S16x1000, .i32⟩
  | 89 => ⟨S16x1000, .i32⟩
  | 90 => ⟨S16x1000x1, .i32⟩
  | 91 => ⟨S16x1000x1, .i32⟩
  | 92 => ⟨S16x1000x2, .i32⟩
  | 93 => ⟨S16x1000, .f32⟩
  | 94 => ⟨S_, .f32⟩
  | 95 => ⟨S_, .f32⟩
  | 96 => ⟨S16x1024, .f32⟩
  | 97 => ⟨S16x1x1024, .f32⟩
  | 98 => ⟨S_, .i32⟩
  | 99 => ⟨S16x1000, .i32⟩
  | 100 => ⟨S16x1000, .i1⟩
  | 101 => ⟨S_, .i32⟩
  | 102 => ⟨S16x1000, .i32⟩
  | 103 => ⟨S16x1000, .i32⟩
  | 104 => ⟨S16x1000, .i32⟩
  | 105 => ⟨S_, .i32⟩
  | 106 => ⟨S16x1000, .i32⟩
  | 107 => ⟨S16x1000, .i32⟩
  | 108 => ⟨S16x1000x1, .i32⟩
  | 109 => ⟨S16x1000x1, .i32⟩
  | 110 => ⟨S16x1000x2, .i32⟩
  | 111 => ⟨S16x1000, .f32⟩
  | 112 => ⟨S_, .f32⟩
  | 113 => ⟨S_, .f32⟩
  | 114 => ⟨S16x1024, .f32⟩
  | 115 => ⟨S16x1x1024, .f32⟩
  | 116 => ⟨S_, .i32⟩
  | 117 => ⟨S16x1000, .i32⟩
  | 118 => ⟨S16x1000, .i1⟩
  | 119 => ⟨S_, .i32⟩
  | 120 => ⟨S16x1000, .i32⟩
  | 121 => ⟨S16x1000, .i32⟩
  | 122 => ⟨S16x1000, .i32⟩
  | 123 => ⟨S_, .i32⟩
  | 124 => ⟨S16x1000, .i32⟩
  | 125 => ⟨S16x1000, .i32⟩
  | 126 => ⟨S16x1000x1, .i32⟩
  | 127 => ⟨S16x1000x1, .i32⟩
  | _ => ⟨S16x2097152x128, .f32⟩

abbrev hbmTy0_1 (i : Nat) : BufTy := match i % 128 with
  | 0 => ⟨S16x1000x2, .i32⟩
  | 1 => ⟨S16x1000, .f32⟩
  | 2 => ⟨S_, .f32⟩
  | 3 => ⟨S_, .f32⟩
  | 4 => ⟨S16x1024, .f32⟩
  | 5 => ⟨S16x1x1024, .f32⟩
  | 6 => ⟨S_, .i32⟩
  | 7 => ⟨S16x1000, .i32⟩
  | 8 => ⟨S16x1000, .i1⟩
  | 9 => ⟨S_, .i32⟩
  | 10 => ⟨S16x1000, .i32⟩
  | 11 => ⟨S16x1000, .i32⟩
  | 12 => ⟨S16x1000, .i32⟩
  | 13 => ⟨S_, .i32⟩
  | 14 => ⟨S16x1000, .i32⟩
  | 15 => ⟨S16x1000, .i32⟩
  | 16 => ⟨S16x1000x1, .i32⟩
  | 17 => ⟨S16x1000x1, .i32⟩
  | 18 => ⟨S16x1000x2, .i32⟩
  | 19 => ⟨S16x1000, .f32⟩
  | 20 => ⟨S_, .f32⟩
  | 21 => ⟨S_, .f32⟩
  | 22 => ⟨S16x1024, .f32⟩
  | 23 => ⟨S16x1x1024, .f32⟩
  | 24 => ⟨S_, .i32⟩
  | 25 => ⟨S16x1000, .i32⟩
  | 26 => ⟨S16x1000, .i1⟩
  | 27 => ⟨S_, .i32⟩
  | 28 => ⟨S16x1000, .i32⟩
  | 29 => ⟨S16x1000, .i32⟩
  | 30 => ⟨S16x1000, .i32⟩
  | 31 => ⟨S_, .i32⟩
  | 32 => ⟨S16x1000, .i32⟩
  | 33 => ⟨S16x1000, .i32⟩
  | 34 => ⟨S16x1000x1, .i32⟩
  | 35 => ⟨S16x1000x1, .i32⟩
  | 36 => ⟨S16x1000x2, .i32⟩
  | 37 => ⟨S16x1000, .f32⟩
  | 38 => ⟨S_, .f32⟩
  | 39 => ⟨S_, .f32⟩
  | 40 => ⟨S16x1024, .f32⟩
  | 41 => ⟨S16x1x1024, .f32⟩
  | 42 => ⟨S_, .f32⟩
  | 43 => ⟨S_, .f32⟩
  | 44 => ⟨S16x1024, .f32⟩
  | 45 => ⟨S16x1x1024, .f32⟩
  | 46 => ⟨S_, .i32⟩
  | 47 => ⟨S16x1000, .i32⟩
  | 48 => ⟨S16x1000, .i32⟩
  | 49 => ⟨S16x1000, .f32⟩
  | 50 => ⟨S_, .f32⟩
  | 51 => ⟨S_, .f32⟩
  | 52 => ⟨S16x1024, .f32⟩
  | 53 => ⟨S16x1x1024, .f32⟩
  | 54 => ⟨S_, .f32⟩
  | 55 => ⟨S16x1x128, .f32⟩
  | 56 => ⟨S16x1, .i32⟩
  | 57 => ⟨S16, .i32⟩
  | 58 => ⟨S16, .f32⟩
  | 59 => ⟨S_, .i32⟩
  | 60 => ⟨S1, .i32⟩
  | 61 => ⟨S_, .i32⟩
  | 62 => ⟨S1, .i32⟩
  | 63 => ⟨S2, .i32⟩
  | 64 => ⟨S16x1x128, .f32⟩
  | 65 => ⟨S16x1, .i32⟩
  | 66 => ⟨S16, .i32⟩
  | 67 => ⟨S16, .f32⟩
  | 68 => ⟨S_, .i32⟩
  | 69 => ⟨S1, .i32⟩
  | 70 => ⟨S_, .i32⟩
  | 71 => ⟨S1, .i32⟩
  | 72 => ⟨S2, .i32⟩
  | 73 => ⟨S16x1x128, .f32⟩
  | 74 => ⟨S16x128x8, .f32⟩
  | 75 => ⟨S16x100x5, .f32⟩
  | 76 => ⟨S1600x5, .f32⟩
  | 77 => ⟨S16x100x1, .f32⟩
  | 78 => ⟨S16x100, .f32⟩
  | 79 => ⟨S16x100, .f32⟩
  | 80 => ⟨S16x100, .i32⟩
  | 81 => ⟨S1600, .i32⟩
  | _ => ⟨S16x2097152x128, .f32⟩

abbrev hbmTy (i : Nat) : BufTy := match i / 128 with
  | 0 => hbmTy0_0 i
  | 1 => hbmTy0_1 i
  | _ => ⟨S16x2097152x128, .f32⟩

abbrev bufTy : (tb : Table) → Fin (tcTables nBuf tb) → BufTy
  | .hbm, ⟨i, _⟩ => hbmTy i
  | .local _ .vmem, ⟨0, _⟩ => ⟨S1x1x1024, .f32⟩
  | .local _ .vmem, ⟨1, _⟩ => ⟨S1x1x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1x128, .f32⟩
  | .local _ .vmem, ⟨17, _⟩ => ⟨S1x1x128, .f32⟩
  | .local _ .vmem, ⟨18, _⟩ => ⟨S1x128x8, .f32⟩
  | .local _ .vmem, ⟨19, _⟩ => ⟨S1x128x8, .f32⟩
  | _, _ => ⟨S16x2097152x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_values : Ref sig .tc := ⟨.hbm, 8, rfl⟩
abbrev main_indices : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v2 : Ref sig .tc := ⟨.hbm, 27, rfl⟩
abbrev main_c_0 : Ref sig .tc := ⟨.hbm, 28, rfl⟩
abbrev main_call1_v0 : Ref sig .tc := ⟨.hbm, 29, rfl⟩
abbrev main_call1_c : Ref sig .tc := ⟨.hbm, 30, rfl⟩
abbrev main_call1_v1 : Ref sig .tc := ⟨.hbm, 31, rfl⟩
abbrev main_call1_c_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_c_1 : Ref sig .tc := ⟨.hbm, 36, rfl⟩
abbrev main_call1_v5 : Ref sig .tc := ⟨.hbm, 37, rfl⟩
abbrev main_call1_v6 : Ref sig .tc := ⟨.hbm, 38, rfl⟩
abbrev main_call1_c_2 : Ref sig .tc := ⟨.hbm, 39, rfl⟩
abbrev main_call1_v7 : Ref sig .tc := ⟨.hbm, 40, rfl⟩
abbrev main_call1_v8 : Ref sig .tc := ⟨.hbm, 41, rfl⟩
abbrev main_call1_c_3 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_v12 : Ref sig .tc := ⟨.hbm, 46, rfl⟩
abbrev main_call1_v13 : Ref sig .tc := ⟨.hbm, 47, rfl⟩
abbrev main_call1_v14 : Ref sig .tc := ⟨.hbm, 48, rfl⟩
abbrev main_v3 : Ref sig .tc := ⟨.hbm, 49, rfl⟩
abbrev main_c_1 : Ref sig .tc := ⟨.hbm, 50, rfl⟩
abbrev main_v4 : Ref sig .tc := ⟨.hbm, 51, rfl⟩
abbrev main_v5 : Ref sig .tc := ⟨.hbm, 52, rfl⟩
abbrev main_c_2 : Ref sig .tc := ⟨.hbm, 53, rfl⟩
abbrev main_v6 : Ref sig .tc := ⟨.hbm, 54, rfl⟩
abbrev main_v7 : Ref sig .tc := ⟨.hbm, 55, rfl⟩
abbrev main_v8 : Ref sig .tc := ⟨.hbm, 56, rfl⟩
abbrev main_v9 : Ref sig .tc := ⟨.hbm, 57, rfl⟩
abbrev main_v10 : Ref sig .tc := ⟨.hbm, 58, rfl⟩
abbrev main_v11 : Ref sig .tc := ⟨.hbm, 59, rfl⟩
abbrev main_v12 : Ref sig .tc := ⟨.hbm, 60, rfl⟩
abbrev main_v13 : Ref sig .tc := ⟨.hbm, 61, rfl⟩
abbrev main_c_3 : Ref sig .tc := ⟨.hbm, 62, rfl⟩
abbrev main_v14 : Ref sig .tc := ⟨.hbm, 63, rfl⟩
abbrev main_v15 : Ref sig .tc := ⟨.hbm, 64, rfl⟩
abbrev main_c_4 : Ref sig .tc := ⟨.hbm, 65, rfl⟩
abbrev main_v16 : Ref sig .tc := ⟨.hbm, 66, rfl⟩
abbrev main_v17 : Ref sig .tc := ⟨.hbm, 67, rfl⟩
abbrev main_v18 : Ref sig .tc := ⟨.hbm, 68, rfl⟩
abbrev main_c_5 : Ref sig .tc := ⟨.hbm, 69, rfl⟩
abbrev main_v19 : Ref sig .tc := ⟨.hbm, 70, rfl⟩
abbrev main_v20 : Ref sig .tc := ⟨.hbm, 71, rfl⟩
abbrev main_v21 : Ref sig .tc := ⟨.hbm, 72, rfl⟩
abbrev main_v22 : Ref sig .tc := ⟨.hbm, 73, rfl⟩
abbrev main_v23 : Ref sig .tc := ⟨.hbm, 74, rfl⟩
abbrev main_v24 : Ref sig .tc := ⟨.hbm, 75, rfl⟩
abbrev main_cst_6 : Ref sig .tc := ⟨.hbm, 76, rfl⟩
abbrev main_call2_v0 : Ref sig .tc := ⟨.hbm, 77, rfl⟩
abbrev main_v25 : Ref sig .tc := ⟨.hbm, 78, rfl⟩
abbrev main_v26 : Ref sig .tc := ⟨.hbm, 79, rfl⟩
abbrev main_c_7 : Ref sig .tc := ⟨.hbm, 80, rfl⟩
abbrev main_v27 : Ref sig .tc := ⟨.hbm, 81, rfl⟩
abbrev main_v28 : Ref sig .tc := ⟨.hbm, 82, rfl⟩
abbrev main_c_8 : Ref sig .tc := ⟨.hbm, 83, rfl⟩
abbrev main_v29 : Ref sig .tc := ⟨.hbm, 84, rfl⟩
abbrev main_v30 : Ref sig .tc := ⟨.hbm, 85, rfl⟩
abbrev main_v31 : Ref sig .tc := ⟨.hbm, 86, rfl⟩
abbrev main_c_9 : Ref sig .tc := ⟨.hbm, 87, rfl⟩
abbrev main_v32 : Ref sig .tc := ⟨.hbm, 88, rfl⟩
abbrev main_v33 : Ref sig .tc := ⟨.hbm, 89, rfl⟩
abbrev main_v34 : Ref sig .tc := ⟨.hbm, 90, rfl⟩
abbrev main_v35 : Ref sig .tc := ⟨.hbm, 91, rfl⟩
abbrev main_v36 : Ref sig .tc := ⟨.hbm, 92, rfl⟩
abbrev main_v37 : Ref sig .tc := ⟨.hbm, 93, rfl⟩
abbrev main_cst_10 : Ref sig .tc := ⟨.hbm, 94, rfl⟩
abbrev main_call3_v0 : Ref sig .tc := ⟨.hbm, 95, rfl⟩
abbrev main_v38 : Ref sig .tc := ⟨.hbm, 96, rfl⟩
abbrev main_v39 : Ref sig .tc := ⟨.hbm, 97, rfl⟩
abbrev main_c_11 : Ref sig .tc := ⟨.hbm, 98, rfl⟩
abbrev main_v40 : Ref sig .tc := ⟨.hbm, 99, rfl⟩
abbrev main_v41 : Ref sig .tc := ⟨.hbm, 100, rfl⟩
abbrev main_c_12 : Ref sig .tc := ⟨.hbm, 101, rfl⟩
abbrev main_v42 : Ref sig .tc := ⟨.hbm, 102, rfl⟩
abbrev main_v43 : Ref sig .tc := ⟨.hbm, 103, rfl⟩
abbrev main_v44 : Ref sig .tc := ⟨.hbm, 104, rfl⟩
abbrev main_c_13 : Ref sig .tc := ⟨.hbm, 105, rfl⟩
abbrev main_v45 : Ref sig .tc := ⟨.hbm, 106, rfl⟩
abbrev main_v46 : Ref sig .tc := ⟨.hbm, 107, rfl⟩
abbrev main_v47 : Ref sig .tc := ⟨.hbm, 108, rfl⟩
abbrev main_v48 : Ref sig .tc := ⟨.hbm, 109, rfl⟩
abbrev main_v49 : Ref sig .tc := ⟨.hbm, 110, rfl⟩
abbrev main_v50 : Ref sig .tc := ⟨.hbm, 111, rfl⟩
abbrev main_cst_14 : Ref sig .tc := ⟨.hbm, 112, rfl⟩
abbrev main_call4_v0 : Ref sig .tc := ⟨.hbm, 113, rfl⟩
abbrev main_v51 : Ref sig .tc := ⟨.hbm, 114, rfl⟩
abbrev main_v52 : Ref sig .tc := ⟨.hbm, 115, rfl⟩
abbrev main_c_15 : Ref sig .tc := ⟨.hbm, 116, rfl⟩
abbrev main_v53 : Ref sig .tc := ⟨.hbm, 117, rfl⟩
abbrev main_v54 : Ref sig .tc := ⟨.hbm, 118, rfl⟩
abbrev main_c_16 : Ref sig .tc := ⟨.hbm, 119, rfl⟩
abbrev main_v55 : Ref sig .tc := ⟨.hbm, 120, rfl⟩
abbrev main_v56 : Ref sig .tc := ⟨.hbm, 121, rfl⟩
abbrev main_v57 : Ref sig .tc := ⟨.hbm, 122, rfl⟩
abbrev main_c_17 : Ref sig .tc := ⟨.hbm, 123, rfl⟩
abbrev main_v58 : Ref sig .tc := ⟨.hbm, 124, rfl⟩
abbrev main_v59 : Ref sig .tc := ⟨.hbm, 125, rfl⟩
abbrev main_v60 : Ref sig .tc := ⟨.hbm, 126, rfl⟩
abbrev main_v61 : Ref sig .tc := ⟨.hbm, 127, rfl⟩
abbrev main_v62 : Ref sig .tc := ⟨.hbm, 128, rfl⟩
abbrev main_v63 : Ref sig .tc := ⟨.hbm, 129, rfl⟩
abbrev main_cst_18 : Ref sig .tc := ⟨.hbm, 130, rfl⟩
abbrev main_call5_v0 : Ref sig .tc := ⟨.hbm, 131, rfl⟩
abbrev main_v64 : Ref sig .tc := ⟨.hbm, 132, rfl⟩
abbrev main_v65 : Ref sig .tc := ⟨.hbm, 133, rfl⟩
abbrev main_c_19 : Ref sig .tc := ⟨.hbm, 134, rfl⟩
abbrev main_v66 : Ref sig .tc := ⟨.hbm, 135, rfl⟩
abbrev main_v67 : Ref sig .tc := ⟨.hbm, 136, rfl⟩
abbrev main_c_20 : Ref sig .tc := ⟨.hbm, 137, rfl⟩
abbrev main_v68 : Ref sig .tc := ⟨.hbm, 138, rfl⟩
abbrev main_v69 : Ref sig .tc := ⟨.hbm, 139, rfl⟩
abbrev main_v70 : Ref sig .tc := ⟨.hbm, 140, rfl⟩
abbrev main_c_21 : Ref sig .tc := ⟨.hbm, 141, rfl⟩
abbrev main_v71 : Ref sig .tc := ⟨.hbm, 142, rfl⟩
abbrev main_v72 : Ref sig .tc := ⟨.hbm, 143, rfl⟩
abbrev main_v73 : Ref sig .tc := ⟨.hbm, 144, rfl⟩
abbrev main_v74 : Ref sig .tc := ⟨.hbm, 145, rfl⟩
abbrev main_v75 : Ref sig .tc := ⟨.hbm, 146, rfl⟩
abbrev main_v76 : Ref sig .tc := ⟨.hbm, 147, rfl⟩
abbrev main_cst_22 : Ref sig .tc := ⟨.hbm, 148, rfl⟩
abbrev main_call6_v0 : Ref sig .tc := ⟨.hbm, 149, rfl⟩
abbrev main_v77 : Ref sig .tc := ⟨.hbm, 150, rfl⟩
abbrev main_v78 : Ref sig .tc := ⟨.hbm, 151, rfl⟩
abbrev main_c_23 : Ref sig .tc := ⟨.hbm, 152, rfl⟩
abbrev main_v79 : Ref sig .tc := ⟨.hbm, 153, rfl⟩
abbrev main_v80 : Ref sig .tc := ⟨.hbm, 154, rfl⟩
abbrev main_c_24 : Ref sig .tc := ⟨.hbm, 155, rfl⟩
abbrev main_v81 : Ref sig .tc := ⟨.hbm, 156, rfl⟩
abbrev main_v82 : Ref sig .tc := ⟨.hbm, 157, rfl⟩
abbrev main_v83 : Ref sig .tc := ⟨.hbm, 158, rfl⟩
abbrev main_c_25 : Ref sig .tc := ⟨.hbm, 159, rfl⟩
abbrev main_v84 : Ref sig .tc := ⟨.hbm, 160, rfl⟩
abbrev main_v85 : Ref sig .tc := ⟨.hbm, 161, rfl⟩
abbrev main_v86 : Ref sig .tc := ⟨.hbm, 162, rfl⟩
abbrev main_v87 : Ref sig .tc := ⟨.hbm, 163, rfl⟩
abbrev main_v88 : Ref sig .tc := ⟨.hbm, 164, rfl⟩
abbrev main_v89 : Ref sig .tc := ⟨.hbm, 165, rfl⟩
abbrev main_cst_26 : Ref sig .tc := ⟨.hbm, 166, rfl⟩
abbrev main_call7_v0 : Ref sig .tc := ⟨.hbm, 167, rfl⟩
abbrev main_v90 : Ref sig .tc := ⟨.hbm, 168, rfl⟩
abbrev main_v91 : Ref sig .tc := ⟨.hbm, 169, rfl⟩
abbrev main_cst_27 : Ref sig .tc := ⟨.hbm, 170, rfl⟩
abbrev main_call8_v0 : Ref sig .tc := ⟨.hbm, 171, rfl⟩
abbrev main_v92 : Ref sig .tc := ⟨.hbm, 172, rfl⟩
abbrev main_v93 : Ref sig .tc := ⟨.hbm, 173, rfl⟩
abbrev main_c_28 : Ref sig .tc := ⟨.hbm, 174, rfl⟩
abbrev main_v94 : Ref sig .tc := ⟨.hbm, 175, rfl⟩
abbrev main_v95 : Ref sig .tc := ⟨.hbm, 176, rfl⟩
abbrev main_v96 : Ref sig .tc := ⟨.hbm, 177, rfl⟩
abbrev main_cst_29 : Ref sig .tc := ⟨.hbm, 178, rfl⟩
abbrev main_call9_v0 : Ref sig .tc := ⟨.hbm, 179, rfl⟩
abbrev main_v97 : Ref sig .tc := ⟨.hbm, 180, rfl⟩
abbrev main_v98 : Ref sig .tc := ⟨.hbm, 181, rfl⟩
abbrev main_cst_30 : Ref sig .tc := ⟨.hbm, 182, rfl⟩
abbrev main_v99 : Ref sig .tc := ⟨.hbm, 183, rfl⟩
abbrev main_v100 : Ref sig .tc := ⟨.hbm, 184, rfl⟩
abbrev main_v101 : Ref sig .tc := ⟨.hbm, 185, rfl⟩
abbrev main_v102 : Ref sig .tc := ⟨.hbm, 186, rfl⟩
abbrev main_c_31 : Ref sig .tc := ⟨.hbm, 187, rfl⟩
abbrev main_v103 : Ref sig .tc := ⟨.hbm, 188, rfl⟩
abbrev main_c_32 : Ref sig .tc := ⟨.hbm, 189, rfl⟩
abbrev main_v104 : Ref sig .tc := ⟨.hbm, 190, rfl⟩
abbrev main_v105 : Ref sig .tc := ⟨.hbm, 191, rfl⟩
abbrev main_v106 : Ref sig .tc := ⟨.hbm, 192, rfl⟩
abbrev main_v107 : Ref sig .tc := ⟨.hbm, 193, rfl⟩
abbrev main_v108 : Ref sig .tc := ⟨.hbm, 194, rfl⟩
abbrev main_v109 : Ref sig .tc := ⟨.hbm, 195, rfl⟩
abbrev main_c_33 : Ref sig .tc := ⟨.hbm, 196, rfl⟩
abbrev main_v110 : Ref sig .tc := ⟨.hbm, 197, rfl⟩
abbrev main_c_34 : Ref sig .tc := ⟨.hbm, 198, rfl⟩
abbrev main_v111 : Ref sig .tc := ⟨.hbm, 199, rfl⟩
abbrev main_v112 : Ref sig .tc := ⟨.hbm, 200, rfl⟩
abbrev main_v113 : Ref sig .tc := ⟨.hbm, 201, rfl⟩
abbrev main_v114 : Ref sig .tc := ⟨.hbm, 202, rfl⟩
abbrev main_v115 : Ref sig .tc := ⟨.hbm, 203, rfl⟩
abbrev main_v116 : Ref sig .tc := ⟨.hbm, 204, rfl⟩
abbrev main_v117 : Ref sig .tc := ⟨.hbm, 205, rfl⟩
abbrev main_v118 : Ref sig .tc := ⟨.hbm, 206, rfl⟩
abbrev main_v119 : Ref sig .tc := ⟨.hbm, 207, rfl⟩
abbrev main_v120 : Ref sig .tc := ⟨.hbm, 208, rfl⟩
abbrev main_v121 : Ref sig .tc := ⟨.hbm, 209, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c1000_i32 : BitVec 32 := 1000#32
  let v106 : BitVec 32 := Scalar.addi c0_i32 c1000_i32
  let c1_i32 : BitVec 32 := 1#32
  ⟨c0_i32, v106, c1_i32⟩
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x128x8 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== SelectReferenceIdeal.lean ====
abbrev S16x2097152x128 : Shape := ⟨3, ![16, 2097152, 128]⟩
abbrev S2097152x2 : Shape := ⟨2, ![2097152, 2]⟩
abbrev S2097152 : Shape := ⟨1, ![2097152]⟩
abbrev S2097152x4 : Shape := ⟨2, ![2097152, 4]⟩
abbrev S16x2 : Shape := ⟨2, ![16, 2]⟩
abbrev S5 : Shape := ⟨1, ![5]⟩
abbrev S_ : Shape := ⟨0, ![]⟩
abbrev S2097152x1 : Shape := ⟨2, ![2097152, 1]⟩
abbrev S16x2097152x11 : Shape := ⟨3, ![16, 2097152, 11]⟩
abbrev S16x23068672 : Shape := ⟨2, ![16, 23068672]⟩
abbrev S16x1000 : Shape := ⟨2, ![16, 1000]⟩
abbrev S16x1000x1 : Shape := ⟨3, ![16, 1000, 1]⟩
abbrev S16x1000x4 : Shape := ⟨3, ![16, 1000, 4]⟩
abbrev S16x1 : Shape := ⟨2, ![16, 1]⟩
abbrev S16 : Shape := ⟨1, ![16]⟩
abbrev S16x1x1000 : Shape := ⟨3, ![16, 1, 1000]⟩
abbrev S16x1000x1000 : Shape := ⟨3, ![16, 1000, 1000]⟩
abbrev S1000 : Shape := ⟨1, ![1000]⟩
abbrev S1x1000 : Shape := ⟨2, ![1, 1000]⟩
abbrev S16x100 : Shape := ⟨2, ![16, 100]⟩
abbrev S16x100x1 : Shape := ⟨3, ![16, 100, 1]⟩
abbrev S1 : Shape := ⟨1, ![1]⟩
abbrev S1x1x1 : Shape := ⟨3, ![1, 1, 1]⟩
abbrev S16x100x4 : Shape := ⟨3, ![16, 100, 4]⟩
abbrev S16x100x5 : Shape := ⟨3, ![16, 100, 5]⟩
abbrev S1600x5 : Shape := ⟨2, ![1600, 5]⟩
abbrev S1600 : Shape := ⟨1, ![1600]⟩

abbrev nBuf : Space → Nat
  | .hbm => 350
  | .vmem => 0
  | .smem => 0
  | _ => 0

abbrev hbmTy0_0 (i : Nat) : BufTy := match i % 128 with
  | 0 => ⟨S16x2097152x128, .f32⟩
  | 1 => ⟨S2097152x2, .f32⟩
  | 2 => ⟨S2097152, .i32⟩
  | 3 => ⟨S2097152x4, .f32⟩
  | 4 => ⟨S16x2, .i32⟩
  | 5 => ⟨S5, .f32⟩
  | 6 => ⟨S_, .i32⟩
  | 7 => ⟨S2097152, .i32⟩
  | 8 => ⟨S2097152, .i1⟩
  | 9 => ⟨S_, .i32⟩
  | 10 => ⟨S2097152, .i32⟩
  | 11 => ⟨S2097152, .i32⟩
  | 12 => ⟨S2097152, .i32⟩
  | 13 => ⟨S2097152x1, .i32⟩
  | 14 => ⟨S2097152, .f32⟩
  | 15 => ⟨S2097152x1, .f32⟩
  | 16 => ⟨S2097152x4, .f32⟩
  | 17 => ⟨S2097152x4, .f32⟩
  | 18 => ⟨S2097152x2, .f32⟩
  | 19 => ⟨S2097152x2, .f32⟩
  | 20 => ⟨S2097152x2, .f32⟩
  | 21 => ⟨S2097152x2, .f32⟩
  | 22 => ⟨S2097152x4, .f32⟩
  | 23 => ⟨S16x2097152x11, .f32⟩
  | 24 => ⟨S16x23068672, .f32⟩
  | 25 => ⟨S16x1000, .f32⟩
  | 26 => ⟨S16x1000, .i32⟩
  | 27 => ⟨S_, .i32⟩
  | 28 => ⟨S_, .i32⟩
  | 29 => ⟨S16x1000, .i32⟩
  | 30 => ⟨S16x1000, .i32⟩
  | 31 => ⟨S16x1000, .i32⟩
  | 32 => ⟨S_, .i32⟩
  | 33 => ⟨S16x1000, .i32⟩
  | 34 => ⟨S16x1000, .i1⟩
  | 35 => ⟨S16x1000, .i32⟩
  | 36 => ⟨S16x1000, .i32⟩
  | 37 => ⟨S_, .i32⟩
  | 38 => ⟨S16x1000, .i32⟩
  | 39 => ⟨S16x1000, .i1⟩
  | 40 => ⟨S16x1000, .i1⟩
  | 41 => ⟨S_, .i32⟩
  | 42 => ⟨S16x1000, .i32⟩
  | 43 => ⟨S16x1000, .i32⟩
  | 44 => ⟨S16x1000, .i32⟩
  | 45 => ⟨S_, .i32⟩
  | 46 => ⟨S_, .i32⟩
  | 47 => ⟨S_, .i32⟩
  | 48 => ⟨S_, .i1⟩
  | 49 => ⟨S_, .i32⟩
  | 50 => ⟨S_, .i32⟩
  | 51 => ⟨S16x1000, .i32⟩
  | 52 => ⟨S16x1000, .i32⟩
  | 53 => ⟨S_, .i32⟩
  | 54 => ⟨S16x1000, .i32⟩
  | 55 => ⟨S16x1000, .i1⟩
  | 56 => ⟨S_, .i32⟩
  | 57 => ⟨S16x1000, .i32⟩
  | 58 => ⟨S16x1000, .i1⟩
  | 59 => ⟨S_, .i32⟩
  | 60 => ⟨S_, .i1⟩
  | 61 => ⟨S16x1000, .i1⟩
  | 62 => ⟨S16x1000, .i1⟩
  | 63 => ⟨S16x1000, .i1⟩
  | 64 => ⟨S16x1000, .i32⟩
  | 65 => ⟨S16x1000, .i32⟩
  | 66 => ⟨S16x1000, .i32⟩
  | 67 => ⟨S_, .i32⟩
  | 68 => ⟨S16x1000, .i32⟩
  | 69 => ⟨S16x1000, .i32⟩
  | 70 => ⟨S_, .i32⟩
  | 71 => ⟨S16x1000, .i32⟩
  | 72 => ⟨S16x1000, .i1⟩
  | 73 => ⟨S_, .i32⟩
  | 74 => ⟨S16x1000, .i32⟩
  | 75 => ⟨S16x1000, .i32⟩
  | 76 => ⟨S16x1000, .i32⟩
  | 77 => ⟨S16x1000x1, .i32⟩
  | 78 => ⟨S16x1000x4, .f32⟩
  | 79 => ⟨S_, .f32⟩
  | 80 => ⟨S16x1000, .f32⟩
  | 81 => ⟨S16x1000, .i1⟩
  | 82 => ⟨S_, .f32⟩
  | 83 => ⟨S_, .f32⟩
  | 84 => ⟨S16x1000, .f32⟩
  | 85 => ⟨S16x1000, .f32⟩
  | 86 => ⟨S16x1, .i32⟩
  | 87 => ⟨S16x1, .f32⟩
  | 88 => ⟨S16x1, .i32⟩
  | 89 => ⟨S16x1, .f32⟩
  | 90 => ⟨S16x1000x1, .f32⟩
  | 91 => ⟨S16x1000, .f32⟩
  | 92 => ⟨S_, .f32⟩
  | 93 => ⟨S16x1, .f32⟩
  | 94 => ⟨S16x1, .f32⟩
  | 95 => ⟨S_, .f32⟩
  | 96 => ⟨S_, .f32⟩
  | 97 => ⟨S16x1000, .f32⟩
  | 98 => ⟨S16x1000, .f32⟩
  | 99 => ⟨S16x1000, .f32⟩
  | 100 => ⟨S16x1000, .f32⟩
  | 101 => ⟨S16x1000x1, .f32⟩
  | 102 => ⟨S16x1000, .f32⟩
  | 103 => ⟨S_, .f32⟩
  | 104 => ⟨S16x1, .f32⟩
  | 105 => ⟨S16x1, .f32⟩
  | 106 => ⟨S_, .f32⟩
  | 107 => ⟨S_, .f32⟩
  | 108 => ⟨S16x1000, .f32⟩
  | 109 => ⟨S16x1000, .f32⟩
  | 110 => ⟨S16x1000, .f32⟩
  | 111 => ⟨S16x1000, .f32⟩
  | 112 => ⟨S16x1000x1, .f32⟩
  | 113 => ⟨S16x1000, .f32⟩
  | 114 => ⟨S_, .f32⟩
  | 115 => ⟨S16x1, .f32⟩
  | 116 => ⟨S16x1, .f32⟩
  | 117 => ⟨S_, .f32⟩
  | 118 => ⟨S_, .f32⟩
  | 119 => ⟨S16x1000, .f32⟩
  | 120 => ⟨S16x1000, .f32⟩
  | 121 => ⟨S16x1000, .f32⟩
  | 122 => ⟨S16x1000, .f32⟩
  | 123 => ⟨S16x1000x1, .f32⟩
  | 124 => ⟨S16x1000, .f32⟩
  | 125 => ⟨S_, .f32⟩
  | 126 => ⟨S16x1, .f32⟩
  | 127 => ⟨S16x1, .f32⟩
  | _ => ⟨S16x2097152x128, .f32⟩

abbrev hbmTy0_1 (i : Nat) : BufTy := match i % 128 with
  | 0 => ⟨S_, .f32⟩
  | 1 => ⟨S_, .f32⟩
  | 2 => ⟨S16x1000, .f32⟩
  | 3 => ⟨S16x1000, .f32⟩
  | 4 => ⟨S16x1000, .f32⟩
  | 5 => ⟨S16x1000, .f32⟩
  | 6 => ⟨S16x1000x1, .f32⟩
  | 7 => ⟨S16x1000x1, .f32⟩
  | 8 => ⟨S16x1000x1, .f32⟩
  | 9 => ⟨S16x1000x1, .f32⟩
  | 10 => ⟨S16x1000x4, .f32⟩
  | 11 => ⟨S16x1000, .f32⟩
  | 12 => ⟨S_, .f32⟩
  | 13 => ⟨S16x1000, .f32⟩
  | 14 => ⟨S16x1000, .f32⟩
  | 15 => ⟨S16x1000, .f32⟩
  | 16 => ⟨S_, .f32⟩
  | 17 => ⟨S16x1000, .f32⟩
  | 18 => ⟨S16x1000, .f32⟩
  | 19 => ⟨S_, .f32⟩
  | 20 => ⟨S16x1000, .f32⟩
  | 21 => ⟨S16x1000, .i1⟩
  | 22 => ⟨S16x1000, .i1⟩
  | 23 => ⟨S_, .f32⟩
  | 24 => ⟨S16x1000, .f32⟩
  | 25 => ⟨S16x1000, .i1⟩
  | 26 => ⟨S16x1000, .i1⟩
  | 27 => ⟨S16x1000x1, .i1⟩
  | 28 => ⟨S_, .f32⟩
  | 29 => ⟨S_, .f32⟩
  | 30 => ⟨S16x1000x4, .i1⟩
  | 31 => ⟨S16x1000x4, .f32⟩
  | 32 => ⟨S16x1000x4, .f32⟩
  | 33 => ⟨S_, .f32⟩
  | 34 => ⟨S16, .f32⟩
  | 35 => ⟨S16x1000, .f32⟩
  | 36 => ⟨S_, .f32⟩
  | 37 => ⟨S16, .f32⟩
  | 38 => ⟨S16, .f32⟩
  | 39 => ⟨S16x1, .f32⟩
  | 40 => ⟨S16x1000, .f32⟩
  | 41 => ⟨S16x1000, .f32⟩
  | 42 => ⟨S16x1000, .f32⟩
  | 43 => ⟨S16x1000, .f32⟩
  | 44 => ⟨S16x1000, .f32⟩
  | 45 => ⟨S16x1000, .f32⟩
  | 46 => ⟨S16x1000, .f32⟩
  | 47 => ⟨S_, .f32⟩
  | 48 => ⟨S16x1000, .f32⟩
  | 49 => ⟨S16x1000, .f32⟩
  | 50 => ⟨S_, .f32⟩
  | 51 => ⟨S16x1000, .f32⟩
  | 52 => ⟨S16x1000, .f32⟩
  | 53 => ⟨S16x1000, .f32⟩
  | 54 => ⟨S_, .f32⟩
  | 55 => ⟨S16x1000, .f32⟩
  | 56 => ⟨S16x1000, .f32⟩
  | 57 => ⟨S_, .f32⟩
  | 58 => ⟨S16x1000, .f32⟩
  | 59 => ⟨S16x1000, .f32⟩
  | 60 => ⟨S16x1000, .f32⟩
  | 61 => ⟨S16x1000x1, .f32⟩
  | 62 => ⟨S16x1x1000, .f32⟩
  | 63 => ⟨S16x1000x1000, .f32⟩
  | 64 => ⟨S16x1000x1000, .f32⟩
  | 65 => ⟨S16x1000x1000, .f32⟩
  | 66 => ⟨S16x1000x1, .f32⟩
  | 67 => ⟨S16x1x1000, .f32⟩
  | 68 => ⟨S16x1000x1000, .f32⟩
  | 69 => ⟨S16x1000x1000, .f32⟩
  | 70 => ⟨S16x1000x1000, .f32⟩
  | 71 => ⟨S16x1000x1, .f32⟩
  | 72 => ⟨S16x1x1000, .f32⟩
  | 73 => ⟨S16x1000x1000, .f32⟩
  | 74 => ⟨S16x1000x1000, .f32⟩
  | 75 => ⟨S16x1000x1000, .f32⟩
  | 76 => ⟨S16x1000x1, .f32⟩
  | 77 => ⟨S16x1x1000, .f32⟩
  | 78 => ⟨S16x1000x1000, .f32⟩
  | 79 => ⟨S16x1000x1000, .f32⟩
  | 80 => ⟨S16x1000x1000, .f32⟩
  | 81 => ⟨S16x1000x1000, .f32⟩
  | 82 => ⟨S_, .f32⟩
  | 83 => ⟨S16x1000x1000, .f32⟩
  | 84 => ⟨S16x1000x1000, .f32⟩
  | 85 => ⟨S_, .f32⟩
  | 86 => ⟨S16x1000x1000, .f32⟩
  | 87 => ⟨S16x1000x1000, .f32⟩
  | 88 => ⟨S16x1000x1000, .f32⟩
  | 89 => ⟨S_, .f32⟩
  | 90 => ⟨S16x1000x1000, .f32⟩
  | 91 => ⟨S16x1000x1000, .f32⟩
  | 92 => ⟨S_, .f32⟩
  | 93 => ⟨S16x1000x1000, .f32⟩
  | 94 => ⟨S16x1000x1000, .f32⟩
  | 95 => ⟨S16x1000x1000, .f32⟩
  | 96 => ⟨S16x1000x1, .f32⟩
  | 97 => ⟨S16x1x1000, .f32⟩
  | 98 => ⟨S16x1000x1000, .f32⟩
  | 99 => ⟨S16x1000x1000, .f32⟩
  | 100 => ⟨S16x1000x1000, .f32⟩
  | 101 => ⟨S16x1000x1000, .f32⟩
  | 102 => ⟨S_, .f32⟩
  | 103 => ⟨S16x1000x1000, .f32⟩
  | 104 => ⟨S16x1000x1000, .f32⟩
  | 105 => ⟨S16x1000x1000, .f32⟩
  | 106 => ⟨S1000, .i32⟩
  | 107 => ⟨S1x1000, .i32⟩
  | 108 => ⟨S_, .i32⟩
  | 109 => ⟨S_, .i32⟩
  | 110 => ⟨S16x1000x1000, .f32⟩
  | 111 => ⟨S1x1000, .i32⟩
  | 112 => ⟨S_, .i32⟩
  | 113 => ⟨S_, .i32⟩
  | 114 => ⟨S16x1000, .i1⟩
  | 115 => ⟨S_, .i32⟩
  | 116 => ⟨S_, .i1⟩
  | 117 => ⟨S_, .i32⟩
  | 118 => ⟨S_, .i32⟩
  | 119 => ⟨S_, .i32⟩
  | 120 => ⟨S_, .i1⟩
  | 121 => ⟨S_, .i32⟩
  | 122 => ⟨S_, .i32⟩
  | 123 => ⟨S_, .i32⟩
  | 124 => ⟨S_, .i32⟩
  | 125 => ⟨S_, .i32⟩
  | 126 => ⟨S_, .i32⟩
  | 127 => ⟨S16x1x1000, .f32⟩
  | _ => ⟨S16x2097152x128, .f32⟩

abbrev hbmTy0_2 (i : Nat) : BufTy := match i % 128 with
  | 0 => ⟨S16x1000, .f32⟩
  | 1 => ⟨S_, .i32⟩
  | 2 => ⟨S_, .i1⟩
  | 3 => ⟨S_, .i32⟩
  | 4 => ⟨S_, .i32⟩
  | 5 => ⟨S_, .i32⟩
  | 6 => ⟨S_, .i32⟩
  | 7 => ⟨S_, .i32⟩
  | 8 => ⟨S16x1, .i1⟩
  | 9 => ⟨S_, .f32⟩
  | 10 => ⟨S16x1000, .f32⟩
  | 11 => ⟨S16x1000, .i1⟩
  | 12 => ⟨S_, .i32⟩
  | 13 => ⟨S1x1000, .i32⟩
  | 14 => ⟨S1x1000, .i1⟩
  | 15 => ⟨S16x1000, .i1⟩
  | 16 => ⟨S16x1000, .i1⟩
  | 17 => ⟨S16x1000, .i1⟩
  | 18 => ⟨S16x1000, .i1⟩
  | 19 => ⟨S16x1000, .i1⟩
  | 20 => ⟨S16x1000, .i1⟩
  | 21 => ⟨S_, .i32⟩
  | 22 => ⟨S_, .i32⟩
  | 23 => ⟨S_, .f32⟩
  | 24 => ⟨S_, .f32⟩
  | 25 => ⟨S16x1000, .f32⟩
  | 26 => ⟨S16x1000, .f32⟩
  | 27 => ⟨S16x100, .f32⟩
  | 28 => ⟨S16x100, .i32⟩
  | 29 => ⟨S_, .f32⟩
  | 30 => ⟨S16x100, .f32⟩
  | 31 => ⟨S16x100, .i1⟩
  | 32 => ⟨S16x100x1, .i1⟩
  | 33 => ⟨S16x100x1, .i32⟩
  | 34 => ⟨S_, .i32⟩
  | 35 => ⟨S16x100x1, .i32⟩
  | 36 => ⟨S16x100x1, .i1⟩
  | 37 => ⟨S_, .i32⟩
  | 38 => ⟨S16x100x1, .i32⟩
  | 39 => ⟨S16x100x1, .i32⟩
  | 40 => ⟨S16x100x1, .i32⟩
  | 41 => ⟨S1, .i32⟩
  | 42 => ⟨S_, .i32⟩
  | 43 => ⟨S16x100x1, .i32⟩
  | 44 => ⟨S16x100x1, .i1⟩
  | 45 => ⟨S1x1x1, .i32⟩
  | 46 => ⟨S16x100x1, .i32⟩
  | 47 => ⟨S16x100x1, .i1⟩
  | 48 => ⟨S16x100x1, .i1⟩
  | 49 => ⟨S_, .i1⟩
  | 50 => ⟨S16x100, .i1⟩
  | 51 => ⟨S16x100x4, .f32⟩
  | 52 => ⟨S16x100x4, .i1⟩
  | 53 => ⟨S_, .f32⟩
  | 54 => ⟨S16x100x4, .f32⟩
  | 55 => ⟨S16x100x4, .f32⟩
  | 56 => ⟨S_, .i32⟩
  | 57 => ⟨S16x100, .i32⟩
  | 58 => ⟨S16x100, .i1⟩
  | 59 => ⟨S_, .i32⟩
  | 60 => ⟨S16x100, .i32⟩
  | 61 => ⟨S16x100, .i32⟩
  | 62 => ⟨S16x100, .i32⟩
  | 63 => ⟨S16x100x1, .i32⟩
  | 64 => ⟨S1, .i32⟩
  | 65 => ⟨S_, .i32⟩
  | 66 => ⟨S16x100x1, .i32⟩
  | 67 => ⟨S16x100x1, .i1⟩
  | 68 => ⟨S1x1x1, .i32⟩
  | 69 => ⟨S16x100x1, .i32⟩
  | 70 => ⟨S16x100x1, .i1⟩
  | 71 => ⟨S16x100x1, .i1⟩
  | 72 => ⟨S_, .i1⟩
  | 73 => ⟨S16x100, .i1⟩
  | 74 => ⟨S16x100, .i32⟩
  | 75 => ⟨S_, .i32⟩
  | 76 => ⟨S16x100, .i32⟩
  | 77 => ⟨S16x100, .i32⟩
  | 78 => ⟨S16x100x1, .f32⟩
  | 79 => ⟨S16x100x5, .f32⟩
  | 80 => ⟨S_, .f32⟩
  | 81 => ⟨S_, .f32⟩
  | 82 => ⟨S16x100x5, .i1⟩
  | 83 => ⟨S16x100x5, .f32⟩
  | 84 => ⟨S16x100x5, .f32⟩
  | 85 => ⟨S1600x5, .f32⟩
  | 86 => ⟨S_, .f32⟩
  | 87 => ⟨S16x100, .f32⟩
  | 88 => ⟨S16x100, .i1⟩
  | 89 => ⟨S_, .i32⟩
  | 90 => ⟨S_, .i32⟩
  | 91 => ⟨S16x100, .i32⟩
  | 92 => ⟨S16x100, .i32⟩
  | 93 => ⟨S1600, .i32⟩
  | _ => ⟨S16x2097152x128, .f32⟩

abbrev hbmTy (i : Nat) : BufTy := match i / 128 with
  | 0 => hbmTy0_0 i
  | 1 => hbmTy0_1 i
  | 2 => hbmTy0_2 i
  | _ => ⟨S16x2097152x128, .f32⟩

abbrev bufTy : (tb : Table) → Fin (tcTables nBuf tb) → BufTy
  | .hbm, ⟨i, _⟩ => hbmTy i
  | _, _ => ⟨S16x2097152x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_values : Ref sig .tc := ⟨.hbm, 25, rfl⟩
abbrev main_indices : Ref sig .tc := ⟨.hbm, 26, rfl⟩
abbrev main_c_1 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_c : Ref sig .tc := ⟨.hbm, 37, rfl⟩
abbrev main_call0_v9 : Ref sig .tc := ⟨.hbm, 38, rfl⟩
abbrev main_call0_v10 : Ref sig .tc := ⟨.hbm, 39, rfl⟩
abbrev main_call0_v11 : Ref sig .tc := ⟨.hbm, 40, rfl⟩
abbrev main_call0_c_0 : Ref sig .tc := ⟨.hbm, 41, rfl⟩
abbrev main_call0_v12 : Ref sig .tc := ⟨.hbm, 42, rfl⟩
abbrev main_call0_v13 : Ref sig .tc := ⟨.hbm, 43, rfl⟩
abbrev main_v17 : Ref sig .tc := ⟨.hbm, 44, rfl⟩
abbrev main_c_2 : Ref sig .tc := ⟨.hbm, 45, rfl⟩
abbrev main_call1_v0 : Ref sig .tc := ⟨.hbm, 46, rfl⟩
abbrev main_call1_c : Ref sig .tc := ⟨.hbm, 47, rfl⟩
abbrev main_call1_v1 : Ref sig .tc := ⟨.hbm, 48, rfl⟩
abbrev main_call1_c_0 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_call1_c_1 : Ref sig .tc := ⟨.hbm, 53, rfl⟩
abbrev main_call1_v5 : Ref sig .tc := ⟨.hbm, 54, rfl⟩
abbrev main_call1_v6 : Ref sig .tc := ⟨.hbm, 55, rfl⟩
abbrev main_call1_c_2 : Ref sig .tc := ⟨.hbm, 56, rfl⟩
abbrev main_call1_v7 : Ref sig .tc := ⟨.hbm, 57, rfl⟩
abbrev main_call1_v8 : Ref sig .tc := ⟨.hbm, 58, rfl⟩
abbrev main_call1_c_3 : Ref sig .tc := ⟨.hbm, 59, rfl⟩
abbrev main_call1_v9 : Ref sig .tc := ⟨.hbm, 60, rfl⟩
abbrev main_call1_v10 : Ref sig .tc := ⟨.hbm, 61, rfl⟩
abbrev main_call1_v11 : Ref sig .tc := ⟨.hbm, 62, rfl⟩
abbrev main_call1_v12 : Ref sig .tc := ⟨.hbm, 63, rfl⟩
abbrev main_call1_v13 : Ref sig .tc := ⟨.hbm, 64, rfl⟩
abbrev main_call1_v14 : Ref sig .tc := ⟨.hbm, 65, rfl⟩
abbrev main_v18 : Ref sig .tc := ⟨.hbm, 66, rfl⟩
abbrev main_c_3 : Ref sig .tc := ⟨.hbm, 67, rfl⟩
abbrev main_v19 : Ref sig .tc := ⟨.hbm, 68, rfl⟩
abbrev main_v20 : Ref sig .tc := ⟨.hbm, 69, rfl⟩
abbrev main_c_4 : Ref sig .tc := ⟨.hbm, 70, rfl⟩
abbrev main_v21 : Ref sig .tc := ⟨.hbm, 71, rfl⟩
abbrev main_v22 : Ref sig .tc := ⟨.hbm, 72, rfl⟩
abbrev main_c_5 : Ref sig .tc := ⟨.hbm, 73, rfl⟩
abbrev main_v23 : Ref sig .tc := ⟨.hbm, 74, rfl⟩
abbrev main_v24 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_cst_6 : Ref sig .tc := ⟨.hbm, 79, rfl⟩
abbrev main_v28 : Ref sig .tc := ⟨.hbm, 80, rfl⟩
abbrev main_v29 : Ref sig .tc := ⟨.hbm, 81, rfl⟩
abbrev main_cst_7 : Ref sig .tc := ⟨.hbm, 82, rfl⟩
abbrev main_call2_v0 : Ref sig .tc := ⟨.hbm, 83, rfl⟩
abbrev main_call2_v1 : Ref sig .tc := ⟨.hbm, 84, rfl⟩
abbrev main_v30 : Ref sig .tc := ⟨.hbm, 85, rfl⟩
abbrev main_v31 : Ref sig .tc := ⟨.hbm, 86, rfl⟩
abbrev main_v32 : Ref sig .tc := ⟨.hbm, 87, rfl⟩
abbrev main_v33 : Ref sig .tc := ⟨.hbm, 88, rfl⟩
abbrev main_v34 : Ref sig .tc := ⟨.hbm, 89, rfl⟩
abbrev main_v35 : Ref sig .tc := ⟨.hbm, 90, rfl⟩
abbrev main_v36 : Ref sig .tc := ⟨.hbm, 91, rfl⟩
abbrev main_cst_8 : Ref sig .tc := ⟨.hbm, 92, rfl⟩
abbrev main_v37 : Ref sig .tc := ⟨.hbm, 93, rfl⟩
abbrev main_v38 : Ref sig .tc := ⟨.hbm, 94, rfl⟩
abbrev main_cst_9 : Ref sig .tc := ⟨.hbm, 95, rfl⟩
abbrev main_call3_v0 : Ref sig .tc := ⟨.hbm, 96, rfl⟩
abbrev main_call3_v1 : Ref sig .tc := ⟨.hbm, 97, rfl⟩
abbrev main_call3_v2 : Ref sig .tc := ⟨.hbm, 98, rfl⟩
abbrev main_call3_v3 : Ref sig .tc := ⟨.hbm, 99, rfl⟩
abbrev main_v39 : Ref sig .tc := ⟨.hbm, 100, rfl⟩
abbrev main_v40 : Ref sig .tc := ⟨.hbm, 101, rfl⟩
abbrev main_v41 : Ref sig .tc := ⟨.hbm, 102, rfl⟩
abbrev main_cst_10 : Ref sig .tc := ⟨.hbm, 103, rfl⟩
abbrev main_v42 : Ref sig .tc := ⟨.hbm, 104, rfl⟩
abbrev main_v43 : Ref sig .tc := ⟨.hbm, 105, rfl⟩
abbrev main_cst_11 : Ref sig .tc := ⟨.hbm, 106, rfl⟩
abbrev main_call4_v0 : Ref sig .tc := ⟨.hbm, 107, rfl⟩
abbrev main_call4_v1 : Ref sig .tc := ⟨.hbm, 108, rfl⟩
abbrev main_call4_v2 : Ref sig .tc := ⟨.hbm, 109, rfl⟩
abbrev main_call4_v3 : Ref sig .tc := ⟨.hbm, 110, rfl⟩
abbrev main_v44 : Ref sig .tc := ⟨.hbm, 111, rfl⟩
abbrev main_v45 : Ref sig .tc := ⟨.hbm, 112, rfl⟩
abbrev main_v46 : Ref sig .tc := ⟨.hbm, 113, rfl⟩
abbrev main_cst_12 : Ref sig .tc := ⟨.hbm, 114, rfl⟩
abbrev main_v47 : Ref sig .tc := ⟨.hbm, 115, rfl⟩
abbrev main_v48 : Ref sig .tc := ⟨.hbm, 116, rfl⟩
abbrev main_cst_13 : Ref sig .tc := ⟨.hbm, 117, rfl⟩
abbrev main_call5_v0 : Ref sig .tc := ⟨.hbm, 118, rfl⟩
abbrev main_call5_v1 : Ref sig .tc := ⟨.hbm, 119, rfl⟩
abbrev main_call5_v2 : Ref sig .tc := ⟨.hbm, 120, rfl⟩
abbrev main_call5_v3 : Ref sig .tc := ⟨.hbm, 121, rfl⟩
abbrev main_v49 : Ref sig .tc := ⟨.hbm, 122, rfl⟩
abbrev main_v50 : Ref sig .tc := ⟨.hbm, 123, rfl⟩
abbrev main_v51 : Ref sig .tc := ⟨.hbm, 124, rfl⟩
abbrev main_cst_14 : Ref sig .tc := ⟨.hbm, 125, rfl⟩
abbrev main_v52 : Ref sig .tc := ⟨.hbm, 126, rfl⟩
abbrev main_v53 : Ref sig .tc := ⟨.hbm, 127, rfl⟩
abbrev main_cst_15 : Ref sig .tc := ⟨.hbm, 128, rfl⟩
abbrev main_call6_v0 : Ref sig .tc := ⟨.hbm, 129, rfl⟩
abbrev main_call6_v1 : Ref sig .tc := ⟨.hbm, 130, rfl⟩
abbrev main_call6_v2 : Ref sig .tc := ⟨.hbm, 131, rfl⟩
abbrev main_call6_v3 : Ref sig .tc := ⟨.hbm, 132, rfl⟩
abbrev main_v54 : Ref sig .tc := ⟨.hbm, 133, rfl⟩
abbrev main_v55 : Ref sig .tc := ⟨.hbm, 134, rfl⟩
abbrev main_v56 : Ref sig .tc := ⟨.hbm, 135, rfl⟩
abbrev main_v57 : Ref sig .tc := ⟨.hbm, 136, rfl⟩
abbrev main_v58 : Ref sig .tc := ⟨.hbm, 137, rfl⟩
abbrev main_v59 : Ref sig .tc := ⟨.hbm, 138, rfl⟩
abbrev main_v60 : Ref sig .tc := ⟨.hbm, 139, rfl⟩
abbrev main_cst_16 : Ref sig .tc := ⟨.hbm, 140, rfl⟩
abbrev main_v61 : Ref sig .tc := ⟨.hbm, 141, rfl⟩
abbrev main_v62 : Ref sig .tc := ⟨.hbm, 142, rfl⟩
abbrev main_v63 : Ref sig .tc := ⟨.hbm, 143, rfl⟩
abbrev main_cst_17 : Ref sig .tc := ⟨.hbm, 144, rfl⟩
abbrev main_v64 : Ref sig .tc := ⟨.hbm, 145, rfl⟩
abbrev main_v65 : Ref sig .tc := ⟨.hbm, 146, rfl⟩
abbrev main_cst_18 : Ref sig .tc := ⟨.hbm, 147, rfl⟩
abbrev main_v66 : Ref sig .tc := ⟨.hbm, 148, rfl⟩
abbrev main_v67 : Ref sig .tc := ⟨.hbm, 149, rfl⟩
abbrev main_v68 : Ref sig .tc := ⟨.hbm, 150, rfl⟩
abbrev main_cst_19 : Ref sig .tc := ⟨.hbm, 151, rfl⟩
abbrev main_v69 : Ref sig .tc := ⟨.hbm, 152, rfl⟩
abbrev main_v70 : Ref sig .tc := ⟨.hbm, 153, rfl⟩
abbrev main_v71 : Ref sig .tc := ⟨.hbm, 154, rfl⟩
abbrev main_v72 : Ref sig .tc := ⟨.hbm, 155, rfl⟩
abbrev main_cst_20 : Ref sig .tc := ⟨.hbm, 156, rfl⟩
abbrev main_call7_v0 : Ref sig .tc := ⟨.hbm, 157, rfl⟩
abbrev main_call7_v1 : Ref sig .tc := ⟨.hbm, 158, rfl⟩
abbrev main_call7_v2 : Ref sig .tc := ⟨.hbm, 159, rfl⟩
abbrev main_v73 : Ref sig .tc := ⟨.hbm, 160, rfl⟩
abbrev main_cst_21 : Ref sig .tc := ⟨.hbm, 161, rfl⟩
abbrev main_v74 : Ref sig .tc := ⟨.hbm, 162, rfl⟩
abbrev main_v75 : Ref sig .tc := ⟨.hbm, 163, rfl⟩
abbrev main_cst_22 : Ref sig .tc := ⟨.hbm, 164, rfl⟩
abbrev main_v76 : Ref sig .tc := ⟨.hbm, 165, rfl⟩
abbrev main_v77 : Ref sig .tc := ⟨.hbm, 166, rfl⟩
abbrev main_v78 : Ref sig .tc := ⟨.hbm, 167, rfl⟩
abbrev main_v79 : Ref sig .tc := ⟨.hbm, 168, rfl⟩
abbrev main_v80 : Ref sig .tc := ⟨.hbm, 169, rfl⟩
abbrev main_v81 : Ref sig .tc := ⟨.hbm, 170, rfl⟩
abbrev main_v82 : Ref sig .tc := ⟨.hbm, 171, rfl⟩
abbrev main_v83 : Ref sig .tc := ⟨.hbm, 172, rfl⟩
abbrev main_v84 : Ref sig .tc := ⟨.hbm, 173, rfl⟩
abbrev main_v85 : Ref sig .tc := ⟨.hbm, 174, rfl⟩
abbrev main_cst_23 : Ref sig .tc := ⟨.hbm, 175, rfl⟩
abbrev main_v86 : Ref sig .tc := ⟨.hbm, 176, rfl⟩
abbrev main_v87 : Ref sig .tc := ⟨.hbm, 177, rfl⟩
abbrev main_cst_24 : Ref sig .tc := ⟨.hbm, 178, rfl⟩
abbrev main_v88 : Ref sig .tc := ⟨.hbm, 179, rfl⟩
abbrev main_v89 : Ref sig .tc := ⟨.hbm, 180, rfl⟩
abbrev main_v90 : Ref sig .tc := ⟨.hbm, 181, rfl⟩
abbrev main_cst_25 : Ref sig .tc := ⟨.hbm, 182, rfl⟩
abbrev main_v91 : Ref sig .tc := ⟨.hbm, 183, rfl⟩
abbrev main_v92 : Ref sig .tc := ⟨.hbm, 184, rfl⟩
abbrev main_cst_26 : Ref sig .tc := ⟨.hbm, 185, rfl⟩
abbrev main_v93 : Ref sig .tc := ⟨.hbm, 186, rfl⟩
abbrev main_v94 : Ref sig .tc := ⟨.hbm, 187, rfl⟩
abbrev main_v95 : Ref sig .tc := ⟨.hbm, 188, rfl⟩
abbrev main_v96 : Ref sig .tc := ⟨.hbm, 189, rfl⟩
abbrev main_v97 : Ref sig .tc := ⟨.hbm, 190, rfl⟩
abbrev main_v98 : Ref sig .tc := ⟨.hbm, 191, rfl⟩
abbrev main_v99 : Ref sig .tc := ⟨.hbm, 192, rfl⟩
abbrev main_v100 : Ref sig .tc := ⟨.hbm, 193, rfl⟩
abbrev main_v101 : Ref sig .tc := ⟨.hbm, 194, rfl⟩
abbrev main_v102 : Ref sig .tc := ⟨.hbm, 195, rfl⟩
abbrev main_v103 : Ref sig .tc := ⟨.hbm, 196, rfl⟩
abbrev main_v104 : Ref sig .tc := ⟨.hbm, 197, rfl⟩
abbrev main_v105 : Ref sig .tc := ⟨.hbm, 198, rfl⟩
abbrev main_v106 : Ref sig .tc := ⟨.hbm, 199, rfl⟩
abbrev main_v107 : Ref sig .tc := ⟨.hbm, 200, rfl⟩
abbrev main_v108 : Ref sig .tc := ⟨.hbm, 201, rfl⟩
abbrev main_v109 : Ref sig .tc := ⟨.hbm, 202, rfl⟩
abbrev main_v110 : Ref sig .tc := ⟨.hbm, 203, rfl⟩
abbrev main_v111 : Ref sig .tc := ⟨.hbm, 204, rfl⟩
abbrev main_v112 : Ref sig .tc := ⟨.hbm, 205, rfl⟩
abbrev main_v113 : Ref sig .tc := ⟨.hbm, 206, rfl⟩
abbrev main_v114 : Ref sig .tc := ⟨.hbm, 207, rfl⟩
abbrev main_v115 : Ref sig .tc := ⟨.hbm, 208, rfl⟩
abbrev main_v116 : Ref sig .tc := ⟨.hbm, 209, rfl⟩
abbrev main_cst_27 : Ref sig .tc := ⟨.hbm, 210, rfl⟩
abbrev main_v117 : Ref sig .tc := ⟨.hbm, 211, rfl⟩
abbrev main_v118 : Ref sig .tc := ⟨.hbm, 212, rfl⟩
abbrev main_cst_28 : Ref sig .tc := ⟨.hbm, 213, rfl⟩
abbrev main_v119 : Ref sig .tc := ⟨.hbm, 214, rfl⟩
abbrev main_v120 : Ref sig .tc := ⟨.hbm, 215, rfl⟩
abbrev main_v121 : Ref sig .tc := ⟨.hbm, 216, rfl⟩
abbrev main_cst_29 : Ref sig .tc := ⟨.hbm, 217, rfl⟩
abbrev main_v122 : Ref sig .tc := ⟨.hbm, 218, rfl⟩
abbrev main_v123 : Ref sig .tc := ⟨.hbm, 219, rfl⟩
abbrev main_cst_30 : Ref sig .tc := ⟨.hbm, 220, rfl⟩
abbrev main_v124 : Ref sig .tc := ⟨.hbm, 221, rfl⟩
abbrev main_v125 : Ref sig .tc := ⟨.hbm, 222, rfl⟩
abbrev main_v126 : Ref sig .tc := ⟨.hbm, 223, rfl⟩
abbrev main_v127 : Ref sig .tc := ⟨.hbm, 224, rfl⟩
abbrev main_v128 : Ref sig .tc := ⟨.hbm, 225, rfl⟩
abbrev main_v129 : Ref sig .tc := ⟨.hbm, 226, rfl⟩
abbrev main_v130 : Ref sig .tc := ⟨.hbm, 227, rfl⟩
abbrev main_v131 : Ref sig .tc := ⟨.hbm, 228, rfl⟩
abbrev main_v132 : Ref sig .tc := ⟨.hbm, 229, rfl⟩
abbrev main_cst_31 : Ref sig .tc := ⟨.hbm, 230, rfl⟩
abbrev main_v133 : Ref sig .tc := ⟨.hbm, 231, rfl⟩
abbrev main_v134 : Ref sig .tc := ⟨.hbm, 232, rfl⟩
abbrev main_v135 : Ref sig .tc := ⟨.hbm, 233, rfl⟩
abbrev main_v136 : Ref sig .tc := ⟨.hbm, 234, rfl⟩
abbrev main_v137 : Ref sig .tc := ⟨.hbm, 235, rfl⟩
abbrev main_c_32 : Ref sig .tc := ⟨.hbm, 236, rfl⟩
abbrev main_c_33 : Ref sig .tc := ⟨.hbm, 237, rfl⟩
abbrev main_v138_0 : Ref sig .tc := ⟨.hbm, 238, rfl⟩
abbrev main_v138_1 : Ref sig .tc := ⟨.hbm, 239, rfl⟩
abbrev main_v138_2 : Ref sig .tc := ⟨.hbm, 240, rfl⟩
abbrev main_v138_3 : Ref sig .tc := ⟨.hbm, 241, rfl⟩
abbrev main_v138_4 : Ref sig .tc := ⟨.hbm, 242, rfl⟩
abbrev main_while0c_c_45 : Ref sig .tc := ⟨.hbm, 243, rfl⟩
abbrev main_while0c_v154 : Ref sig .tc := ⟨.hbm, 244, rfl⟩
abbrev main_while0b_c_45 : Ref sig .tc := ⟨.hbm, 245, rfl⟩
abbrev main_while0b_v154 : Ref sig .tc := ⟨.hbm, 246, rfl⟩
abbrev main_while0b_call8_c : Ref sig .tc := ⟨.hbm, 247, rfl⟩
abbrev main_while0b_call8_v0 : Ref sig .tc := ⟨.hbm, 248, rfl⟩
abbrev main_while0b_call8_v1 : Ref sig .tc := ⟨.hbm, 249, rfl⟩
abbrev main_while0b_call8_c_0 : Ref sig .tc := ⟨.hbm, 250, rfl⟩
abbrev main_while0b_call8_v2 : Ref sig .tc := ⟨.hbm, 251, rfl⟩
abbrev main_while0b_call8_v3 : Ref sig .tc := ⟨.hbm, 252, rfl⟩
abbrev main_while0b_call8_c_1 : Ref sig .tc := ⟨.hbm, 253, rfl⟩
abbrev main_while0b_call8_c_2 : Ref sig .tc := ⟨.hbm, 254, rfl⟩
abbrev main_while0b_call8_v4 : Ref sig .tc := ⟨.hbm, 255, rfl⟩
abbrev main_while0b_v155 : Ref sig .tc := ⟨.hbm, 256, rfl⟩
abbrev main_while0b_c_46 : Ref sig .tc := ⟨.hbm, 257, rfl⟩
abbrev main_while0b_v156 : Ref sig .tc := ⟨.hbm, 258, rfl⟩
abbrev main_while0b_v157 : Ref sig .tc := ⟨.hbm, 259, rfl⟩
abbrev main_while0b_c_47 : Ref sig .tc := ⟨.hbm, 260, rfl⟩
abbrev main_while0b_v158 : Ref sig .tc := ⟨.hbm, 261, rfl⟩
abbrev main_while0b_v159 : Ref sig .tc := ⟨.hbm, 262, rfl⟩
abbrev main_while0b_c_48 : Ref sig .tc := ⟨.hbm, 263, rfl⟩
abbrev main_while0b_v160 : Ref sig .tc := ⟨.hbm, 264, rfl⟩
abbrev main_while0b_cst_49 : Ref sig .tc := ⟨.hbm, 265, rfl⟩
abbrev main_while0b_v161 : Ref sig .tc := ⟨.hbm, 266, rfl⟩
abbrev main_while0b_v162 : Ref sig .tc := ⟨.hbm, 267, rfl⟩
abbrev main_while0b_v163 : Ref sig .tc := ⟨.hbm, 268, rfl⟩
abbrev main_while0b_v164 : Ref sig .tc := ⟨.hbm, 269, rfl⟩
abbrev main_while0b_v165 : Ref sig .tc := ⟨.hbm, 270, rfl⟩
abbrev main_while0b_v166 : Ref sig .tc := ⟨.hbm, 271, rfl⟩
abbrev main_while0b_v167 : Ref sig .tc := ⟨.hbm, 272, rfl⟩
abbrev main_while0b_v168 : Ref sig .tc := ⟨.hbm, 273, rfl⟩
abbrev main_while0b_v169 : Ref sig .tc := ⟨.hbm, 274, rfl⟩
abbrev main_while0b_v170 : Ref sig .tc := ⟨.hbm, 275, rfl⟩
abbrev main_while0b_v171 : Ref sig .tc := ⟨.hbm, 276, rfl⟩
abbrev main_while0b_c_50 : Ref sig .tc := ⟨.hbm, 277, rfl⟩
abbrev main_while0b_v172 : Ref sig .tc := ⟨.hbm, 278, rfl⟩
abbrev main_cst_34 : Ref sig .tc := ⟨.hbm, 279, rfl⟩
abbrev main_call9_v0 : Ref sig .tc := ⟨.hbm, 280, rfl⟩
abbrev main_call9_v1 : Ref sig .tc := ⟨.hbm, 281, rfl⟩
abbrev main_v139 : Ref sig .tc := ⟨.hbm, 282, rfl⟩
abbrev main_values_35 : Ref sig .tc := ⟨.hbm, 283, rfl⟩
abbrev main_indices_36 : Ref sig .tc := ⟨.hbm, 284, rfl⟩
abbrev main_cst_37 : Ref sig .tc := ⟨.hbm, 285, rfl⟩
abbrev main_v140 : Ref sig .tc := ⟨.hbm, 286, rfl⟩
abbrev main_v141 : Ref sig .tc := ⟨.hbm, 287, rfl⟩
abbrev main_v142 : Ref sig .tc := ⟨.hbm, 288, rfl⟩
abbrev main_v143 : Ref sig .tc := ⟨.hbm, 289, rfl⟩
abbrev main_call10_c : Ref sig .tc := ⟨.hbm, 290, rfl⟩
abbrev main_call10_v0 : Ref sig .tc := ⟨.hbm, 291, rfl⟩
abbrev main_call10_v1 : Ref sig .tc := ⟨.hbm, 292, rfl⟩
abbrev main_call10_c_0 : Ref sig .tc := ⟨.hbm, 293, rfl⟩
abbrev main_call10_v2 : Ref sig .tc := ⟨.hbm, 294, rfl⟩
abbrev main_call10_v3 : Ref sig .tc := ⟨.hbm, 295, rfl⟩
abbrev main_call10_v4 : Ref sig .tc := ⟨.hbm, 296, rfl⟩
abbrev main_call10_c_1 : Ref sig .tc := ⟨.hbm, 297, rfl⟩
abbrev main_call10_c_2 : Ref sig .tc := ⟨.hbm, 298, rfl⟩
abbrev main_call10_v5 : Ref sig .tc := ⟨.hbm, 299, rfl⟩
abbrev main_call10_v6 : Ref sig .tc := ⟨.hbm, 300, rfl⟩
abbrev main_call10_v7 : Ref sig .tc := ⟨.hbm, 301, rfl⟩
abbrev main_call10_v8 : Ref sig .tc := ⟨.hbm, 302, rfl⟩
abbrev main_call10_v9 : Ref sig .tc := ⟨.hbm, 303, rfl⟩
abbrev main_call10_v10 : Ref sig .tc := ⟨.hbm, 304, rfl⟩
abbrev main_call10_c_3 : Ref sig .tc := ⟨.hbm, 305, rfl⟩
abbrev main_call10_v11 : Ref sig .tc := ⟨.hbm, 306, rfl⟩
abbrev main_call10_v12 : Ref sig .tc := ⟨.hbm, 307, rfl⟩
abbrev main_call10_v13 : Ref sig .tc := ⟨.hbm, 308, rfl⟩
abbrev main_call10_cst : Ref sig .tc := ⟨.hbm, 309, rfl⟩
abbrev main_call10_v14 : Ref sig .tc := ⟨.hbm, 310, rfl⟩
abbrev main_v144 : Ref sig .tc := ⟨.hbm, 311, rfl⟩
abbrev main_call11_c : Ref sig .tc := ⟨.hbm, 312, rfl⟩
abbrev main_call11_v0 : Ref sig .tc := ⟨.hbm, 313, rfl⟩
abbrev main_call11_v1 : Ref sig .tc := ⟨.hbm, 314, rfl⟩
abbrev main_call11_c_0 : Ref sig .tc := ⟨.hbm, 315, rfl⟩
abbrev main_call11_v2 : Ref sig .tc := ⟨.hbm, 316, rfl⟩
abbrev main_call11_v3 : Ref sig .tc := ⟨.hbm, 317, rfl⟩
abbrev main_call11_v4 : Ref sig .tc := ⟨.hbm, 318, rfl⟩
abbrev main_call11_v5 : Ref sig .tc := ⟨.hbm, 319, rfl⟩
abbrev main_call11_c_1 : Ref sig .tc := ⟨.hbm, 320, rfl⟩
abbrev main_call11_c_2 : Ref sig .tc := ⟨.hbm, 321, rfl⟩
abbrev main_call11_v6 : Ref sig .tc := ⟨.hbm, 322, rfl⟩
abbrev main_call11_v7 : Ref sig .tc := ⟨.hbm, 323, rfl⟩
abbrev main_call11_v8 : Ref sig .tc := ⟨.hbm, 324, rfl⟩
abbrev main_call11_v9 : Ref sig .tc := ⟨.hbm, 325, rfl⟩
abbrev main_call11_v10 : Ref sig .tc := ⟨.hbm, 326, rfl⟩
abbrev main_call11_v11 : Ref sig .tc := ⟨.hbm, 327, rfl⟩
abbrev main_call11_c_3 : Ref sig .tc := ⟨.hbm, 328, rfl⟩
abbrev main_call11_v12 : Ref sig .tc := ⟨.hbm, 329, rfl⟩
abbrev main_call11_v13 : Ref sig .tc := ⟨.hbm, 330, rfl⟩
abbrev main_call11_c_4 : Ref sig .tc := ⟨.hbm, 331, rfl⟩
abbrev main_call11_v14 : Ref sig .tc := ⟨.hbm, 332, rfl⟩
abbrev main_v145 : Ref sig .tc := ⟨.hbm, 333, rfl⟩
abbrev main_v146 : Ref sig .tc := ⟨.hbm, 334, rfl⟩
abbrev main_v147 : Ref sig .tc := ⟨.hbm, 335, rfl⟩
abbrev main_cst_38 : Ref sig .tc := ⟨.hbm, 336, rfl⟩
abbrev main_call12_v0 : Ref sig .tc := ⟨.hbm, 337, rfl⟩
abbrev main_call12_v1 : Ref sig .tc := ⟨.hbm, 338, rfl⟩
abbrev main_call12_v2 : Ref sig .tc := ⟨.hbm, 339, rfl⟩
abbrev main_v148 : Ref sig .tc := ⟨.hbm, 340, rfl⟩
abbrev main_v149 : Ref sig .tc := ⟨.hbm, 341, rfl⟩
abbrev main_cst_39 : Ref sig .tc := ⟨.hbm, 342, rfl⟩
abbrev main_v150 : Ref sig .tc := ⟨.hbm, 343, rfl⟩
abbrev main_v151 : Ref sig .tc := ⟨.hbm, 344, rfl⟩
abbrev main_c_40 : Ref sig .tc := ⟨.hbm, 345, rfl⟩
abbrev main_call13_v0 : Ref sig .tc := ⟨.hbm, 346, rfl⟩
abbrev main_call13_v1 : Ref sig .tc := ⟨.hbm, 347, rfl⟩
abbrev main_v152 : Ref sig .tc := ⟨.hbm, 348, rfl⟩
abbrev main_v153 : Ref sig .tc := ⟨.hbm, 349, rfl⟩

abbrev nD : Nat := 1
abbrev τ : Topo := Topo.v7x

variable {F : FTy → Type} [FloatOps F]

abbrev main_while0_count : Scf.Loop 32 := ⟨0#32, 1000#32, 1#32⟩
-- ==== Proof.ReferenceFrames.lean ====
/- The two references are host programs: they declare no semaphore, and none of their operations writes an argument
   array. So their frames follow from their runs. The run of the selection's reference is a straight line, a counted
   loop of 1000 trips and a second straight line; here are the buffers that each of its stretches leaves alone. -/
module

public import proofs.«01_k».proof.Defs
public import proofs.«01_k».proof.Proof.Gen.ScoreReferenceIdeal
public import proofs.«01_k».proof.Proof.Gen.ScoreReferenceIdeal.Run
public import proofs.«01_k».proof.Proof.Gen.SelectReferenceIdeal
public import proofs.«01_k».proof.Proof.Gen.SelectReferenceIdeal.Run
public import Idealize.ShloMosaic.Adequacy
public import Idealize.ShloMosaic.Init

@[expose] public section

noncomputable section

set_option maxRecDepth 16384

open Idealize.ShloMosaic Idealize.ShloMosaic.TcCoe Idealize.ShloMosaic.StableHlo
open Idealize.SL.Sem

namespace Cert.Proof.ReferenceFrames

/-- The first reference ends with its arguments unchanged and every counter at zero. -/
theorem score : Cert.quiescent_ScoreReferenceIdeal := by
  intro m ρ _
  exact (θ_run Cert.ScoreReferenceIdeal.defs _ _).mono (fun r h => ⟨fun c => (h c).2,
      Idealize.ShloMosaic.sem_eq_zero_of_no_sems (by decide) r.2⟩)
    (Cert.ScoreReferenceIdeal.Value.run (F := Ideal) m ρ)

open Cert.SelectReferenceIdeal Cert.SelectReferenceIdeal.Gen Cert.SelectReferenceIdeal.Value

variable {F : FTy → Type} [FloatOps F]

/-- The buffers that the stretch `hostOps0_17` writes. -/
abbrev written17 : List (Ref sig .tc) := [main_cst_34]
theorem writes17 : (hostOps0_17 : List (HloOp τ sig (Elt F))).Forall fun op => op.writes ⊆ (written17.map (Proc.devRef (τ := τ) .tc)).toFinset :=
  StableHlo.forall_writes_sub_of_map rfl

/-- The buffers that the stretch `hostOps0_18` writes. -/
abbrev written18 : List (Ref sig .tc) := [main_call9_v0, main_call9_v1, main_v139]
theorem writes18 : (hostOps0_18 : List (HloOp τ sig (Elt F))).Forall fun op => op.writes ⊆ (written18.map (Proc.devRef (τ := τ) .tc)).toFinset :=
  StableHlo.forall_writes_sub_of_map rfl

/-- The buffers that the stretch `hostOps0_19` writes. -/
abbrev written19 : List (Ref sig .tc) := [main_values_35, main_indices_36, main_cst_37, main_v140, main_v141, main_v142, main_v143]
theorem writes19 : (hostOps0_19 : List (HloOp τ sig (Elt F))).Forall fun op => op.writes ⊆ (written19.map (Proc.devRef (τ := τ) .tc)).toFinset :=
  StableHlo.forall_writes_sub_of_map rfl

/-- The buffers that the stretch `hostOps0_20` writes. -/
abbrev written20 : List (Ref sig .tc) := [main_call10_c, main_call10_v0, main_call10_v1, main_call10_c_0, main_call10_v2, main_call10_v3, main_call10_v4, main_call10_c_1, main_call10_c_2, main_call10_v5, main_call10_v6, main_call10_v7, main_call10_v8, main_call10_v9, main_call10_v10, main_call10_c_3, main_call10_v11, main_call10_v12, main_call10_v13, main_call10_cst, main_call10_v14, main_v144]
theorem writes20 : (hostOps0_20 : List (HloOp τ sig (Elt F))).Forall fun op => op.writes ⊆ (written20.map (Proc.devRef (τ := τ) .tc)).toFinset :=
  StableHlo.forall_writes_sub_of_map rfl

/-- The buffers that the stretch `hostOps0_21` writes. -/
abbrev written21 : List (Ref sig .tc) := [main_call11_c, main_call11_v0, main_call11_v1, main_call11_c_0, main_call11_v2, main_call11_v3, main_call11_v4, main_call11_v5, main_call11_c_1, main_call11_c_2, main_call11_v6, main_call11_v7, main_call11_v8, main_call11_v9, main_call11_v10, main_call11_v11, main_call11_c_3, main_call11_v12, main_call11_v13, main_call11_c_4, main_call11_v14, main_v145]
theorem writes21 : (hostOps0_21 : List (HloOp τ sig (Elt F))).Forall fun op => op.writes ⊆ (written21.map (Proc.devRef (τ := τ) .tc)).toFinset :=
  StableHlo.forall_writes_sub_of_map rfl

/-- The buffers that the stretch `hostOps0_22` writes. -/
abbrev written22 : List (Ref sig .tc) := [main_v146, main_v147, main_cst_38]
theorem writes22 : (hostOps0_22 : List (HloOp τ sig (Elt F))).Forall fun op => op.writes ⊆ (written22.map (Proc.devRef (τ := τ) .tc)).toFinset :=
  StableHlo.forall_writes_sub_of_map rfl

/-- The buffers that the stretch `hostOps0_23` writes. -/
abbrev written23 : List (Ref sig .tc) := [main_call12_v0, main_call12_v1, main_call12_v2, main_v148]
theorem writes23 : (hostOps0_23 : List (HloOp τ sig (Elt F))).Forall fun op => op.writes ⊆ (written23.map (Proc.devRef (τ := τ) .tc)).toFinset :=
  StableHlo.forall_writes_sub_of_map rfl

/-- The buffers that the stretch `hostOps0_24` writes. -/
abbrev written24 : List (Ref sig .tc) := [main_v149, main_cst_39, main_v150, main_v151, main_c_40]
theorem writes24 : (hostOps0_24 : List (HloOp τ sig (Elt F))).Forall fun op => op.writes ⊆ (written24.map (Proc.devRef (τ := τ) .tc)).toFinset :=
  StableHlo.forall_writes_sub_of_map rfl

/-- The buffers that the stretch `hostOps0_25` writes. -/
abbrev written25 : List (Ref sig .tc) := [main_call13_v0, main_call13_v1, main_v152]
theorem writes25 : (hostOps0_25 : List (HloOp τ sig (Elt F))).Forall fun op => op.writes ⊆ (written25.map (Proc.devRef (τ := τ) .tc)).toFinset :=
  StableHlo.forall_writes_sub_of_map rfl

/-- The buffers that the stretch `hostOps0_26` writes. -/
abbrev written26 : List (Ref sig .tc) := [main_v153]
theorem writes26 : (hostOps0_26 : List (HloOp τ sig (Elt F))).Forall fun op => op.writes ⊆ (written26.map (Proc.devRef (τ := τ) .tc)).toFinset :=
  StableHlo.forall_writes_sub_of_map rfl

/-- A buffer that no operation before the loop writes is unchanged by them. -/
theorem pre_keep (r : Ref sig .tc) (h0 : r ∉ hostOps0_W) (h1 : r ∉ hostOps0_1_W) (h2 : r ∉ hostOps0_2_W) (h3 : r ∉ hostOps0_3_W) (h4 : r ∉ hostOps0_4_W) (h5 : r ∉ hostOps0_5_W) (h6 : r ∉ hostOps0_6_W) (h7 : r ∉ hostOps0_7_W) (h8 : r ∉ hostOps0_8_W) (h9 : r ∉ hostOps0_9_W) (h10 : r ∉ hostOps0_10_W) (h11 : r ∉ hostOps0_11_W) (h12 : r ∉ hostOps0_12_W) (h13 : r ∉ hostOps0_13_W) (h14 : r ∉ hostOps0_14_W) (h15 : r ∉ hostOps0_15_W) (h16 : r ∉ hostOps0_16_W)
    (V : Valuation τ sig (Elt F)) : afterL preI V (Proc.devRef .tc r) = V (Proc.devRef .tc r) := by
  simp only [afterL_cons, afterL_nil]
  rw [after_of_writes_sub hostOps0_16 _ hostOps0_16_writes h16,
    after_of_writes_sub hostOps0_15 _ hostOps0_15_writes h15,
    after_of_writes_sub hostOps0_14 _ hostOps0_14_writes h14,
    after_of_writes_sub hostOps0_13 _ hostOps0_13_writes h13,
    after_of_writes_sub hostOps0_12 _ hostOps0_12_writes h12,
    after_of_writes_sub hostOps0_11 _ hostOps0_11_writes h11,
    after_of_writes_sub hostOps0_10 _ hostOps0_10_writes h10,
    after_of_writes_sub hostOps0_9 _ hostOps0_9_writes h9,
    after_of_writes_sub hostOps0_8 _ hostOps0_8_writes h8,
    after_of_writes_sub hostOps0_7 _ hostOps0_7_writes h7,
    after_of_writes_sub hostOps0_6 _ hostOps0_6_writes h6,
    after_of_writes_sub hostOps0_5 _ hostOps0_5_writes h5,
    after_of_writes_sub hostOps0_4 _ hostOps0_4_writes h4,
    after_of_writes_sub hostOps0_3 _ hostOps0_3_writes h3,
    after_of_writes_sub hostOps0_2 _ hostOps0_2_writes h2,
    after_of_writes_sub hostOps0_1 _ hostOps0_1_writes h1,
    after_of_writes_sub hostOps0 _ hostOps0_writes h0]

/-- A buffer that no operation of the loop's body writes is unchanged by one trip. -/
theorem trip_keep (r : Ref sig .tc) (h0 : r ∉ while0Ops0_W) (h1 : r ∉ while0Ops0_1_W) (h2 : r ∉ while0Ops0_2_W)
    (V : Valuation τ sig (Elt F)) : afterL bodyI V (Proc.devRef .tc r) = V (Proc.devRef .tc r) := by
  simp only [afterL_cons, afterL_nil]
  rw [after_of_writes_sub while0Ops0_2 _ while0Ops0_2_writes h2,
    after_of_writes_sub while0Ops0_1 _ while0Ops0_1_writes h1,
    after_of_writes_sub while0Ops0 _ while0Ops0_writes h0]

/-- A buffer that no operation after the loop writes is unchanged by them. -/
theorem post_keep (r : Ref sig .tc) (h0 : r ∉ written17) (h1 : r ∉ written18) (h2 : r ∉ written19) (h3 : r ∉ written20) (h4 : r ∉ written21) (h5 : r ∉ written22) (h6 : r ∉ written23) (h7 : r ∉ written24) (h8 : r ∉ written25) (h9 : r ∉ written26)
    (V : Valuation τ sig (Elt F)) : afterL postI V (Proc.devRef .tc r) = V (Proc.devRef .tc r) := by
  simp only [afterL_cons, afterL_nil]
  rw [after_of_writes_sub hostOps0_26 _ writes26 h9,
    after_of_writes_sub hostOps0_25 _ writes25 h8,
    after_of_writes_sub hostOps0_24 _ writes24 h7,
    after_of_writes_sub hostOps0_23 _ writes23 h6,
    after_of_writes_sub hostOps0_22 _ writes22 h5,
    after_of_writes_sub hostOps0_21 _ writes21 h4,
    after_of_writes_sub hostOps0_20 _ writes20 h3,
    after_of_writes_sub hostOps0_19 _ writes19 h2,
    after_of_writes_sub hostOps0_18 _ writes18 h1,
    after_of_writes_sub hostOps0_17 _ writes17 h0]

/-- A buffer that neither the condition nor the body writes is unchanged by any number of trips. -/
theorem trips_keep (r : Ref sig .tc) (hc : r ∉ condOps_W) (h0 : r ∉ while0Ops0_W) (h1 : r ∉ while0Ops0_1_W)
    (h2 : r ∉ while0Ops0_2_W) (W : Dev nD → Valuation τ sig (Elt F)) (c : Dev nD) :
    ∀ n, atTrip condOps bodyI W n c (Proc.devRef .tc r) = W c (Proc.devRef .tc r)
  | 0 => rfl
  | n + 1 => by
    rw [atTrip_succ, trip_keep r h0 h1 h2, after_of_writes_sub condOps _ condOps_writes hc, trips_keep r hc h0 h1 h2 W c n]

/-- A buffer that no operation writes ends as it began. -/
theorem final_keep (r : Ref sig .tc)
    (a0 : r ∉ hostOps0_W) (a1 : r ∉ hostOps0_1_W) (a2 : r ∉ hostOps0_2_W) (a3 : r ∉ hostOps0_3_W) (a4 : r ∉ hostOps0_4_W) (a5 : r ∉ hostOps0_5_W) (a6 : r ∉ hostOps0_6_W) (a7 : r ∉ hostOps0_7_W) (a8 : r ∉ hostOps0_8_W) (a9 : r ∉ hostOps0_9_W) (a10 : r ∉ hostOps0_10_W) (a11 : r ∉ hostOps0_11_W) (a12 : r ∉ hostOps0_12_W) (a13 : r ∉ hostOps0_13_W) (a14 : r ∉ hostOps0_14_W) (a15 : r ∉ hostOps0_15_W) (a16 : r ∉ hostOps0_16_W) (hc : r ∉ condOps_W) (t0 : r ∉ while0Ops0_W) (t1 : r ∉ while0Ops0_1_W) (t2 : r ∉ while0Ops0_2_W)
    (b17 : r ∉ written17) (b18 : r ∉ written18) (b19 : r ∉ written19) (b20 : r ∉ written20) (b21 : r ∉ written21) (b22 : r ∉ written22) (b23 : r ∉ written23) (b24 : r ∉ written24) (b25 : r ∉ written25) (b26 : r ∉ written26) (m : (ℓ : Loc nD τ sig) → Buf (Elt F) ℓ) (c : Dev nD) :
    finalContents condOps preI bodyI postI 1000 m c (Proc.devRef .tc r) = m ((c.tc : Thread nD τ).loc r) := by
  unfold finalContents
  rw [post_keep r b17 b18 b19 b20 b21 b22 b23 b24 b25 b26, after_of_writes_sub condOps _ condOps_writes hc,
    trips_keep r hc t0 t1 t2, entryContents, pre_keep r a0 a1 a2 a3 a4 a5 a6 a7 a8 a9 a10 a11 a12 a13 a14 a15 a16]

/-- The selection's reference leaves its arguments as they were launched. -/
theorem select_args (m : (ℓ : Loc nD τ sig) → Buf (Elt F) ℓ) (c : Dev nD) (r : Ref sig .tc)
    (hr : r ∈ [main_arg0, main_arg1, main_arg2, main_arg3, main_arg4]) :
    finalContents condOps preI bodyI postI 1000 m c (Proc.devRef .tc r) = m ((c.tc : Thread nD τ).loc r) := by
  simp only [List.mem_cons, List.not_mem_nil, or_false] at hr
  rcases hr with rfl | rfl | rfl | rfl | rfl
  all_goals exact final_keep _ (by decide +kernel) (by decide +kernel) (by decide +kernel) (by decide +kernel) (by decide +kernel) (by decide +kernel) (by decide +kernel) (by decide +kernel) (by decide +kernel) (by decide +kernel) (by decide +kernel) (by decide +kernel) (by decide +kernel) (by decide +kernel) (by decide +kernel) (by decide +kernel) (by decide +kernel) (by decide +kernel) (by decide +kernel) (by decide +kernel) (by decide +kernel) (by decide +kernel) (by decide +kernel) (by decide +kernel) (by decide +kernel) (by decide +kernel) (by decide +kernel) (by decide +kernel) (by decide +kernel) (by decide +kernel) (by decide +kernel) m c

/-- The selection's reference ends with its arguments unchanged and every counter at zero. -/
theorem select : Cert.quiescent_SelectReferenceIdeal := by
  intro m ρ _
  exact (θ_run Cert.SelectReferenceIdeal.defs _ _).mono (fun r h => ⟨fun c =>
      ⟨(h c main_arg0 rfl).trans (select_args m c _ (by decide)), (h c main_arg1 rfl).trans (select_args m c _ (by decide)),
        (h c main_arg2 rfl).trans (select_args m c _ (by decide)), (h c main_arg3 rfl).trans (select_args m c _ (by decide)),
        (h c main_arg4 rfl).trans (select_args m c _ (by decide))⟩,
      Idealize.ShloMosaic.sem_eq_zero_of_no_sems (by decide) r.2⟩)
    (Cert.SelectReferenceIdeal.Value.run_fold (F := Ideal) m ρ)

end Cert.Proof.ReferenceFrames
-- ==== Proof.SelectIdealRun.lean ====
/-
  The idealized selection kernel's run, for any float values.

  The body reads nine blocks, runs one counted loop that touches no memory, and stores one block. `kernelRun` runs it on
  any staging buffers; what it leaves in the result's buffer is a value the run finds, the loop standing in it as the fold
  of its region. From it: the proof data of the pipeline, the body obligation, the run of the program, and the frame.
-/
module

public import proofs.«01_k».proof.Proof.Gen.SelectIdeal.Frame
public import proofs.«01_k».proof.Proof.Gen.SelectIdeal.Skeleton
public import Idealize.ShloMosaic.Lib.Tactic

@[expose] public section

noncomputable section

namespace Cert.Proof.SelectIdeal

open Cert.SelectIdeal Cert.SelectIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- One trip of the loop, as a function of the trip and the suppression row carried. -/
def tripFn (v15 v25 v31 v37 v43 : FVec F S1x1024 .f32) (v57 : IVec S1x1024 1) (v70 cst_44 : F .f32) (v101 : IVec S1x1024 32)
    (k : Fin k0_t1_loop.trips) (acc : FVec F S1x1024 .f32) : FVec F S1x1024 .f32 :=
  k0_pay31 v15 v25 v31 v37 v43 v57 v70 cst_44 acc (Scf.iv 0#32 1#32 k)
    (k0_pay3 (k0_pay28 v15 v25 v31 v37 v43 v57 v70 cst_44) v101 0#32 1#32 k)
    (k0_pay4 v101 (k0_pay29 (F := F) v57) 0#32 1#32 k acc)
    (k0_pay5 (k0_pay25 v15 v31 v37 v43 v57 v70 cst_44) v101 0#32 1#32 k)
    (k0_pay6 (k0_pay27 v15 v37 v43 v57 v70 cst_44) v101 0#32 1#32 k)
    (k0_pay7 (k0_pay24 v15 v25 v37 v43 v57 v70 cst_44) (k0_pay26 v15 v37 v43 v57 v70 cst_44) v101 0#32 1#32 k)

/-- The suppression row after the loop. -/
def suppOut (v15 v25 v31 v37 v43 : FVec F S1x1024 .f32) (v57 : IVec S1x1024 1) (v70 cst_44 : F .f32) (v101 : IVec S1x1024 32) :
    FVec F S1x1024 .f32 :=
  Scf.fold (tripFn v15 v25 v31 v37 v43 v57 v70 cst_44 v101) (k0_pay30 (F := F))

/-- The part of the body that holds the loop touches no memory: it returns the loop's fold. -/
theorem part4_eq (i : grid0.Coords) (M0 : Memref sig .tc .vmem S1x1x1024 .f32) (h0 : M0.IsWhole) (M1 : Memref sig .tc .vmem S1x1x1024 .f32) (h1 : M1.IsWhole) (M2 : Memref sig .tc .vmem S1x1x1024 .f32) (h2 : M2.IsWhole) (M3 : Memref sig .tc .vmem S1x1x1024 .f32) (h3 : M3.IsWhole) (M4 : Memref sig .tc .vmem S1x1x1024 .f32) (h4 : M4.IsWhole) (M5 : Memref sig .tc .vmem S1x1x1024 .f32) (h5 : M5.IsWhole) (M6 : Memref sig .tc .vmem S1x1x1024 .f32) (h6 : M6.IsWhole) (M7 : Memref sig .tc .vmem S1x1x1024 .f32) (h7 : M7.IsWhole) (M8 : Memref sig .tc .vmem S1x1x128 .f32) (h8 : M8.IsWhole) (M9 : Memref sig .tc .vmem S1x128x8 .f32) (h9 : M9.IsWhole) (v15 v25 v31 v37 v43 : FVec F S1x1024 .f32) (v57 : IVec S1x1024 1) (v70 cst_44 : F .f32) :
    k0_part4 i M0 h0 M1 h1 M2 h2 M3 h3 M4 h4 M5 h5 M6 h6 M7 h7 M8 h8 M9 h9 v15 v25 v31 v37 v43 v57 v70 cst_44
      = pure ⟨k0_pay32 v57 (suppOut v15 v25 v31 v37 v43 v57 v70 cst_44 (iota .tc S1x1024 32 [1] iota_S1x1024_d1_w32)),
          k0_pay33 (F := F), k0_pay34 (F := F)⟩ := by
  rw [k0_part4_eq_skeleton]
  exact Scf.for_pure_bind _ _ _ _ _ _ (tripFn v15 v25 v31 v37 v43 v57 v70 cst_44 (iota .tc S1x1024 32 [1] iota_S1x1024_d1_w32)) (fun _ _ => rfl) _

set_option maxHeartbeats 4000000 in
/-- The body on whole staging buffers, the nine inputs at `x0 … x8` and the result's at anything: it ends with the inputs
    as they were and the result's buffer at a value that the run finds. -/
def kernelRun (c : Dev nD) (i : grid0.Coords) (M0 : Memref sig .tc .vmem S1x1x1024 .f32) (h0 : M0.IsWhole) (M1 : Memref sig .tc .vmem S1x1x1024 .f32) (h1 : M1.IsWhole) (M2 : Memref sig .tc .vmem S1x1x1024 .f32) (h2 : M2.IsWhole) (M3 : Memref sig .tc .vmem S1x1x1024 .f32) (h3 : M3.IsWhole) (M4 : Memref sig .tc .vmem S1x1x1024 .f32) (h4 : M4.IsWhole) (M5 : Memref sig .tc .vmem S1x1x1024 .f32) (h5 : M5.IsWhole) (M6 : Memref sig .tc .vmem S1x1x1024 .f32) (h6 : M6.IsWhole) (M7 : Memref sig .tc .vmem S1x1x1024 .f32) (h7 : M7.IsWhole) (M8 : Memref sig .tc .vmem S1x1x128 .f32) (h8 : M8.IsWhole) (M9 : Memref sig .tc .vmem S1x128x8 .f32) (h9 : M9.IsWhole)
    (x0 : Vec F S1x1x1024 .f32) (x1 : Vec F S1x1x1024 .f32) (x2 : Vec F S1x1x1024 .f32) (x3 : Vec F S1x1x1024 .f32) (x4 : Vec F S1x1x1024 .f32) (x5 : Vec F S1x1x1024 .f32) (x6 : Vec F S1x1x1024 .f32) (x7 : Vec F S1x1x1024 .f32) (x8 : Vec F S1x1x128 .f32) :
    { Y : Vec F S1x128x8 .f32 //
      ∀ (E : Set ℕ) (K : PUnit → sProp 𝕄),
        iprop(owns (c : Thread nD τ) M0 fullShare x0 ∗ owns (c : Thread nD τ) M1 fullShare x1 ∗ owns (c : Thread nD τ) M2 fullShare x2 ∗ owns (c : Thread nD τ) M3 fullShare x3 ∗ owns (c : Thread nD τ) M4 fullShare x4 ∗ owns (c : Thread nD τ) M5 fullShare x5 ∗ owns (c : Thread nD τ) M6 fullShare x6 ∗ owns (c : Thread nD τ) M7 fullShare x7 ∗ owns (c : Thread nD τ) M8 fullShare x8 ∗ (∃ d, owns (c : Thread nD τ) M9 fullShare d)
            ∗ (iprop(owns (c : Thread nD τ) M0 fullShare x0 ∗ owns (c : Thread nD τ) M1 fullShare x1 ∗ owns (c : Thread nD τ) M2 fullShare x2 ∗ owns (c : Thread nD τ) M3 fullShare x3 ∗ owns (c : Thread nD τ) M4 fullShare x4 ∗ owns (c : Thread nD τ) M5 fullShare x5 ∗ owns (c : Thread nD τ) M6 fullShare x6 ∗ owns (c : Thread nD τ) M7 fullShare x7 ∗ owns (c : Thread nD τ) M8 fullShare x8 ∗ owns (c : Thread nD τ) M9 fullShare Y) -∗ K ⟨⟩))
          ⊢ wp frame (wpE (defs₀ (F := F)) Variants.none c none) E (cc0__nms_body i M0 h0 M1 h1 M2 h2 M3 h3 M4 h4 M5 h5 M6 h6 M7 h7 M8 h8 M9 h9) K } := by
  refine ⟨?_, fun E K => ?run⟩
  case run =>
    simp only [cc0__nms_body_eq_skeleton]; unfold cc0__nms_body_skel
    simp only [part4_eq]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
    obtain rfl := h0.eq_unread hf0
    obtain rfl := h1.eq_unread hf1
    obtain rfl := h2.eq_unread hf2
    obtain rfl := h3.eq_unread hf3
    obtain rfl := h4.eq_unread hf4
    obtain rfl := h5.eq_unread hf5
    obtain rfl := h6.eq_unread hf6
    obtain rfl := h7.eq_unread hf7
    obtain rfl := h8.eq_unread hf8
    sl_exec!
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; isplitr; · ipureintro; exact h8.read_unread _
      iexact H8
    iexists _; isplitr; swap; · iexact H9
    ipureintro; rfl

abbrev st0 (t : Fin cfg0.N) : Memref sig .tc .vmem S1x1x1024 .f32 := win0_0.stage (cfg0.slots t 0)
abbrev whole0 (t : Fin cfg0.N) : (st0 t).IsWhole := hstage0_0 ((cfg0.slots t 0).cast nbuf0_0)
abbrev st1 (t : Fin cfg0.N) : Memref sig .tc .vmem S1x1x1024 .f32 := win0_1.stage (cfg0.slots t 1)
abbrev whole1 (t : Fin cfg0.N) : (st1 t).IsWhole := hstage0_1 ((cfg0.slots t 1).cast nbuf0_1)
abbrev st2 (t : Fin cfg0.N) : Memref sig .tc .vmem S1x1x1024 .f32 := win0_2.stage (cfg0.slots t 2)
abbrev whole2 (t : Fin cfg0.N) : (st2 t).IsWhole := hstage0_2 ((cfg0.slots t 2).cast nbuf0_2)
abbrev st3 (t : Fin cfg0.N) : Memref sig .tc .vmem S1x1x1024 .f32 := win0_3.stage (cfg0.slots t 3)
abbrev whole3 (t : Fin cfg0.N) : (st3 t).IsWhole := hstage0_3 ((cfg0.slots t 3).cast nbuf0_3)
abbrev st4 (t : Fin cfg0.N) : Memref sig .tc .vmem S1x1x1024 .f32 := win0_4.stage (cfg0.slots t 4)
abbrev whole4 (t : Fin cfg0.N) : (st4 t).IsWhole := hstage0_4 ((cfg0.slots t 4).cast nbuf0_4)
abbrev st5 (t : Fin cfg0.N) : Memref sig .tc .vmem S1x1x1024 .f32 := win0_5.stage (cfg0.slots t 5)
abbrev whole5 (t : Fin cfg0.N) : (st5 t).IsWhole := hstage0_5 ((cfg0.slots t 5).cast nbuf0_5)
abbrev st6 (t : Fin cfg0.N) : Memref sig .tc .vmem S1x1x1024 .f32 := win0_6.stage (cfg0.slots t 6)
abbrev whole6 (t : Fin cfg0.N) : (st6 t).IsWhole := hstage0_6 ((cfg0.slots t 6).cast nbuf0_6)
abbrev st7 (t : Fin cfg0.N) : Memref sig .tc .vmem S1x1x1024 .f32 := win0_7.stage (cfg0.slots t 7)
abbrev whole7 (t : Fin cfg0.N) : (st7 t).IsWhole := hstage0_7 ((cfg0.slots t 7).cast nbuf0_7)
abbrev st8 (t : Fin cfg0.N) : Memref sig .tc .vmem S1x1x128 .f32 := win0_8.stage (cfg0.slots t 8)
abbrev whole8 (t : Fin cfg0.N) : (st8 t).IsWhole := hstage0_8 ((cfg0.slots t 8).cast nbuf0_8)
abbrev st9 (t : Fin cfg0.N) : Memref sig .tc .vmem S1x128x8 .f32 := win0_9.stage (cfg0.slots t 9)
abbrev whole9 (t : Fin cfg0.N) : (st9 t).IsWhole := hstage0_9 ((cfg0.slots t 9).cast nbuf0_9)

/-- What the body leaves in the result's staging buffer at point `t`. -/
def outsAt (c : Dev nD) (t : Fin cfg0.N) : Vec F S1x128x8 .f32 :=
  (kernelRun c (grid0.coords t) (st0 t) (whole0 t) (st1 t) (whole1 t) (st2 t) (whole2 t) (st3 t) (whole3 t) (st4 t) (whole4 t) (st5 t) (whole5 t) (st6 t) (whole6 t) (st7 t) (whole7 t) (st8 t) (whole8 t) (st9 t) (whole9 t) (iblk m c 0 t) (iblk m c 1 t) (iblk m c 2 t) (iblk m c 3 t) (iblk m c 4 t) (iblk m c 5 t) (iblk m c 6 t) (iblk m c 7 t) (iblk m c 8 t)).1

/-- The proof data: the arrays as the region finds them; after the body each input's buffer at its block and the
    result's at `outsAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outsAt m c t
  Φ _ := Pipeline.ΦA spec0 c
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = outsAt m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d

/-- The body obligation: the body's triple at the point's staging buffers and blocks. -/
theorem body_obligation (c : Dev nD) : BodyObligation (dats (F := F) m 0 c) (defs₀ (F := F)) Variants.none () Set.univ := fun t => by
  rw [bigSep_W0, bigSep_W0]
  sl_whnfR [defs₀, Defs.onTc]
  simp only [before_0, before_1, before_2, before_3, before_4, before_5, before_6, before_7, before_8]
  rw [show (dats m 0 c).Φ t.succ = (dats m 0 c).Φ t.castSucc from rfl,
    show (dats m 0 c).owesAt () t.succ = (dats m 0 c).owesAt () t.castSucc from rfl, after_0, after_1, after_2, after_3, after_4, after_5, after_6, after_7, after_8, after_9]
  unfold outsAt
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((kernelRun c (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

set_option backward.isDefEq.respectTransparency.types false in
/-- The run: from any memory with zero counters, every weakly fair execution ends, with every array of the pipeline at what
    the proof data gives, every other buffer at what the host lines after the region leave, and every semaphore counter at zero. -/
theorem run_main : θ_run defs (onTc (τ := τ) (main (F := F))) (s₀ m ρ)
    (fun r => Pipeline.FramePost cfgs (dats m) 0
        (Pipeline.afterTail₀ cfgs (dats m) 0 (V0 m) [hostOps1, hostOps1_1, hostOps1_2]) r ∧ r.2.sem = fun _ => 0) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2]) (hsub := sfx_sub)
    (hfresh := sfx_fresh) (hkeep := sfx_keeps) (hmain := hmain m Variants.none) (hA := A_eq m) (hΦ := fun _ _ => rfl)
    (Q' := _) (hQ' := fun _ h => h)

/-- The frame: the arguments end as they were, and the counters at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4))
      ∧ r.2.sem = fun _ => 0) :=
  θ_run_with_sems (frame_of m ρ (dats m) (A_eq m)) (run_main m ρ)

end Cert.Proof.SelectIdeal

end
-- ==== Proof.ScoreKernel.lean ====
/-
The scoring call, read element by element. The grid writes the blocks of rows 0 … 1047 of the result (2000 rows each),
so an element in a row below 2 096 000 holds what the body computes from its own row of the padded class scores, of the
centerness and of the image numbers.
-/
module

public import proofs.«01_k».proof.Proof.Gen.ScoreIdeal.Value
public import Idealize.ShloMosaic.Lib.Pipeline.ValueKit
public import Idealize.ShloMosaic.Lib.Pipeline.Covers
public import Idealize.ShloMosaic.Lib.Pointwise
public import Idealize.ShloMosaic.Lib.Claim
public import Idealize.ShloMosaic.Lib.StableHlo.ReadAt

@[expose] public section

set_option maxRecDepth 16384

noncomputable section

namespace Cert.Proof.ScoreKernel

open Cert.ScoreIdeal Cert.ScoreIdeal.Gen
open Idealize.ShloMosaic Idealize.ShloMosaic.TcCoe Idealize.SL.Sem
open Idealize.ShloMosaic.Pipeline (Dat Cfg Window)

variable {F : FTy → Type} [FloatOps F]
variable (m : (ℓ : Loc nD τ sig) → Buf (Elt F) ℓ)

theorem idx0 (i : grid0.Coords) : cc0_transform_0 i = ![(i 1).val, 0] := by
  have h1 : (i 1).val < 1048 := (i 1).isLt
  funext a
  fin_cases a
  · show (BitVec.ofNat 32 (i 1).val).toNat = (i 1).val
    rw [BitVec.toNat_ofNat]; exact Nat.mod_eq_of_lt (by omega)
  · rfl

theorem idx3 (i : grid0.Coords) : cc0_transform_3 i = ![(i 0).val, (i 1).val, 0] := by
  have h0 : (i 0).val < 16 := (i 0).isLt
  have h1 : (i 1).val < 1048 := (i 1).isLt
  funext a
  fin_cases a
  · show (BitVec.ofNat 32 (i 0).val).toNat = (i 0).val
    rw [BitVec.toNat_ofNat]; exact Nat.mod_eq_of_lt (by omega)
  · show (BitVec.ofNat 32 (i 1).val).toNat = (i 1).val
    rw [BitVec.toNat_ofNat]; exact Nat.mod_eq_of_lt (by omega)
  · rfl

theorem idx1 (i : grid0.Coords) : cc0_transform_1 i = ![(i 1).val, 0] := idx0 i
theorem idx2 (i : grid0.Coords) : cc0_transform_2 i = ![(i 1).val, 0] := idx0 i

/-- The written blocks are the row blocks 0 … 1047 of every image. -/
theorem covers : (cfg0.win 3).CoversWhere (fun β => β (1 : Fin 3) < 1048) := by
  refine ⟨by decide, fun t _ => ⟨?_, (cfg0.win 3).xsize_eq_or_end rfl _⟩, fun β hβ => ?_⟩
  · show cc0_transform_3 (grid0.coords t) 1 < 1048
    rw [idx3]; exact (grid0.coords t 1).isLt
  · obtain ⟨t₀, h₀⟩ := grid0.coords_surjective (fun a => match a with
      | ⟨0, _⟩ => (⟨(β (0 : Fin 3)).val, (β (0 : Fin 3)).isLt⟩ : Fin 16)
      | ⟨1, _⟩ => (⟨(β (1 : Fin 3)).val, hβ⟩ : Fin 1048))
    obtain ⟨t, -, hf, hix⟩ := (cfg0.win 3).exists_flush_same_index rfl t₀
    refine ⟨t, fun a => ?_, hf⟩
    rw [hix]
    show cc0_transform_3 (grid0.coords t₀) a = _
    rw [idx3, h₀]
    fin_cases a
    · rfl
    · rfl
    · have := (β (2 : Fin 3)).isLt
      show 0 = (β (2 : Fin 3)).val
      have h1 : (cfg0.win 3).nblk (2 : Fin 3) = 1 := by decide
      omega

theorem row_lt (t : Fin cfg0.N) (r : Fin 2000) : (grid0.coords t 1).val * 2000 + r.val < 2097152 := by
  have := (grid0.coords t 1).isLt
  have h2 : grid0.bound 1 = 1048 := rfl
  omega

theorem index0_0 (t : Fin cfg0.N) : win0_0.index t = ![(grid0.coords t 1).val, 0] := idx0 _
theorem index0_1 (t : Fin cfg0.N) : win0_1.index t = ![(grid0.coords t 1).val, 0] := idx0 _
theorem index0_2 (t : Fin cfg0.N) : win0_2.index t = ![(grid0.coords t 1).val, 0] := idx0 _
theorem index0_3 (t : Fin cfg0.N) : win0_3.index t = ![(grid0.coords t 0).val, (grid0.coords t 1).val, 0] := idx3 _

theorem X0_at (c : Dev nD) (t : Fin cfg0.N) (r : Fin 2000) (l : Fin 128) :
    X0_0 m c t (ix2 r l) = V m c main_v0 (ix2 (⟨(grid0.coords t 1).val * 2000 + r.val, row_lt t r⟩ : Fin 2097152) l) := by
  unfold X0_0 Window.fill
  rw [dif_pos (moved0_0 t _)]
  unfold iblk
  blk_simp
  refine congrArg (V m c main_v0) (funext fun a => ?_)
  fin_cases a <;> apply Fin.ext <;> blk_simp <;> rw [index0_0]
  · rfl
  · exact (Nat.zero_add _)

theorem X1_at (c : Dev nD) (t : Fin cfg0.N) (r : Fin 2000) (l : Fin 1) :
    X0_1 m c t (ix2 r l) = V m c main_arg1 (ix2 (⟨(grid0.coords t 1).val * 2000 + r.val, row_lt t r⟩ : Fin 2097152) l) := by
  unfold X0_1 Window.fill
  rw [dif_pos (moved0_1 t _)]
  unfold iblk
  blk_simp
  refine congrArg (V m c main_arg1) (funext fun a => ?_)
  fin_cases a <;> apply Fin.ext <;> blk_simp <;> rw [index0_1]
  · rfl
  · exact (Nat.zero_add _)

theorem X2_at (c : Dev nD) (t : Fin cfg0.N) (r : Fin 2000) (l : Fin 1) :
    X0_2 m c t (ix2 r l) = V m c main_v1 (ix2 (⟨(grid0.coords t 1).val * 2000 + r.val, row_lt t r⟩ : Fin 2097152) l) := by
  unfold X0_2 Window.fill
  rw [dif_pos (moved0_2 t _)]
  unfold iblk
  blk_simp
  refine congrArg (V m c main_v1) (funext fun a => ?_)
  fin_cases a <;> apply Fin.ext <;> blk_simp <;> rw [index0_2]
  · rfl
  · exact (Nat.zero_add _)

/-- The score of a class for a location: the product of the two logistic functions. -/
def prob (bc cn : EReal) : EReal := Ideal.div 1 (1 + Ideal.exp (0 - bc)) * Ideal.div 1 (1 + Ideal.exp (0 - cn))

/-- What the body leaves for one element: of its padded class score, its centerness, its row's image number, the image's
    number and the lane. -/
def cell (bc cn : EReal) (bi : BitVec 32) (i l : ℕ) : EReal :=
  Scalar.select
    (IntOp.andi
      (IntOp.andi (BitVec.ofBool (decide (Ideal.ofBits FTy.f32 1028443341#32 < prob bc cn)))
        (IntOp.cmpi CmpIPredicate.slt (BitVec.ofNat 32 l) 10#32))
      (IntOp.cmpi CmpIPredicate.eq bi (BitVec.ofNat 32 i)))
    (Ideal.sqrt (prob bc cn)) (Ideal.ofBits FTy.f32 3212836864#32)

theorem pay_at (i : grid0.Coords) (x0 : Vec Ideal S2000x128 .f32) (x1 : Vec Ideal S2000x1 .f32) (x2 : Vec Ideal S2000x1 .i32)
    (z : Fin 1) (r : Fin 2000) (l : Fin 128) :
    k0_pay1 i x0 x1 x2 (ix3 z r l) = cell (x0 (ix2 r l)) (x1 (ix2 r (0 : Fin 1))) (x2 (ix2 r (0 : Fin 1))) (i 0).val l.val := by
  pointwise [k0_pay1]
  rfl

variable (m : (ℓ : Loc nD τ sig) → Buf (Elt Ideal) ℓ)

/-- An element of a written row: the body's value of that row. -/
theorem kernel_at (c : Dev nD) (i : Fin 16) (r : Fin 2097152) (l : Fin 128) (hr : r.val < 2096000) :
    (dats m 0 c).arrAt 3 cfg0.N (ix3 i r l)
      = cell (V m c main_v0 (ix2 r l)) (V m c main_arg1 (ix2 r (0 : Fin 1))) (V m c main_v1 (ix2 r (0 : Fin 1))) i l := by
  refine ((dats m 0 c).arrAt_apply_of_coversWhere 3
    (fun j : S16x2097152x128.Idx => cell (V m c main_v0 (ix2 (j 1) (j 2))) (V m c main_arg1 (ix2 (j 1) (0 : Fin 1))) (V m c main_v1 (ix2 (j 1) (0 : Fin 1))) (j 0) (j 2))
    (P := fun j : S16x2097152x128.Idx => (j 1).val < 2096000) _ covers (fun t hf y => ?_) (fun j => ?_) (ix3 i r l)).trans (if_pos hr)
  · blk_simp
    rw [after0_3]
    unfold outsAt0
    frame_out
    have hy0 : (y (0 : Fin 3)).val < 1 := Nat.lt_of_lt_of_le (y (0 : Fin 3)).isLt ((win0 3).xsize_le (grid0.coords t) (0 : Fin 3))
    have hy1 : (y (1 : Fin 3)).val < 2000 := Nat.lt_of_lt_of_le (y (1 : Fin 3)).isLt ((win0 3).xsize_le (grid0.coords t) (1 : Fin 3))
    have hy2 : (y (2 : Fin 3)).val < 128 := Nat.lt_of_lt_of_le (y (2 : Fin 3)).isLt ((win0 3).xsize_le (grid0.coords t) (2 : Fin 3))
    have ey : (win0 3).xinj (grid0.coords t) y = ix3 (⟨(y (0 : Fin 3)).val, hy0⟩ : Fin 1) (⟨(y (1 : Fin 3)).val, hy1⟩ : Fin 2000) (⟨(y (2 : Fin 3)).val, hy2⟩ : Fin 128) := by
      funext a
      fin_cases a <;> rfl
    have e1 : ((View.whole main_v2).slice (win0_3.rect t)).emb y (1 : Fin 3) = (⟨(grid0.coords t 1).val * 2000 + (y (1 : Fin 3)).val, row_lt t ⟨_, hy1⟩⟩ : Fin 2097152) := by
      apply Fin.ext
      blk_simp [index0_3]
    have e2 : ((View.whole main_v2).slice (win0_3.rect t)).emb y (2 : Fin 3) = (⟨(y (2 : Fin 3)).val, hy2⟩ : Fin 128) := by
      apply Fin.ext
      blk_simp [index0_3]
    rw [ey, pay_at, X0_at, X1_at, X2_at, e1, e2, index0_3]
    have e0 : (y (0 : Fin 3)).val = 0 := by omega
    congr 1
    · rw [e0]; rfl
    · exact (Nat.zero_add _).symm
  · blk_simp [Pipeline.Window.cell_apply]
    omega

/-- The padded class scores at a true class: the class score. -/
theorem V_v0_at (c : Dev nD) (r : Fin 2097152) (l : Fin 11) :
    V m c main_v0 (ix2 r (⟨l.val, by omega⟩ : Fin 128)) = m ((c : Thread nD τ).loc main_arg0) (ix2 r l) := by
  entry_read
  unfold hostOps0 hostOps0_1 hostOps0_2
  after_reads_at

theorem V_v1_at (c : Dev nD) (r : Fin 2097152) :
    V m c main_v1 (ix2 r (0 : Fin 1)) = m ((c : Thread nD τ).loc main_arg2) (ix1 r) := by
  entry_read
  unfold hostOps0 hostOps0_1 hostOps0_2
  after_reads_at

/-- Past the classes that can be chosen the element is -1, whatever the padded score. -/
theorem cell_of_ge (bc cn : EReal) (bi : BitVec 32) (i l : ℕ) (hl : 10 ≤ l) (h' : l < 128) :
    cell bc cn bi i l = Ideal.ofBits FTy.f32 3212836864#32 := by
  unfold cell
  have h : IntOp.cmpi CmpIPredicate.slt (BitVec.ofNat 32 l) 10#32 = 0#1 := by
    interval_cases l <;> rfl
  rw [h]
  have z (x y : BitVec 1) : IntOp.andi (IntOp.andi x 0#1) y = 0#1 := by revert x y; decide
  rw [z]
  rfl

/-- For a class that can be chosen the lane plays no part. -/
theorem cell_of_lt (bc cn : EReal) (bi : BitVec 32) (i l : ℕ) (hl : l < 10) :
    cell bc cn bi i l
      = Scalar.select (IntOp.andi (IntOp.cmpi CmpIPredicate.eq bi (BitVec.ofNat 32 i))
          (BitVec.ofBool (decide (Ideal.ofBits FTy.f32 1028443341#32 < prob bc cn))))
          (Ideal.sqrt (prob bc cn)) (Ideal.ofBits FTy.f32 3212836864#32) := by
  unfold cell
  have h : IntOp.cmpi CmpIPredicate.slt (BitVec.ofNat 32 l) 10#32 = 1#1 := by
    interval_cases l <;> rfl
  rw [h]
  have z (x y : BitVec 1) : IntOp.andi (IntOp.andi x 1#1) y = IntOp.andi y x := by revert x y; decide
  rw [z]

end Cert.Proof.ScoreKernel

end
-- ==== Proof.ScoreReference.lean ====
/-
The scoring reference, read element by element: the square root of the score where the row belongs to the image, the
class is not the last one and the score is above the threshold, and -1 elsewhere (also in the lanes past the classes).
-/
module

public import proofs.«01_k».proof.Proof.Gen.ScoreReferenceIdeal.Run
public import Idealize.ShloMosaic.Lib.Pipeline.ValueKit
public import Idealize.ShloMosaic.Lib.Pointwise
public import Idealize.ShloMosaic.Lib.Claim
public import Idealize.ShloMosaic.Lib.Routing.OpsOne
@[expose] public section

set_option maxRecDepth 16384

noncomputable section

namespace Cert.Proof.ScoreReference

open Cert.ScoreReferenceIdeal Cert.ScoreReferenceIdeal.Gen
open Idealize.ShloMosaic Idealize.ShloMosaic.TcCoe Idealize.SL.Sem Idealize.ShloMosaic.StableHlo

/-- The scores before the last class is cleared. -/
def probs (a0 : FVec Ideal S2097152x11 .f32) (a1 : FVec Ideal S2097152x1 .f32) : FVec Ideal S2097152x11 .f32 :=
  mulf (Host.divf (broadcastInDim S2097152x11 ![] bcast_S_S2097152x11 (constant S_ .f32 0x3F800000#32)) (addf (broadcastInDim S2097152x11 ![] bcast_S_S2097152x11 (constant S_ .f32 0x3F800000#32)) (Host.exp (Host.negf a0)))) (broadcastInDim S2097152x11 ![0, 1] bcast_S2097152x1_S2097152x11_0_1 (Host.divf (broadcastInDim S2097152x1 ![] bcast_S_S2097152x1 (constant S_ .f32 0x3F800000#32)) (addf (broadcastInDim S2097152x1 ![] bcast_S_S2097152x1 (constant S_ .f32 0x3F800000#32)) (Host.exp (Host.negf a1)))))

/-- The scores, the last class cleared. -/
def cleared (a0 : FVec Ideal S2097152x11 .f32) (a1 : FVec Ideal S2097152x1 .f32) : FVec Ideal S2097152x11 .f32 :=
  Host.scatter scatter_S2097152x11_S1_S2097152_0_1_1_0 (fun _ b => b) (probs a0 a1) (broadcastInDim S1 ![] bcast_S_S1 (constantI S_ 32 10#32)) (broadcastInDim S2097152 ![] bcast_S_S2097152 (constant S_ .f32 0x00000000#32))

/-- The array, of the cleared scores `sc` and the image numbers. -/
def masked (sc : FVec Ideal S2097152x11 .f32) (a2 : IVec S2097152 32) : FVec Ideal S16x2097152x128 .f32 :=
  pad S16x2097152x128 ![0, 0, 0] ![0, 0, 117] ![0, 0, 0] (select (andi (broadcastInDim S16x2097152x11 ![0, 1, 2] bcast_S16x2097152x1_S16x2097152x11_0_1_2 (cmpi .eq (broadcastInDim S16x2097152x1 ![0, 1, 2] bcast_S1x2097152x1_S16x2097152x1_0_1_2 (broadcastInDim S1x2097152x1 ![1] bcast_S2097152_S1x2097152x1_1 a2)) (broadcastInDim S16x2097152x1 ![0, 1, 2] bcast_S16x1x1_S16x2097152x1_0_1_2 (broadcastInDim S16x1x1 ![0] bcast_S16_S16x1x1_0 (iotaInDim S16 32 0))))) (broadcastInDim S16x2097152x11 ![0, 1, 2] bcast_S1x2097152x11_S16x2097152x11_0_1_2 (broadcastInDim S1x2097152x11 ![1, 2] bcast_S2097152x11_S1x2097152x11_1_2 (cmpf .ogt sc (broadcastInDim S2097152x11 ![] bcast_S_S2097152x11 (constant S_ .f32 0x3D4CCCCD#32)))))) (broadcastInDim S16x2097152x11 ![0, 1, 2] bcast_S1x2097152x11_S16x2097152x11_0_1_2 (broadcastInDim S1x2097152x11 ![1, 2] bcast_S2097152x11_S1x2097152x11_1_2 (Host.sqrt sc))) (broadcastInDim S16x2097152x11 ![] bcast_S_S16x2097152x11 (id (constant S_ .f32 0xBF800000#32)))) (id (constant S_ .f32 0xBF800000#32)) pads_S16x2097152x11_S16x2097152x128_000_000_01170 h_S_

theorem probs_at (a0 : FVec Ideal S2097152x11 .f32) (a1 : FVec Ideal S2097152x1 .f32) (r : Fin 2097152) (l : Fin 11) :
    probs a0 a1 (ix2 r l)
      = Ideal.div 1 (1 + Ideal.exp (-a0 (ix2 r l))) * Ideal.div 1 (1 + Ideal.exp (-a1 (ix2 r (0 : Fin 1)))) := by
  pointwise [probs]

theorem cleared_at (a0 : FVec Ideal S2097152x11 .f32) (a1 : FVec Ideal S2097152x1 .f32) (r : Fin 2097152) (l : Fin 11) :
    cleared a0 a1 (ix2 r l) = if l.val = 10 then 0 else probs a0 a1 (ix2 r l) := by
  unfold cleared
  have lands : ∀ (j : Fin 2097152), _ := fun j => Routing.lands_col (A := 2097152) (N := 11) scatter_S2097152x11_S1_S2097152_0_1_1_0 rfl rfl (broadcastInDim S1 ![] bcast_S_S1 (constantI S_ 32 10#32)) 10 (by rfl) j r l
  split
  · next h =>
    refine Routing.scatter_set_hit _ _ _ _ _ _ (fun k _ => ?_) (ix1 r) ((lands r).2 ⟨rfl, Fin.ext h⟩)
    pointwise
  · next h =>
    refine Routing.scatter_set_miss _ _ _ _ _ fun k hk => h ?_
    rw [eq_ix1 k] at hk
    exact congrArg Fin.val ((lands (k 0)).1 hk).2

theorem masked_at (sc : FVec Ideal S2097152x11 .f32) (a2 : IVec S2097152 32) (i : Fin 16) (r : Fin 2097152) (l : Fin 128) :
    masked sc a2 (ix3 i r l)
      = if h : l.val < 11 then
          Scalar.select
            (IntOp.andi (IntOp.cmpi CmpIPredicate.eq (a2 (ix1 r)) (BitVec.ofNat 32 i.val))
              (BitVec.ofBool (decide (Ideal.ofBits FTy.f32 1028443341#32 < sc (ix2 r (⟨l.val, h⟩ : Fin 11))))))
            (Ideal.sqrt (sc (ix2 r (⟨l.val, h⟩ : Fin 11)))) (Ideal.ofBits FTy.f32 3212836864#32)
        else Ideal.ofBits FTy.f32 3212836864#32 := by
  pointwise [masked]
  rfl

/-- The reference's run: its result is `masked` of the cleared scores, its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v32)
        = masked (cleared (m ((c.tc : Thread nD τ).loc main_arg0)) (m ((c.tc : Thread nD τ).loc main_arg1))) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Cert.ScoreReferenceIdeal.Value.run (F := Ideal) m ρ

end Cert.Proof.ScoreReference

end
-- ==== Proof.Consts.lean ====
/-
The values of the 32-bit patterns the programs name, as extended reals.
-/
module

public import Idealize.ShloMosaic.Lib.IdealHost

@[expose] public section

noncomputable section

namespace Cert.Proof.Consts

open Idealize.ShloMosaic

/-- The score threshold: the 32-bit float nearest to 0.05. -/
theorem thresh : Ideal.ofBits FTy.f32 1028443341#32 = ((13421773 / 268435456 : ℝ) : EReal) := by
  simp [Ideal.ofBits, Ideal.ieee, -EReal.coe_mul, -EReal.coe_neg]
  norm_num

/-- Minus one. -/
theorem neg_one : Ideal.ofBits FTy.f32 3212836864#32 = ((-1 : ℝ) : EReal) := by
  simp [Ideal.ofBits, Ideal.ieee, -EReal.coe_mul, -EReal.coe_neg]
  norm_num

/-- The overlap threshold: the 32-bit float nearest to 0.6. -/
theorem overlap : Ideal.ofBits FTy.f32 0x3F19999A#32 = ((10066330 / 16777216 : ℝ) : EReal) := by
  simp [Ideal.ofBits, Ideal.ieee, -EReal.coe_mul, -EReal.coe_neg]
  norm_num

/-- The floor of the union: the 32-bit float nearest to 1e-9. -/
theorem floor : Ideal.ofBits FTy.f32 0x3089705F#32 = ((9007199 / 9007199254740992 : ℝ) : EReal) := by
  simp [Ideal.ofBits, Ideal.ieee, -EReal.coe_mul, -EReal.coe_neg]
  norm_num

/-- One half. -/
theorem half : Ideal.ofBits FTy.f32 0x3F000000#32 = ((1 / 2 : ℝ) : EReal) := by
  simp [Ideal.ofBits, Ideal.ieee, -EReal.coe_mul, -EReal.coe_neg]
  norm_num

/-- Minus infinity. -/
theorem neg_inf : Ideal.ofBits FTy.f32 0xFF800000#32 = ⊥ := by
  simp [Ideal.ofBits, Ideal.ieee, -EReal.coe_mul, -EReal.coe_neg]

end Cert.Proof.Consts

end
-- ==== Proof.ScoreValue.lean ====
/-
The value claim of the scoring call: in the rows below 2 096 000 the kernel's array and the reference's are equal.
-/
module

public import proofs.«01_k».proof.Defs
public import proofs.«01_k».proof.Proof.Gen.On_rows_scored
public import proofs.«01_k».proof.Proof.ScoreKernel
public import proofs.«01_k».proof.Proof.ScoreReference
public import proofs.«01_k».proof.Proof.Consts
public import Idealize.ShloMosaic.Lib.Tactic.WordOmega

@[expose] public section

set_option maxRecDepth 16384

noncomputable section

namespace Cert.Proof.ScoreValue

open Idealize.ShloMosaic Idealize.ShloMosaic.TcCoe Idealize.SL.Sem
open Cert.Proof.ScoreKernel Cert.Proof.ScoreReference

/-- The mask is set exactly in the rows below 2 096 000. -/
theorem row_of_mask (a0 : FVec Ideal Cert.On_rows_scored.S2097152x11 .f32) (a1 : FVec Ideal Cert.On_rows_scored.S2097152x1 .f32)
    (a2 : IVec Cert.On_rows_scored.S2097152 32) (i : Fin 16) (r : Fin 2097152) (l : Fin 128)
    (h : Cert.On_rows_scored.fn (F := Ideal) a0 a1 a2 (ix3 i r l) = 1#1) : r.val < 2096000 := by
  revert h
  pointwise [Cert.On_rows_scored.fn]
  intro h
  word_omega

/-- One element: the kernel's body and the reference agree. -/
theorem cell_eq (a0 : FVec Ideal Cert.ScoreReferenceIdeal.S2097152x11 .f32) (a1 : FVec Ideal Cert.ScoreReferenceIdeal.S2097152x1 .f32)
    (a2 : IVec Cert.ScoreReferenceIdeal.S2097152 32) (i : Fin 16) (r : Fin 2097152) (l : Fin 128) (bc : EReal)
    (hbc : ∀ h : l.val < 11, bc = a0 (ix2 r (⟨l.val, h⟩ : Fin 11))) :
    cell bc (a1 (ix2 r (0 : Fin 1))) (a2 (ix1 r)) i.val l.val = masked (cleared a0 a1) a2 (ix3 i r l) := by
  have h50 : (0 : EReal) < Ideal.ofBits FTy.f32 1028443341#32 := by
    rw [Consts.thresh]
    exact EReal.coe_pos.2 (by norm_num)
  rw [masked_at]
  split
  · next h =>
    rw [cleared_at]
    by_cases h10 : l.val = 10
    · rw [if_pos h10, cell_of_ge _ _ _ _ _ (by omega) l.isLt]
      have z : BitVec.ofBool (decide (Ideal.ofBits FTy.f32 1028443341#32 < (0 : EReal))) = 0#1 := by
        rw [decide_eq_false (not_lt.2 h50.le)]; rfl
      have z' (x : BitVec 1) : IntOp.andi x 0#1 = 0#1 := by revert x; decide
      rw [z, z']
      rfl
    · rw [if_neg h10, cell_of_lt _ _ _ _ _ (by omega), hbc h, probs_at]
      unfold prob
      rw [zero_sub, zero_sub]
  · next h => exact cell_of_ge _ _ _ _ _ (by omega) l.isLt

theorem algebraic : Cert.algebraic_ScoreIdeal_ScoreReferenceIdeal_on_rows_scored := by
  intro m g m' g' _ hagree
  refine ⟨fun c => masked (cleared (m ((c.tc : Thread Cert.ScoreIdeal.nD Cert.ScoreIdeal.τ).loc Cert.ScoreIdeal.main_arg0))
      (m ((c.tc : Thread Cert.ScoreIdeal.nD Cert.ScoreIdeal.τ).loc Cert.ScoreIdeal.main_arg1)))
      (m ((c.tc : Thread Cert.ScoreIdeal.nD Cert.ScoreIdeal.τ).loc Cert.ScoreIdeal.main_arg2)), ?_, ?_⟩
  · refine (θ_run _ _ _).mono (fun r h c => ⟨fun i hi => ?_, (h c).2⟩) (Cert.ScoreIdeal.Value.run_blocks (F := Ideal) m g)
    rw [(h c).1]
    obtain ⟨i0, i1, i2, rfl⟩ : ∃ (a : Fin 16) (b : Fin 2097152) (d : Fin 128), i = ix3 a b d := ⟨i 0, i 1, i 2, eq_ix3 i⟩
    rw [kernel_at m c i0 i1 i2 (row_of_mask _ _ _ i0 i1 i2 hi), V_v1_at, Cert.ScoreIdeal.Gen.V_main_arg1]
    exact cell_eq _ _ _ i0 i1 i2 _ fun h => V_v0_at m c i1 ⟨i2.val, h⟩
  · refine (θ_run _ _ _).mono (fun r h c => ⟨fun i _ => ?_, (h c).2⟩) (Cert.Proof.ScoreReference.run m' g')
    rw [(h c).1, (hagree c).1, (hagree c).2.1, (hagree c).2.2]

end Cert.Proof.ScoreValue

end
-- ==== Proof.Drawn.lean ====
/-
  The precondition of the selection's value claim: its side conditions, and what it says of the arrays.
-/
module

public import proofs.«01_k».proof.Pre_drawn
public import proofs.«01_k».proof.Proof.Consts
public import Idealize.ShloMosaic.PureOps.Ideal
public import Idealize.ShloMosaic.Lib.Affine
public import Idealize.ShloMosaic.Lib.Decide
public import Idealize.ShloMosaic.Lib.ReduceAll

@[expose] public section

set_option maxRecDepth 16384

noncomputable section

namespace Cert.Proof.Drawn

open Idealize.ShloMosaic Cert.Pre_drawn

/-- The shape relations that the precondition's operations take. -/
theorem facts : Cert.Pre_drawn.Facts where
  bcast_S_S2097152x4 := by decide +kernel
  reducesTo_S2097152x4_S_d0_1 := by decide +kernel
  h_S_ := by decide +kernel
  bcast_S_S16x2 := by decide +kernel
  reducesTo_S16x2_S_d0_1 := by decide +kernel

/-- A shape of rank zero has one index. -/
theorem one_index : Subsingleton S_.Idx := ⟨fun _ _ => funext fun d => d.elim0⟩

/-- The predicate says that no box side is negative and that every image side is at least one. -/
theorem all_of_fn [Facts] (a0 : FVec Ideal S16x2097152x128 .f32) (a1 : FVec Ideal S2097152x2 .f32)
    (a2 : IVec S2097152 32) (a3 : FVec Ideal S2097152x4 .f32) (a4 : IVec S16x2 32)
    (h : fn (F := Ideal) a0 a1 a2 a3 a4 = fun _ => 1#1) :
    (∀ j, (0 : EReal) ≤ a3 j) ∧ ∀ j, 1 ≤ (a4 j).toInt := by
  haveI := one_index
  obtain ⟨hl, hr⟩ := IntOp.andi_eq_one.1 (congrFun h (fun d => d.elim0))
  refine ⟨fun j => ?_, fun j => IntOp.cmpi_sge.1 (Host.reduce_andi_all _ _ _ _ _ hr j)⟩
  have e := Host.reduce_andi_all _ _ _ _ _ hl j
  have e' : BitVec.ofBool (decide (Ideal.ofBits FTy.f32 0#32 ≤ a3 j)) = 1#1 := e
  rw [Ideal.ofBits_zero_f32] at e'
  by_contra hn
  rw [decide_eq_false hn] at e'
  exact absurd e' (by decide)

end Cert.Proof.Drawn

end
-- ==== Proof.SelectGreedy.lean ====
/-
  The selection's combinatorics, away from any program: greedy suppression written as a row of kept candidates and as a
  row of suppressed ones, the places kept candidates take, and the order a stable sort gives them.
-/
module

public import Idealize.ShloMosaic.Lib.SortFacts
public import Idealize.ShloMosaic.Lib.IdealHost

@[expose] public section

noncomputable section

namespace Cert.Proof.SelectMath

open Idealize.ShloMosaic

/-- Greedy suppression after `i` candidates: a later candidate goes when the one at hand is kept and suppresses it. -/
def greedy {n : ℕ} (sup : Fin n → Fin n → Bool) (keep0 : Fin n → Bool) : ℕ → Fin n → Bool
  | 0 => keep0
  | i + 1 => fun k => if h : i < n then
      greedy sup keep0 i k && !(sup ⟨i, h⟩ k && decide (i < k.val) && greedy sup keep0 i ⟨i, h⟩)
    else greedy sup keep0 i k

/-- Kept is valid and not suppressed, when the suppressed row is stepped with the validity apart. -/
theorem greedy_eq_of_suppressed {n : ℕ} (sup : Fin n → Fin n → Bool) (keep0 : Fin n → Bool) (S : ℕ → Fin n → Bool)
    (h0 : ∀ k, S 0 k = false)
    (hS : ∀ (i : ℕ) (h : i < n) (k : Fin n), S (i + 1) k =
      if keep0 ⟨i, h⟩ && !S i ⟨i, h⟩ then S i k || (sup ⟨i, h⟩ k && decide (i < k.val)) else S i k)
    (i : ℕ) (hi : i ≤ n) (k : Fin n) : (keep0 k && !S i k) = greedy sup keep0 i k := by
  induction i generalizing k with
  | zero => simp [greedy, h0]
  | succ i ih =>
    have hin : i < n := hi
    simp only [greedy, hin, dif_pos, ← ih (le_of_lt hin), hS i hin k]
    cases keep0 k <;> cases S i k <;> cases sup ⟨i, hin⟩ k <;> cases decide (i < k.val) <;>
      cases keep0 ⟨i, hin⟩ <;> cases S i ⟨i, hin⟩ <;> rfl

/-- How many of the first `k` positions are kept. -/
def before (p : ℕ → Bool) : ℕ → ℕ
  | 0 => 0
  | k + 1 => before p k + if p k then 1 else 0

/-- The count of flags below a place does not fall. -/
theorem before_mono (p : ℕ → Bool) {a b : ℕ} (h : a ≤ b) : before p a ≤ before p b := by
  induction b with
  | zero => simp_all
  | succ b ih =>
    rcases Nat.lt_or_ge a (b + 1) with h' | h'
    · exact (ih (by omega)).trans (by simp [before])
    · rw [show a = b + 1 by omega]

/-- There are at most `k` flags below `k`. -/
theorem before_le (p : ℕ → Bool) (k : ℕ) : before p k ≤ k := by
  induction k with
  | zero => simp [before]
  | succ k ih => simp only [before]; split <;> omega

/-- Two kept positions with the same number before them are one. -/
theorem before_inj (p : ℕ → Bool) {a b : ℕ} (ha : p a = true) (hb : p b = true) (h : before p a = before p b) : a = b := by
  rcases Nat.lt_trichotomy a b with hl | rfl | hl
  · have := before_mono p (show a + 1 ≤ b from hl); simp only [before, ha, if_true] at this; omega
  · rfl
  · have := before_mono p (show b + 1 ≤ a from hl); simp only [before, hb, if_true] at this; omega

/-- One doubling of a window of counts: the counts of the last `d` positions, shifted by `d` and added, are those of the
    last `2 d`. -/
theorem before_window (p : ℕ → Bool) (d k : ℕ) (c : ℕ → ℕ) (hc : ∀ j, c j + before p (j + 1 - d) = before p (j + 1)) :
    c k + (if k < d then 0 else c (k - d)) + before p (k + 1 - 2 * d) = before p (k + 1) := by
  have h := hc k
  by_cases hk : k < d
  · rw [if_pos hk, show k + 1 - 2 * d = 0 by omega]
    rw [show k + 1 - d = 0 by omega] at h
    simpa using h
  · rw [if_neg hk]
    have h' := hc (k - d)
    rw [show k - d + 1 - d = k + 1 - 2 * d by omega, show k - d + 1 = k + 1 - d by omega] at h'
    omega

/-- A row of flags read at any position, false past its end. -/
def flagAt {n : ℕ} (p : Fin n → Bool) (k : ℕ) : Bool := if h : k < n then p ⟨k, h⟩ else false

/-- The flag at a place in range. -/
theorem flagAt_fin {n : ℕ} (p : Fin n → Bool) (k : Fin n) : flagAt p k.val = p k := by
  simp [flagAt]

/-- The flags among the first `k` places are counted by `before`. -/
theorem length_filter_take {n : ℕ} (p : Fin n → Bool) (k : ℕ) (hk : k ≤ n) :
    (((List.finRange n).take k).filter p).length = before (flagAt p) k := by
  induction k with
  | zero => simp [before]
  | succ k ih =>
    have hk' : k < (List.finRange n).length := by simpa using hk
    rw [List.take_succ_eq_append_getElem hk', List.filter_append, List.length_append, ih (by omega), before]
    simp only [List.getElem_finRange, List.filter_cons, List.filter_nil, flagAt, show k < n from hk, dif_pos]
    simp only [Fin.cast_mk]
    split <;> simp_all

/-- The kept candidates in order: a kept one stands at the number kept before it. -/
theorem kept_getElem? {n : ℕ} (p : Fin n → Bool) (k : Fin n) (hp : p k = true) :
    ((List.finRange n).filter p)[before (flagAt p) k.val]? = some k := by
  have hk : k.val < (List.finRange n).length := by simp
  conv_lhs => rw [← List.take_append_drop k.val (List.finRange n)]
  rw [List.filter_append, ← length_filter_take p k.val k.isLt.le, List.getElem?_append_right le_rfl, Nat.sub_self,
    List.drop_eq_getElem_cons hk]
  simp [hp]

/-- A stable sort by a key that is positive and falling on the kept candidates and zero on the others lists the kept ones
    in order, then the others in order. -/
theorem stableSort_kept {ι : Type} (R : ι → ι → Bool) (p : ι → Bool) (l : List ι)
    (hkk : l.Pairwise fun a b => p a = true → p b = true → R b a = false)
    (hkn : ∀ a b, p a = true → p b = false → R a b = true ∧ R b a = false)
    (hnn : ∀ a b, p a = false → p b = false → R a b = false) :
    stableSort R l = l.filter p ++ l.filter fun a => !p a := by
  induction l with
  | nil => rfl
  | cons a l ih =>
    obtain ⟨ha, hl⟩ := List.pairwise_cons.mp hkk
    unfold stableSort
    rw [ih hl]
    cases hp : p a
    · have hgen : ∀ (u w : List ι), (∀ b ∈ u, p b = true) → (∀ b ∈ w, p b = false) →
          insertBefore R a (u ++ w) = u ++ a :: w := by
        intro u w hu hw
        induction u with
        | nil =>
          cases w with
          | nil => rfl
          | cons b w =>
            have : R b a = false := hnn b a (hw b (by simp)) hp
            simp [insertBefore, this]
        | cons b u ihu =>
          have : R b a = true := (hkn b a (hu b (by simp)) hp).1
          simp only [List.cons_append, insertBefore, this, if_true]
          rw [ihu (fun c hc => hu c (by simp [hc]))]
      rw [hgen _ _ (fun b hb => (List.mem_filter.mp hb).2) (fun b hb => by simpa using (List.mem_filter.mp hb).2)]
      simp [List.filter_cons, hp]
    · have hfront : ∀ (m : List ι), (∀ b ∈ m, R b a = false) → insertBefore R a m = a :: m := by
        intro m hm
        cases m with
        | nil => rfl
        | cons b m => simp [insertBefore, hm b (by simp)]
      rw [hfront]
      · simp [List.filter_cons, hp]
      · intro b hb
        rcases List.mem_append.mp hb with h | h
        · exact ha b (List.mem_filter.mp h).1 hp (List.mem_filter.mp h).2
        · exact (hkn a b hp (by simpa using (List.mem_filter.mp h).2)).2

/-- In that sort a kept candidate comes at the number kept before it. -/
theorem sortedFrom_kept {n : ℕ} (R : Fin n → Fin n → Bool) (p : Fin n → Bool)
    (hkk : ∀ a b : Fin n, a < b → p a = true → p b = true → R b a = false)
    (hkn : ∀ a b, p a = true → p b = false → R a b = true ∧ R b a = false)
    (hnn : ∀ a b, p a = false → p b = false → R a b = false)
    (r k : Fin n) (hp : p k = true) (hr : before (flagAt p) k.val = r.val) : sortedFrom R r = k := by
  have hs : sortPositions n R = (List.finRange n).filter p ++ (List.finRange n).filter fun a => !p a :=
    stableSort_kept R p _ ((List.pairwise_lt_finRange n).imp fun {a b} h => hkk a b h) hkn hnn
  have hg := kept_getElem? p k hp
  rw [hr] at hg
  obtain ⟨hlt, -⟩ := List.getElem?_eq_some_iff.mp hg
  have h2 : (sortPositions n R)[r.val]? = some k := by
    rw [hs, List.getElem?_append_left hlt, hg]
  obtain ⟨_, h3⟩ := List.getElem?_eq_some_iff.mp h2
  unfold sortedFrom
  simpa using h3

/-- And a place no kept candidate takes holds one that is not kept. -/
theorem sortedFrom_not_kept {n : ℕ} (R : Fin n → Fin n → Bool) (p : Fin n → Bool)
    (hkk : ∀ a b : Fin n, a < b → p a = true → p b = true → R b a = false)
    (hkn : ∀ a b, p a = true → p b = false → R a b = true ∧ R b a = false)
    (hnn : ∀ a b, p a = false → p b = false → R a b = false)
    (r : Fin n) (hr : ∀ k : Fin n, p k = true → before (flagAt p) k.val ≠ r.val) : p (sortedFrom R r) = false := by
  by_contra hne
  have hp : p (sortedFrom R r) = true := by simpa using hne
  set k := sortedFrom R r with hk
  have hlt : before (flagAt p) k.val < n := lt_of_le_of_lt (before_le _ _) k.isLt
  have h1 := sortedFrom_kept R p hkk hkn hnn ⟨before (flagAt p) k.val, hlt⟩ k hp rfl
  have h2 := sortedFrom_injective R (h1.trans hk)
  exact hr k hp (congrArg Fin.val h2)

end Cert.Proof.SelectMath
-- ==== Proof.SelectArith.lean ====
/-
  The selection's arithmetic on extended reals: the overlap written with clipped areas and a floor under the union is the
  overlap without them when every box has sides at least one, and two ways of taking the largest valid coordinate agree.
-/
module

public import Idealize.ShloMosaic.Lib.IdealHost

@[expose] public section

noncomputable section

namespace Cert.Proof.SelectMath

/-- A box with ordered real corners has an area at least one, and clipping its sides at zero changes nothing. -/
theorem area_clip (x1 y1 x2 y2 : ℝ) (hx : x1 ≤ x2) (hy : y1 ≤ y2) :
    max ((x2 : EReal) - x1 + (1 : EReal)) 0 * max ((y2 : EReal) - y1 + (1 : EReal)) 0
      = ((x2 : EReal) - x1 + (1 : EReal)) * ((y2 : EReal) - y1 + (1 : EReal)) := by
  have h1 : (0 : EReal) ≤ (x2 : EReal) - x1 + (1 : EReal) := by
    rw [← EReal.coe_one, ← EReal.coe_sub, ← EReal.coe_add]; exact EReal.coe_nonneg.mpr (by linarith)
  have h2 : (0 : EReal) ≤ (y2 : EReal) - y1 + (1 : EReal) := by
    rw [← EReal.coe_one, ← EReal.coe_sub, ← EReal.coe_add]; exact EReal.coe_nonneg.mpr (by linarith)
  rw [max_eq_left h1, max_eq_left h2]

/-- The common part of two boxes with ordered corners is no larger than the first. -/
theorem inter_le (a1 b1 a2 b2 c1 d1 c2 d2 : ℝ) (ha : a1 ≤ a2) (hb : b1 ≤ b2) :
    max (min a2 c2 - max a1 c1 + 1) 0 * max (min b2 d2 - max b1 d1 + 1) 0 ≤ (a2 - a1 + 1) * (b2 - b1 + 1) := by
  have h1 : max (min a2 c2 - max a1 c1 + 1) 0 ≤ a2 - a1 + 1 := by
    apply max_le <;> [skip; linarith]
    have := min_le_left a2 c2; have := le_max_left a1 c1; linarith
  have h2 : max (min b2 d2 - max b1 d1 + 1) 0 ≤ b2 - b1 + 1 := by
    apply max_le <;> [skip; linarith]
    have := min_le_left b2 d2; have := le_max_left b1 d1; linarith
  exact mul_le_mul h1 h2 (le_max_right _ _) (by linarith)

/-- The union of two boxes with ordered corners is at least one, so a smaller floor under it does nothing. -/
theorem union_floor (a1 b1 a2 b2 c1 d1 c2 d2 e : ℝ) (ha : a1 ≤ a2) (hb : b1 ≤ b2) (hc : c1 ≤ c2) (hd : d1 ≤ d2)
    (he : e ≤ 1) :
    max (((a2 : EReal) - a1 + (1 : EReal)) * ((b2 : EReal) - b1 + (1 : EReal))
          + ((c2 : EReal) - c1 + (1 : EReal)) * ((d2 : EReal) - d1 + (1 : EReal))
          - max (min (a2 : EReal) c2 - max (a1 : EReal) c1 + (1 : EReal)) 0
            * max (min (b2 : EReal) d2 - max (b1 : EReal) d1 + (1 : EReal)) 0) (e : EReal)
      = ((a2 : EReal) - a1 + (1 : EReal)) * ((b2 : EReal) - b1 + (1 : EReal))
          + ((c2 : EReal) - c1 + (1 : EReal)) * ((d2 : EReal) - d1 + (1 : EReal))
          - max (min (a2 : EReal) c2 - max (a1 : EReal) c1 + (1 : EReal)) 0
            * max (min (b2 : EReal) d2 - max (b1 : EReal) d1 + (1 : EReal)) 0 := by
  apply max_eq_left
  have hmax : ∀ x y : ℝ, max (x : EReal) y = ((max x y : ℝ) : EReal) := fun x y => (EReal.coe_strictMono.monotone.map_max).symm
  have hmin : ∀ x y : ℝ, min (x : EReal) y = ((min x y : ℝ) : EReal) := fun x y => (EReal.coe_strictMono.monotone.map_min).symm
  rw [← EReal.coe_zero, ← EReal.coe_one]
  simp only [hmax, hmin, ← EReal.coe_sub, ← EReal.coe_add, ← EReal.coe_mul, EReal.coe_le_coe_iff]
  have h := inter_le a1 b1 a2 b2 c1 d1 c2 d2 ha hb
  have h' : 1 ≤ (c2 - c1 + 1) * (d2 - d1 + 1) := by nlinarith [mul_nonneg (sub_nonneg.mpr hc) (sub_nonneg.mpr hd)]
  linarith

/-- The largest coordinate of the valid candidates, zero where there is none, against the largest of the coordinates with
    the others' taken as zero: the same, no coordinate being negative. -/
theorem top_eq {ι κ : Type} [Nonempty ι] [Nonempty κ] (A : ι → Prop) [DecidablePred A] (x : ι → κ → EReal)
    (hx : ∀ i c, 0 ≤ x i c) (m M : EReal) (hm : ∀ b, m ≤ b ↔ ∀ i c, A i → x i c ≤ b)
    (hM : ∀ b, M ≤ b ↔ ∀ i c, (if A i then x i c else 0) ≤ b) : (if m = ⊥ then 0 else m) = M := by
  by_cases hA : ∃ i, A i
  · obtain ⟨i₀, h₀⟩ := hA
    obtain ⟨c₀⟩ := (inferInstance : Nonempty κ)
    have hpos : 0 ≤ m := (hx i₀ c₀).trans ((hm m).mp le_rfl i₀ c₀ h₀)
    have hne : m ≠ ⊥ := fun h => by rw [h] at hpos; exact absurd hpos (by simp)
    rw [if_neg hne]
    apply le_antisymm
    · exact (hm M).mpr fun i c hi => by simpa [hi] using (hM M).mp le_rfl i c
    · refine (hM m).mpr fun i c => ?_
      by_cases hi : A i
      · rw [if_pos hi]; exact (hm m).mp le_rfl i c hi
      · rw [if_neg hi]; exact hpos
  · have hbot : m = ⊥ := le_bot_iff.mp ((hm ⊥).mpr fun i c hi => absurd ⟨i, hi⟩ hA)
    rw [if_pos hbot]
    obtain ⟨i₀⟩ := (inferInstance : Nonempty ι)
    obtain ⟨c₀⟩ := (inferInstance : Nonempty κ)
    have hn : ∀ i, ¬ A i := fun i hi => hA ⟨i, hi⟩
    apply le_antisymm
    · have := (hM M).mp le_rfl i₀ c₀; rwa [if_neg (hn i₀)] at this
    · exact (hM 0).mpr fun i c => by rw [if_neg (hn i)]

end Cert.Proof.SelectMath
-- ==== Proof.SelectSpec.lean ====
/-
  What the selection computes for one image, as mathematics: the candidates with their clipped corners, the greedy
  suppression of overlapping ones, and the rows of the kept ones in order.
-/
module

public import proofs.«01_k».proof.Proof.SelectGreedy
public import proofs.«01_k».proof.Proof.SelectArith
public import proofs.«01_k».proof.Proof.Consts

@[expose] public section

noncomputable section

namespace Cert.Proof.SelectMath

open Idealize.ShloMosaic

/-- The candidates of an image: clipped corners, score, label. -/
structure Cands (n : ℕ) where
  x1 : Fin n → EReal
  y1 : Fin n → EReal
  x2 : Fin n → EReal
  y2 : Fin n → EReal
  v : Fin n → EReal
  cl : Fin n → EReal

/-- Candidates from their points, their box distances, scores and labels, and the image's height and width: the corners are
    clipped to the image. -/
def boxes {n : ℕ} (lx ly r0 r1 r2 r3 v cl : Fin n → EReal) (h w : EReal) : Cands n where
  x1 k := min (w - 1) (max 0 (lx k - r0 k))
  y1 k := min (h - 1) (max 0 (ly k - r1 k))
  x2 k := min (w - 1) (max 0 (lx k + r2 k))
  y2 k := min (h - 1) (max 0 (ly k + r3 k))
  v := v
  cl := cl

namespace Cands

variable {n : ℕ} (c : Cands n)

/-- A candidate counts when its score is positive and its box has sides at least zero. -/
def valid (k : Fin n) : Bool :=
  decide (0 < c.v k) && decide (0 ≤ c.x2 k - c.x1 k + 1) && decide (0 ≤ c.y2 k - c.y1 k + 1)

/-- The largest corner coordinate of the valid candidates; zero where none is valid. -/
def top : EReal :=
  let m : EReal := ⨆ k : Fin n, if c.valid k then max (max (c.x1 k) (c.y1 k)) (max (c.x2 k) (c.y2 k)) else ⊥
  if m = ⊥ then 0 else m

/-- The shift of a candidate's box: boxes of different labels are moved apart. -/
def off (M : EReal) (k : Fin n) : EReal := c.cl k * (M + 1)

/-- The area of a shifted box. -/
def area (M : EReal) (k : Fin n) : EReal :=
  (c.x2 k + c.off M k - (c.x1 k + c.off M k) + 1) * (c.y2 k + c.off M k - (c.y1 k + c.off M k) + 1)

/-- The common area of two shifted boxes. -/
def inter (M : EReal) (i k : Fin n) : EReal :=
  max 0 (min (c.x2 i + c.off M i) (c.x2 k + c.off M k) - max (c.x1 i + c.off M i) (c.x1 k + c.off M k) + 1)
    * max 0 (min (c.y2 i + c.off M i) (c.y2 k + c.off M k) - max (c.y1 i + c.off M i) (c.y1 k + c.off M k) + 1)

/-- Intersection over union. -/
def overlap (M : EReal) (i k : Fin n) : EReal :=
  Ideal.div (c.inter M i k) (c.area M i + c.area M k - c.inter M i k)

/-- Whether candidate `i` suppresses candidate `k`. -/
def sup (M : EReal) (i k : Fin n) : Bool := decide (Ideal.ofBits FTy.f32 1058642330#32 < c.overlap M i k)

/-- The candidates kept. -/
def kept : Fin n → Bool := greedy (c.sup c.top) c.valid n

/-- The columns of a candidate's row. -/
def field (q : ℕ) (k : Fin n) : EReal :=
  if q = 0 then c.x1 k else if q = 1 then c.y1 k else if q = 2 then c.x2 k else if q = 3 then c.y2 k
  else if q = 4 then c.v k else if q = 5 then c.cl k else 0

open Classical in
/-- Row `r` of the result: the kept candidate with `r` kept before it, among the first hundred; zero where there is none. -/
def outAt (r q : ℕ) : EReal :=
  if h : ∃ k : Fin n, c.kept k = true ∧ before (flagAt c.kept) k.val = r ∧ r < 100 then c.field q h.choose else 0

/-- The row whose number is a kept candidate's rank holds its fields. -/
theorem outAt_of_kept (r q : ℕ) (k : Fin n) (hk : c.kept k = true) (hr : before (flagAt c.kept) k.val = r) (h : r < 100) :
    c.outAt r q = c.field q k := by
  have hex : ∃ k : Fin n, c.kept k = true ∧ before (flagAt c.kept) k.val = r ∧ r < 100 := ⟨k, hk, hr, h⟩
  unfold outAt
  rw [dif_pos hex]
  obtain ⟨h1, h2, -⟩ := hex.choose_spec
  congr 1
  apply Fin.ext
  apply before_inj (flagAt c.kept)
  · rw [flagAt_fin]; exact h1
  · rw [flagAt_fin]; exact hk
  · rw [h2, hr]

/-- A row that is no kept candidate's rank holds zeros. -/
theorem outAt_of_none (r q : ℕ) (h : ∀ k : Fin n, c.kept k = true → before (flagAt c.kept) k.val = r → 100 ≤ r) :
    c.outAt r q = 0 := by
  unfold outAt
  rw [dif_neg]
  rintro ⟨k, h1, h2, h3⟩
  exact absurd (h k h1 h2) (by omega)

end Cands

end Cert.Proof.SelectMath
-- ==== Proof.SelectLoop.lean ====
/-
  The suppression loop of the selection kernel's body: after `t` trips, its row of flags is what the greedy suppression
  has removed among the first `t` candidates.
-/
module

public import proofs.«01_k».proof.Proof.SelectIdealRun
public import Idealize.ShloMosaic.Lib.Pointwise
public import Idealize.ShloMosaic.Lib.Tactic
public import Idealize.ShloMosaic.Lib.Pipeline.ValueKit
public import Idealize.ShloMosaic.Lib.Pipeline.Covers
public import Idealize.ShloMosaic.Lib.Claim
public import proofs.«01_k».proof.Proof.SelectSpec

@[expose] public section
noncomputable section
namespace Cert.Proof.SelectIdeal
open Cert.Proof.SelectMath Cert.SelectIdeal Cert.SelectIdeal.Gen
open Idealize.ShloMosaic Idealize.ShloMosaic.TcCoe Idealize.ShloMosaic.Tactic
open Idealize.ShloMosaic.Pipeline (Dat Cfg Window BodyObligation)

/-- A choice between two arrays, at an index. -/
theorem select_at {ι α : Type} (c : BitVec 1) (a b : ι → α) (i : ι) : Scalar.select c a b i = Scalar.select c (a i) (b i) := by
  unfold Scalar.select; split <;> rfl

/-- The loop makes 1000 trips. -/
theorem trips_eq : k0_t1_loop.trips = 1000 := by decide

/-- The loop's counter. -/
theorem iv_eq (k : ℕ) : Scf.iv 0#32 1#32 k = BitVec.ofNat 32 k := by
  apply BitVec.eq_of_toNat_eq
  simp [Scf.iv]

/-- A row of zeros but at one lane, summed, is that lane's element. -/
theorem sum_pick (f : Fin 1024 → EReal) (kk : ℕ) (h : kk < 1024) :
    ∑ _x : Fin 1, ∑ x : Fin 1024, Scalar.select (IntOp.cmpi CmpIPredicate.eq (BitVec.ofNat 32 x.val) (Scf.iv 0#32 1#32 kk)) (f x) 0
      = f ⟨kk, h⟩ := by
  rw [Fin.sum_univ_one, Finset.sum_eq_single (⟨kk, h⟩ : Fin 1024)]
  · rw [iv_eq]; simp [IntOp.cmpi, Scalar.select]
  · intro b _ hb
    rw [iv_eq]
    have : BitVec.ofNat 32 b.val ≠ BitVec.ofNat 32 kk := by
      intro he
      have := congrArg BitVec.toNat he
      simp only [BitVec.toNat_ofNat] at this
      rw [Nat.mod_eq_of_lt (by omega), Nat.mod_eq_of_lt (by omega)] at this
      exact hb (Fin.ext this)
    simp only [IntOp.cmpi, beq_eq_false_iff_ne.mpr this, Scalar.select]
    rfl
  · simp

variable (v13 v15 v25 v31 v37 v43 : FVec Ideal S1x1024 .f32) (v57 : IVec S1x1024 1) (v70 : Ideal .f32)

/-- The lanes of a block's rows as candidates. -/
def lanes : Cands 1024 where
  x1 k := v25 (ix2 0 k)
  y1 k := v31 (ix2 0 k)
  x2 k := v37 (ix2 0 k)
  y2 k := v43 (ix2 0 k)
  v k := v13 (ix2 0 k)
  cl k := v15 (ix2 0 k)

/-- The yield of a trip, from what the trip summed before it. -/
theorem yield_at (cst : Ideal .f32) (M : EReal) (kk : ℕ) (k : Fin 1024) (acc : FVec Ideal S1x1024 .f32)
    (q1 q2 : Ideal .f32) (q3 q4 q5 : FVec Ideal S1x1024 .f32)
    (hoff : ∀ k, k0_pay23 v15 v37 v43 v57 v70 cst (ix2 0 k) = (lanes v13 v15 v25 v31 v37 v43).off M k) :
    k0_pay31 v15 v25 v31 v37 v43 v57 v70 cst acc (Scf.iv 0#32 1#32 kk) q1 q2 q3 q4 q5 (ix2 0 k)
      = if Ideal.ofBits FTy.f32 1056964608#32 < q2 then
          max (acc (ix2 0 k)) (Scalar.select (IntOp.andi (BitVec.ofBool (decide (Ideal.ofBits FTy.f32 1058642330#32 <
              Ideal.div (max 0 (q5 (ix2 0 k)) * max 0 (q4 (ix2 0 k) - q3 (ix2 0 k) + 1))
                (q1 + (lanes v13 v15 v25 v31 v37 v43).area M k
                  - max 0 (q5 (ix2 0 k)) * max 0 (q4 (ix2 0 k) - q3 (ix2 0 k) + 1)))))
            (IntOp.cmpi CmpIPredicate.sgt (BitVec.ofNat 32 k.val) (BitVec.ofNat 32 kk))) 1 0)
        else acc (ix2 0 k) := by
  unfold k0_pay31
  rw [select_at]
  pointwise [k0_pay28, k0_pay24, k0_pay25, k0_pay26, k0_pay27]
  rw [iv_eq]
  simp only [hoff]
  rfl

/-- One trip at a lane: if the trip's lane is alive, the later lanes it overlaps are flagged. -/
theorem trip_at (cst : Ideal .f32) (M : EReal) (kk : Fin k0_t1_loop.trips) (h : kk.val < 1024) (k : Fin 1024) (acc : FVec Ideal S1x1024 .f32)
    (hoff : ∀ k, k0_pay23 v15 v37 v43 v57 v70 cst (ix2 0 k) = (lanes v13 v15 v25 v31 v37 v43).off M k) :
    tripFn v15 v25 v31 v37 v43 v57 v70 cst (iota .tc S1x1024 32 [1] iota_S1x1024_d1_w32) kk acc (ix2 0 k)
      = if Ideal.ofBits FTy.f32 1056964608#32 < Scalar.select (v57 (ix2 0 (⟨kk, h⟩ : Fin 1024))) (1 - acc (ix2 0 (⟨kk, h⟩ : Fin 1024))) 0 then
          max (acc (ix2 0 k)) (Scalar.select (IntOp.andi (BitVec.ofBool ((lanes v13 v15 v25 v31 v37 v43).sup M ⟨kk, h⟩ k))
            (IntOp.cmpi CmpIPredicate.sgt (BitVec.ofNat 32 k.val) (BitVec.ofNat 32 kk.val))) 1 0)
        else acc (ix2 0 k) := by
  have q1 : k0_pay3 (k0_pay28 v15 v25 v31 v37 v43 v57 v70 cst) (iota .tc S1x1024 32 [1] iota_S1x1024_d1_w32) 0#32 1#32 kk
      = (lanes v13 v15 v25 v31 v37 v43).area M ⟨kk, h⟩ := by
    pointwise [k0_pay3, k0_pay2, k0_pay28, k0_pay24, k0_pay25, k0_pay26, k0_pay27]
    rw [sum_pick _ kk.val h]
    simp only [hoff]
    rfl
  have q2 : k0_pay4 (iota .tc S1x1024 32 [1] iota_S1x1024_d1_w32) (k0_pay29 (F := Ideal) v57) 0#32 1#32 kk acc
      = Scalar.select (v57 (ix2 0 (⟨kk, h⟩ : Fin 1024))) (1 - acc (ix2 0 (⟨kk, h⟩ : Fin 1024))) 0 := by
    pointwise [k0_pay4, k0_pay2, k0_pay29]
    rw [← sum_pick (fun x => Scalar.select (v57 (ix2 0 x)) (1 - acc (ix2 0 x)) 0) kk.val h]
    refine Finset.sum_congr rfl fun _ _ => Finset.sum_congr rfl fun x _ => ?_
    unfold Scalar.select
    split <;> split <;> rfl
  have q3 : k0_pay5 (k0_pay25 v15 v31 v37 v43 v57 v70 cst) (iota .tc S1x1024 32 [1] iota_S1x1024_d1_w32) 0#32 1#32 kk (ix2 0 k)
      = max ((lanes v13 v15 v25 v31 v37 v43).y1 ⟨kk, h⟩ + (lanes v13 v15 v25 v31 v37 v43).off M ⟨kk, h⟩)
          ((lanes v13 v15 v25 v31 v37 v43).y1 k + (lanes v13 v15 v25 v31 v37 v43).off M k) := by
    pointwise [k0_pay5, k0_pay2, k0_pay25]
    rw [sum_pick _ kk.val h]
    simp only [hoff]
    rfl
  have q4 : k0_pay6 (k0_pay27 v15 v37 v43 v57 v70 cst) (iota .tc S1x1024 32 [1] iota_S1x1024_d1_w32) 0#32 1#32 kk (ix2 0 k)
      = min ((lanes v13 v15 v25 v31 v37 v43).y2 ⟨kk, h⟩ + (lanes v13 v15 v25 v31 v37 v43).off M ⟨kk, h⟩)
          ((lanes v13 v15 v25 v31 v37 v43).y2 k + (lanes v13 v15 v25 v31 v37 v43).off M k) := by
    pointwise [k0_pay6, k0_pay2, k0_pay27]
    rw [sum_pick _ kk.val h]
    simp only [hoff]
    rfl
  have q5 : k0_pay7 (k0_pay24 v15 v25 v37 v43 v57 v70 cst) (k0_pay26 v15 v37 v43 v57 v70 cst) (iota .tc S1x1024 32 [1] iota_S1x1024_d1_w32) 0#32 1#32 kk (ix2 0 k)
      = min ((lanes v13 v15 v25 v31 v37 v43).x2 ⟨kk, h⟩ + (lanes v13 v15 v25 v31 v37 v43).off M ⟨kk, h⟩)
          ((lanes v13 v15 v25 v31 v37 v43).x2 k + (lanes v13 v15 v25 v31 v37 v43).off M k)
        - max ((lanes v13 v15 v25 v31 v37 v43).x1 ⟨kk, h⟩ + (lanes v13 v15 v25 v31 v37 v43).off M ⟨kk, h⟩)
          ((lanes v13 v15 v25 v31 v37 v43).x1 k + (lanes v13 v15 v25 v31 v37 v43).off M k) + 1 := by
    pointwise [k0_pay7, k0_pay2, k0_pay24, k0_pay26]
    rw [sum_pick _ kk.val h, sum_pick _ kk.val h]
    simp only [hoff]
    rfl
  unfold tripFn
  rw [yield_at v13 v15 v25 v31 v37 v43 v57 v70 cst M kk.val k acc _ _ _ _ _ hoff, q1, q2, q3, q4, q5]
  rfl
/-- The carried row after `i` trips. -/
def stateAt {σ : Type} {n : ℕ} (g : Fin n → σ → σ) (init : σ) : ℕ → σ
  | 0 => init
  | i + 1 => if h : i < n then g ⟨i, h⟩ (stateAt g init i) else stateAt g init i

/-- The loop's fold is its state after all trips. -/
theorem fold_eq_stateAt {σ : Type} {n : ℕ} (g : Fin n → σ → σ) (init : σ) : Scf.fold g init = stateAt g init n := by
  rw [Scf.fold_eq]
  have h : ∀ i ≤ n, ((List.finRange n).take i).foldl (fun acc k => g k acc) init = stateAt g init i := by
    intro i hi
    induction i with
    | zero => simp [stateAt]
    | succ i ih =>
      have hi' : i < (List.finRange n).length := by simpa using hi
      rw [List.take_succ_eq_append_getElem hi', List.foldl_append, ih (by omega)]
      have hin : i < n := hi
      simp [stateAt, hin]
  have := h n le_rfl
  rwa [List.take_of_length_le (by simp)] at this

/-- The suppressed lanes after `i` trips. -/
def gone (V : Fin 1024 → Bool) (sup : Fin 1024 → Fin 1024 → Bool) : ℕ → Fin 1024 → Bool
  | 0 => fun _ => false
  | i + 1 => fun k => if h : i < 1024 then
      if V ⟨i, h⟩ && !gone V sup i ⟨i, h⟩ then gone V sup i k || (sup ⟨i, h⟩ k && decide (i < k.val)) else gone V sup i k
    else gone V sup i k

/-- Comparing two lane numbers as words. -/
theorem sgt_lane (i k : ℕ) (hi : i < 1024) (hk : k < 1024) :
    IntOp.cmpi CmpIPredicate.sgt (BitVec.ofNat 32 k) (BitVec.ofNat 32 i) = BitVec.ofBool (decide (i < k)) := by
  have e : (BitVec.ofNat 32 i).slt (BitVec.ofNat 32 k) = decide (i < k) := by
    rw [BitVec.slt_eq_decide]
    congr 1
    rw [BitVec.toInt_eq_toNat_of_lt (by simp; omega), BitVec.toInt_eq_toNat_of_lt (by simp; omega)]
    simp only [BitVec.toNat_ofNat]
    rw [Nat.mod_eq_of_lt (by omega), Nat.mod_eq_of_lt (by omega)]
    simp
  unfold IntOp.cmpi
  rw [← e]

/-- A lane is alive when it is valid and not yet flagged. -/
theorem half_lt (a b : Bool) :
    (Ideal.ofBits FTy.f32 1056964608#32 < Scalar.select (BitVec.ofBool a) (1 - (if b then (1 : EReal) else 0)) 0) ↔ (a && !b) = true := by
  rw [Consts.half, ← EReal.coe_one, ← EReal.coe_zero]
  have e0 : ((1 : ℝ) : EReal) - ((0 : ℝ) : EReal) = ((1 - 0 : ℝ) : EReal) := (EReal.coe_sub _ _).symm
  have e1 : ((1 : ℝ) : EReal) - ((1 : ℝ) : EReal) = ((1 - 1 : ℝ) : EReal) := (EReal.coe_sub _ _).symm
  have s0 (x y : EReal) : Scalar.select (BitVec.ofBool false) x y = y := rfl
  have s1 (x y : EReal) : Scalar.select (BitVec.ofBool true) x y = x := rfl
  cases a <;> cases b <;>
    simp only [s0, s1, if_true, if_false, Bool.false_eq_true, e0, e1, EReal.coe_lt_coe_iff] <;>
    norm_num

/-- After some trips, the row of flags is what the greedy suppression has removed. -/
theorem state_at (V : Fin 1024 → Bool) (hV : ∀ k, v57 (ix2 0 k) = BitVec.ofBool (V k)) (cst : Ideal .f32) (M : EReal)
    (hoff : ∀ k, k0_pay23 v15 v37 v43 v57 v70 cst (ix2 0 k) = (lanes v13 v15 v25 v31 v37 v43).off M k) (i : ℕ) (hi : i ≤ 1000)
    (k : Fin 1024) :
    stateAt (tripFn v15 v25 v31 v37 v43 v57 v70 cst (iota .tc S1x1024 32 [1] iota_S1x1024_d1_w32)) (k0_pay30 (F := Ideal)) i (ix2 0 k)
      = if gone V ((lanes v13 v15 v25 v31 v37 v43).sup M) i k then (1 : EReal) else 0 := by
  induction i generalizing k with
  | zero =>
    simp only [stateAt, gone]
    pointwise [k0_pay30]
    rfl
  | succ i ih =>
    have h1 : i < k0_t1_loop.trips := by rw [trips_eq]; exact hi
    have h2 : i < 1024 := by omega
    simp only [stateAt, h1, dif_pos, gone, h2]
    rw [trip_at v13 v15 v25 v31 v37 v43 v57 v70 cst M ⟨i, h1⟩ h2 k _ hoff]
    simp only [ih (by omega), hV, sgt_lane i k.val h2 k.isLt, half_lt]
    split
    · cases gone V ((lanes v13 v15 v25 v31 v37 v43).sup M) i k <;>
        cases (lanes v13 v15 v25 v31 v37 v43).sup M ⟨i, h2⟩ k <;> cases decide (i < k.val) <;>
        simp [Scalar.select, IntOp.andi]
    · rfl

/-- A candidate's lane. -/
def up (k : Fin 1000) : Fin 1024 := ⟨k.val, by omega⟩

/-- The candidates kept, read off the carried row. -/
theorem kept_at (V : Fin 1024 → Bool) (hV : ∀ k, v57 (ix2 0 k) = BitVec.ofBool (V k)) (hpad : ∀ k : Fin 1024, 1000 ≤ k.val → V k = false)
    (cst : Ideal .f32) (M : EReal)
    (hoff : ∀ k, k0_pay23 v15 v37 v43 v57 v70 cst (ix2 0 k) = (lanes v13 v15 v25 v31 v37 v43).off M k) (k : Fin 1024) :
    k0_pay32 v57 (suppOut v15 v25 v31 v37 v43 v57 v70 cst (iota .tc S1x1024 32 [1] iota_S1x1024_d1_w32)) (ix2 0 k)
      = BitVec.ofBool (flagAt (greedy (fun i k => (lanes v13 v15 v25 v31 v37 v43).sup M (up i) (up k)) (fun k => V (up k)) 1000) k.val) := by
  unfold suppOut
  rw [fold_eq_stateAt]
  pointwise [k0_pay32]
  rw [state_at v13 v15 v25 v31 v37 v43 v57 v70 V hV cst M hoff k0_t1_loop.trips (by rw [trips_eq]) k, hV, trips_eq]
  have e : IntOp.andi (BitVec.ofBool (V k)) (BitVec.ofBool (decide ((if gone V ((lanes v13 v15 v25 v31 v37 v43).sup M) 1000 k then (1 : EReal) else 0)
      < Ideal.ofBits FTy.f32 1056964608#32))) = BitVec.ofBool (V k && !gone V ((lanes v13 v15 v25 v31 v37 v43).sup M) 1000 k) := by
    rw [Consts.half, ← EReal.coe_one, ← EReal.coe_zero]
    cases V k <;> cases gone V ((lanes v13 v15 v25 v31 v37 v43).sup M) 1000 k <;>
      simp only [if_true, if_false, Bool.false_eq_true, EReal.coe_lt_coe_iff] <;> norm_num <;> rfl
  rw [e]
  congr 1
  unfold flagAt
  split
  case isFalse hk => rw [hpad k (by omega)]; rfl
  case isTrue hk =>
    rw [← greedy_eq_of_suppressed _ _ (fun i k => gone V ((lanes v13 v15 v25 v31 v37 v43).sup M) i (up k)) (fun _ => rfl) _ 1000 le_rfl]
    · rfl
    · intro i hi k
      have h2 : i < 1024 := by omega
      simp only [gone, h2, dif_pos]
      rfl

end Cert.Proof.SelectIdeal
-- ==== Proof.SelectRank.lean ====
/-
  The rank of a kept candidate: the kernel counts the kept lanes by doubling shifted sums, takes one off and truncates. At
  a kept lane that is the number of kept lanes before it.
-/
module

public import proofs.«01_k».proof.Proof.SelectLoop

@[expose] public section

set_option maxRecDepth 16384

noncomputable section

namespace Cert.Proof.SelectIdeal

open Cert.Proof.SelectMath Cert.SelectIdeal Cert.SelectIdeal.Gen
open Idealize.ShloMosaic Idealize.ShloMosaic.TcCoe Idealize.ShloMosaic.Tactic

/-- A row holds, at each lane, the count of `p` on the `d` lanes that end there. -/
def Counts (p : ℕ → Bool) (d : ℕ) (v : FVec Ideal S1x1024 .f32) : Prop :=
  ∃ c : ℕ → ℕ, (∀ k : Fin 1024, v (ix2 0 k) = ((c k.val : ℝ) : EReal)) ∧ ∀ j, c j + before p (j + 1 - d) = before p (j + 1)

/-- A row and itself moved by `d` lanes, added: the counts of twice as many lanes. -/
theorem Counts.shift {p : ℕ → Bool} {d : ℕ} {v v' : FVec Ideal S1x1024 .f32} (h : Counts p d v)
    (hv : ∀ k : Fin 1024, v' (ix2 0 k) = v (ix2 0 k) + if k.val < d then 0 else v (ix2 0 ⟨k.val - d, by omega⟩)) : Counts p (2 * d) v' := by
  obtain ⟨c, h1, h2⟩ := h
  refine ⟨fun j => c j + if j < d then 0 else c (j - d), fun k => ?_, fun j => before_window p d j c h2⟩
  rw [hv k, h1 k]
  beta_reduce
  by_cases hk : k.val < d
  · rw [if_pos hk, if_pos hk, add_zero, add_zero]
  · rw [if_neg hk, if_neg hk, h1, Nat.cast_add, EReal.coe_add]

/-- A row that counts over all lanes holds, at each, the number of flags up to it. -/
theorem Counts.all {p : ℕ → Bool} {v : FVec Ideal S1x1024 .f32} (h : Counts p 1024 v) (k : Fin 1024) :
    v (ix2 0 k) = ((before p (k.val + 1) : ℝ) : EReal) := by
  obtain ⟨c, h1, h2⟩ := h
  have := h2 k.val
  rw [show k.val + 1 - 1024 = 0 by omega] at this
  rw [h1 k, ← this]
  rfl

/-- A row and itself moved by 1. -/
def shift1 (v : FVec Ideal S1x1024 .f32) : FVec Ideal S1x1024 .f32 :=
  addf v (concatenate S1x1024 1 [⟨S1x1, broadcast S1x1 (Scalar.ofBits (F := Ideal) .f32 0x00000000#32)⟩,
    ⟨S1x1023, extractStridedSlice S1x1023 ![0, 0] v slices_S1x1024_o0_0_S1x1023⟩] concatenates_S1x1_S1x1023_S1x1024_d1)

/-- The shifts by powers of two: a lane reads the one below it by that distance, or zero. -/
theorem shift1_at (v : FVec Ideal S1x1024 .f32) (k : Fin 1024) :
    shift1 v (ix2 0 k) = v (ix2 0 k) + if k.val < 1 then 0 else v (ix2 0 ⟨k.val - 1, by omega⟩) := by
  pointwise [shift1]
  rfl

/-- A row and itself moved by 2. -/
def shift2 (v : FVec Ideal S1x1024 .f32) : FVec Ideal S1x1024 .f32 :=
  addf v (concatenate S1x1024 1 [⟨S1x2, broadcast S1x2 (Scalar.ofBits (F := Ideal) .f32 0x00000000#32)⟩,
    ⟨S1x1022, extractStridedSlice S1x1022 ![0, 0] v slices_S1x1024_o0_0_S1x1022⟩] concatenates_S1x2_S1x1022_S1x1024_d1)

theorem shift2_at (v : FVec Ideal S1x1024 .f32) (k : Fin 1024) :
    shift2 v (ix2 0 k) = v (ix2 0 k) + if k.val < 2 then 0 else v (ix2 0 ⟨k.val - 2, by omega⟩) := by
  pointwise [shift2]
  rfl

/-- A row and itself moved by 4. -/
def shift4 (v : FVec Ideal S1x1024 .f32) : FVec Ideal S1x1024 .f32 :=
  addf v (concatenate S1x1024 1 [⟨S1x4, broadcast S1x4 (Scalar.ofBits (F := Ideal) .f32 0x00000000#32)⟩,
    ⟨S1x1020, extractStridedSlice S1x1020 ![0, 0] v slices_S1x1024_o0_0_S1x1020⟩] concatenates_S1x4_S1x1020_S1x1024_d1)

theorem shift4_at (v : FVec Ideal S1x1024 .f32) (k : Fin 1024) :
    shift4 v (ix2 0 k) = v (ix2 0 k) + if k.val < 4 then 0 else v (ix2 0 ⟨k.val - 4, by omega⟩) := by
  pointwise [shift4]
  rfl

/-- A row and itself moved by 8. -/
def shift8 (v : FVec Ideal S1x1024 .f32) : FVec Ideal S1x1024 .f32 :=
  addf v (concatenate S1x1024 1 [⟨S1x8, broadcast S1x8 (Scalar.ofBits (F := Ideal) .f32 0x00000000#32)⟩,
    ⟨S1x1016, extractStridedSlice S1x1016 ![0, 0] v slices_S1x1024_o0_0_S1x1016⟩] concatenates_S1x8_S1x1016_S1x1024_d1)

theorem shift8_at (v : FVec Ideal S1x1024 .f32) (k : Fin 1024) :
    shift8 v (ix2 0 k) = v (ix2 0 k) + if k.val < 8 then 0 else v (ix2 0 ⟨k.val - 8, by omega⟩) := by
  pointwise [shift8]
  rfl

/-- A row and itself moved by 16. -/
def shift16 (v : FVec Ideal S1x1024 .f32) : FVec Ideal S1x1024 .f32 :=
  addf v (concatenate S1x1024 1 [⟨S1x16, broadcast S1x16 (Scalar.ofBits (F := Ideal) .f32 0x00000000#32)⟩,
    ⟨S1x1008, extractStridedSlice S1x1008 ![0, 0] v slices_S1x1024_o0_0_S1x1008⟩] concatenates_S1x16_S1x1008_S1x1024_d1)

theorem shift16_at (v : FVec Ideal S1x1024 .f32) (k : Fin 1024) :
    shift16 v (ix2 0 k) = v (ix2 0 k) + if k.val < 16 then 0 else v (ix2 0 ⟨k.val - 16, by omega⟩) := by
  pointwise [shift16]
  rfl

/-- A row and itself moved by 32. -/
def shift32 (v : FVec Ideal S1x1024 .f32) : FVec Ideal S1x1024 .f32 :=
  addf v (concatenate S1x1024 1 [⟨S1x32, broadcast S1x32 (Scalar.ofBits (F := Ideal) .f32 0x00000000#32)⟩,
    ⟨S1x992, extractStridedSlice S1x992 ![0, 0] v slices_S1x1024_o0_0_S1x992⟩] concatenates_S1x32_S1x992_S1x1024_d1)

theorem shift32_at (v : FVec Ideal S1x1024 .f32) (k : Fin 1024) :
    shift32 v (ix2 0 k) = v (ix2 0 k) + if k.val < 32 then 0 else v (ix2 0 ⟨k.val - 32, by omega⟩) := by
  pointwise [shift32]
  rfl

/-- A row and itself moved by 64. -/
def shift64 (v : FVec Ideal S1x1024 .f32) : FVec Ideal S1x1024 .f32 :=
  addf v (concatenate S1x1024 1 [⟨S1x64, broadcast S1x64 (Scalar.ofBits (F := Ideal) .f32 0x00000000#32)⟩,
    ⟨S1x960, extractStridedSlice S1x960 ![0, 0] v slices_S1x1024_o0_0_S1x960⟩] concatenates_S1x64_S1x960_S1x1024_d1)

theorem shift64_at (v : FVec Ideal S1x1024 .f32) (k : Fin 1024) :
    shift64 v (ix2 0 k) = v (ix2 0 k) + if k.val < 64 then 0 else v (ix2 0 ⟨k.val - 64, by omega⟩) := by
  pointwise [shift64]
  rfl

/-- A row and itself moved by 128. -/
def shift128 (v : FVec Ideal S1x1024 .f32) : FVec Ideal S1x1024 .f32 :=
  addf v (concatenate S1x1024 1 [⟨S1x128, broadcast S1x128 (Scalar.ofBits (F := Ideal) .f32 0x00000000#32)⟩,
    ⟨S1x896, extractStridedSlice S1x896 ![0, 0] v slices_S1x1024_o0_0_S1x896⟩] concatenates_S1x128_S1x896_S1x1024_d1)

theorem shift128_at (v : FVec Ideal S1x1024 .f32) (k : Fin 1024) :
    shift128 v (ix2 0 k) = v (ix2 0 k) + if k.val < 128 then 0 else v (ix2 0 ⟨k.val - 128, by omega⟩) := by
  pointwise [shift128]
  rfl

/-- A row and itself moved by 256. -/
def shift256 (v : FVec Ideal S1x1024 .f32) : FVec Ideal S1x1024 .f32 :=
  addf v (concatenate S1x1024 1 [⟨S1x256, broadcast S1x256 (Scalar.ofBits (F := Ideal) .f32 0x00000000#32)⟩,
    ⟨S1x768, extractStridedSlice S1x768 ![0, 0] v slices_S1x1024_o0_0_S1x768⟩] concatenates_S1x256_S1x768_S1x1024_d1)

theorem shift256_at (v : FVec Ideal S1x1024 .f32) (k : Fin 1024) :
    shift256 v (ix2 0 k) = v (ix2 0 k) + if k.val < 256 then 0 else v (ix2 0 ⟨k.val - 256, by omega⟩) := by
  pointwise [shift256]
  rfl

/-- A row and itself moved by 512. -/
def shift512 (v : FVec Ideal S1x1024 .f32) : FVec Ideal S1x1024 .f32 :=
  addf v (concatenate S1x1024 1 [⟨S1x512, broadcast S1x512 (Scalar.ofBits (F := Ideal) .f32 0x00000000#32)⟩,
    ⟨S1x512, extractStridedSlice S1x512 ![0, 0] v slices_S1x1024_o0_0_S1x512⟩] concatenates_S1x512_S1x512_S1x1024_d1)

theorem shift512_at (v : FVec Ideal S1x1024 .f32) (k : Fin 1024) :
    shift512 v (ix2 0 k) = v (ix2 0 k) + if k.val < 512 then 0 else v (ix2 0 ⟨k.val - 512, by omega⟩) := by
  pointwise [shift512]
  rfl

/-- The rank the body forms, as the last of the ten doubling steps. -/
theorem rank_eq (v110 : IVec S1x1024 1) : k0_pay35 (F := Ideal) v110 k0_pay33 k0_pay34
    = fptosi 32 (subf (shift512 (shift256 (shift128 (shift64 (shift32 (shift16 (shift8 (shift4 (shift2 (shift1 (select v110 k0_pay33 k0_pay34)))))))))))
        (broadcast S1x1024 (Scalar.ofBits (F := Ideal) .f32 0x3F800000#32))) := rfl

/-- What is truncated, at every lane. -/
theorem counted (p : ℕ → Bool) (v110 : IVec S1x1024 1) (hp : ∀ k : Fin 1024, v110 (ix2 0 k) = BitVec.ofBool (p k.val)) (k : Fin 1024) :
    shift512 (shift256 (shift128 (shift64 (shift32 (shift16 (shift8 (shift4 (shift2 (shift1 (select v110 (k0_pay33 (F := Ideal)) k0_pay34)))))))))) (ix2 0 k)
      = ((before p (k.val + 1) : ℝ) : EReal) := by
  have h0 : Counts p 1 (select v110 (k0_pay33 (F := Ideal)) k0_pay34) := by
    refine ⟨fun j => if p j then 1 else 0, fun k => ?_, fun j => ?_⟩
    · have : select v110 (k0_pay33 (F := Ideal)) k0_pay34 (ix2 0 k) = Scalar.select (v110 (ix2 0 k)) (1 : EReal) 0 := by
        pointwise [k0_pay33, k0_pay34]
      rw [this, hp]
      beta_reduce
      cases hpk : p k.val <;> simp [Scalar.select]
    · rw [show j + 1 - 1 = j by omega]
      simp only [before]
      omega
  have h10 := (((((((((h0.shift (shift1_at _)).shift (shift2_at _)).shift (shift4_at _)).shift (shift8_at _)).shift (shift16_at _)).shift
    (shift32_at _)).shift (shift64_at _)).shift (shift128_at _)).shift (shift256_at _)).shift (shift512_at _)
  exact h10.all k

/-- At a kept lane the rank is the number of kept lanes before it. -/
theorem rank_at (p : ℕ → Bool) (v110 : IVec S1x1024 1) (hp : ∀ k : Fin 1024, v110 (ix2 0 k) = BitVec.ofBool (p k.val)) (k : Fin 1024)
    (hk : p k.val = true) : k0_pay35 (F := Ideal) v110 k0_pay33 k0_pay34 (ix2 0 k) = BitVec.ofNat 32 (before p k.val) := by
  have hle := before_le p k.val
  have e : k0_pay35 (F := Ideal) v110 k0_pay33 k0_pay34 (ix2 0 k) = Ideal.fptosi 32 (((before p (k.val + 1) : ℝ) : EReal) - 1) := by
    rw [rank_eq, ← counted p v110 hp k]
    generalize shift512 _ = u
    pointwise []
    rfl
  rw [e, ← EReal.coe_one, ← EReal.coe_sub]
  have e2 : ((before p (k.val + 1) : ℕ) : ℝ) - 1 = ((before p k.val : ℕ) : ℝ) := by
    simp [before, hk]
  rw [e2]
  unfold Ideal.fptosi
  have e3 : Ideal.toIntClamped (-(2 ^ (32 - 1) : ℕ)) ((2 ^ (32 - 1) : ℕ) - 1) (((before p k.val : ℕ) : ℝ) : EReal) = ((before p k.val : ℕ) : ℤ) := by
    show max (-(2 ^ (32 - 1) : ℕ) : ℤ) (min ((2 ^ (32 - 1) : ℕ) - 1) (if (0 : ℝ) ≤ ((before p k.val : ℕ) : ℝ) then ⌊((before p k.val : ℕ) : ℝ)⌋ else ⌈((before p k.val : ℕ) : ℝ)⌉)) = _
    rw [if_pos (Nat.cast_nonneg _), Int.floor_natCast, min_eq_right (by norm_num; omega), max_eq_right (by norm_num)]
  rw [e3, BitVec.ofInt_natCast]

/-- The lanes written: kept, with fewer than a hundred kept before. -/
theorem final_at (p : ℕ → Bool) (v110 : IVec S1x1024 1) (hp : ∀ k : Fin 1024, v110 (ix2 0 k) = BitVec.ofBool (p k.val)) (k : Fin 1024) :
    k0_pay36 (F := Ideal) v110 k0_pay33 k0_pay34 (ix2 0 k) = BitVec.ofBool (p k.val && decide (before p k.val < 100)) := by
  have e : k0_pay36 (F := Ideal) v110 k0_pay33 k0_pay34 (ix2 0 k)
      = IntOp.andi (v110 (ix2 0 k)) (IntOp.cmpi CmpIPredicate.slt (k0_pay35 (F := Ideal) v110 k0_pay33 k0_pay34 (ix2 0 k)) 100#32) := rfl
  rw [e, hp]
  cases hk : p k.val with
  | false =>
    generalize IntOp.cmpi _ _ _ = b
    clear e hp
    rcases BitVec.eq_zero_or_eq_one b with rfl | rfl <;> rfl
  | true =>
    rw [rank_at p v110 hp k hk]
    have hle := before_le p k.val
    have : (BitVec.ofNat 32 (before p k.val)).slt 100#32 = decide (before p k.val < 100) := by
      rw [BitVec.slt_eq_decide]
      congr 1
      rw [BitVec.toInt_eq_toNat_of_lt (by simp; omega)]
      simp only [BitVec.toNat_ofNat]
      rw [Nat.mod_eq_of_lt (by omega)]
      simp
    unfold IntOp.cmpi
    rw [← this]
    simp only [Bool.true_and]
    cases BitVec.slt _ _ <;> rfl

end Cert.Proof.SelectIdeal
-- ==== Proof.SelectBody.lean ====
/-
  The block the selection kernel stores, at every element: the rows of the kept candidates in order.
-/
module

public import proofs.«01_k».proof.Proof.SelectRank

@[expose] public section

set_option maxRecDepth 16384

noncomputable section

namespace Cert.Proof.SelectIdeal

open Cert.Proof.SelectMath Cert.SelectIdeal Cert.SelectIdeal.Gen
open Idealize.ShloMosaic Idealize.ShloMosaic.TcCoe Idealize.ShloMosaic.Tactic

section
variable (v13 v15 v25 v31 v37 v43 : FVec Ideal S1x1024 .f32) (v57 : IVec S1x1024 1)

/-- The first thousand lanes as candidates. -/
def thousand (c : Cands 1024) : Cands 1000 where
  x1 k := c.x1 (up k)
  y1 k := c.y1 (up k)
  x2 k := c.x2 (up k)
  y2 k := c.y2 (up k)
  v k := c.v (up k)
  cl k := c.cl (up k)

/-- The largest corner of the valid lanes, as the kernel takes it: a maximum of four. -/
def topLane (v : FVec Ideal S1x1024 .f32) : EReal :=
  Finset.fold max (Ideal.ofBits FTy.f32 4286578688#32)
    (fun x : Fin 1 × Fin 1024 => Scalar.select (v57 (ix2 0 x.2)) (v (ix2 0 x.2)) (Ideal.ofBits FTy.f32 4286578688#32)) Finset.univ

/-- The largest unmasked lane is at most any bound of the unmasked lanes. -/
theorem topLane_le (v : FVec Ideal S1x1024 .f32) (V : Fin 1024 → Bool) (hV : ∀ k, v57 (ix2 0 k) = BitVec.ofBool (V k)) (b : EReal) :
    topLane v57 v ≤ b ↔ ∀ k, V k = true → v (ix2 0 k) ≤ b := by
  unfold topLane
  rw [Finset.fold_max_le, Consts.neg_inf]
  constructor
  · intro h k hk
    have := h.2 (0, k) (Finset.mem_univ _)
    simpa [hV, hk, Scalar.select] using this
  · intro h
    refine ⟨bot_le, fun x _ => ?_⟩
    rw [hV]
    cases hk : V x.2 with
    | false => simp [Scalar.select]
    | true => simpa [Scalar.select] using h x.2 hk

/-- The body's largest coordinate is the one of the valid lanes. -/
theorem top_of_lanes (hV : ∀ k, v57 (ix2 0 k) = BitVec.ofBool ((lanes v13 v15 v25 v31 v37 v43).valid k))
    (hpad : ∀ k : Fin 1024, 1000 ≤ k.val → (lanes v13 v15 v25 v31 v37 v43).valid k = false) :
    max (max (topLane v57 v25) (topLane v57 v31)) (max (topLane v57 v37) (topLane v57 v43))
      = ⨆ k : Fin 1000, if (thousand (lanes v13 v15 v25 v31 v37 v43)).valid k then
          max (max ((thousand (lanes v13 v15 v25 v31 v37 v43)).x1 k) ((thousand (lanes v13 v15 v25 v31 v37 v43)).y1 k))
            (max ((thousand (lanes v13 v15 v25 v31 v37 v43)).x2 k) ((thousand (lanes v13 v15 v25 v31 v37 v43)).y2 k)) else ⊥ := by
  apply eq_of_forall_ge_iff
  intro b
  rw [max_le_iff, max_le_iff, max_le_iff, iSup_le_iff, topLane_le v57 _ _ hV, topLane_le v57 _ _ hV, topLane_le v57 _ _ hV,
    topLane_le v57 _ _ hV]
  constructor
  · rintro ⟨⟨h1, h2⟩, h3, h4⟩ k
    split
    case isTrue hk => exact max_le (max_le (h1 (up k) hk) (h2 (up k) hk)) (max_le (h3 (up k) hk) (h4 (up k) hk))
    case isFalse => exact bot_le
  · intro h
    have key : ∀ k : Fin 1024, (lanes v13 v15 v25 v31 v37 v43).valid k = true →
        max (max (v25 (ix2 0 k)) (v31 (ix2 0 k))) (max (v37 (ix2 0 k)) (v43 (ix2 0 k))) ≤ b := by
      intro k hk
      have hlt : k.val < 1000 := by
        by_contra hge
        rw [hpad k (by omega)] at hk
        cases hk
      have := h ⟨k.val, hlt⟩
      rw [if_pos (show (thousand (lanes v13 v15 v25 v31 v37 v43)).valid ⟨k.val, hlt⟩ = true from hk)] at this
      exact this
    exact ⟨⟨fun k hk => (max_le_iff.mp (max_le_iff.mp (key k hk)).1).1, fun k hk => (max_le_iff.mp (max_le_iff.mp (key k hk)).1).2⟩,
      fun k hk => (max_le_iff.mp (max_le_iff.mp (key k hk)).2).1, fun k hk => (max_le_iff.mp (max_le_iff.mp (key k hk)).2).2⟩

/-- The shift of every lane. -/
theorem off_at (hV : ∀ k, v57 (ix2 0 k) = BitVec.ofBool ((lanes v13 v15 v25 v31 v37 v43).valid k))
    (hpad : ∀ k : Fin 1024, 1000 ≤ k.val → (lanes v13 v15 v25 v31 v37 v43).valid k = false) (k : Fin 1024) :
    k0_pay23 v15 v37 v43 v57 (max (topLane v57 v25) (topLane v57 v31)) (FloatOps.ofBits FTy.f32 4286578688#32) (ix2 0 k)
      = (lanes v13 v15 v25 v31 v37 v43).off (thousand (lanes v13 v15 v25 v31 v37 v43)).top k := by
  have h := top_of_lanes v13 v15 v25 v31 v37 v43 v57 hV hpad
  unfold Cands.off Cands.top
  simp only []
  rw [← h]
  generalize hv70 : max (topLane v57 v25) (topLane v57 v31) = v70
  pointwise [k0_pay23]
  rw [Consts.neg_inf]
  simp only [topLane, Consts.neg_inf]
  rfl

/-- The element stored for row `r`, column `q`. -/
theorem stored_at (hV : ∀ k, v57 (ix2 0 k) = BitVec.ofBool ((lanes v13 v15 v25 v31 v37 v43).valid k))
    (hpad : ∀ k : Fin 1024, 1000 ≤ k.val → (lanes v13 v15 v25 v31 v37 v43).valid k = false)
    (v70 : Ideal .f32) (h70 : v70 = max (topLane v57 v25) (topLane v57 v31)) (v110 : IVec S1x1024 1)
    (h110 : v110 = k0_pay32 v57 (suppOut v15 v25 v31 v37 v43 v57 v70 (FloatOps.ofBits FTy.f32 4286578688#32) (iota .tc S1x1024 32 [1] iota_S1x1024_d1_w32)))
    (r : Fin 128) (q : Fin 8) :
    k0_pay1 v13 v15 v25 v31 v37 v43 (k0_pay35 (F := Ideal) v110 k0_pay33 k0_pay34) (k0_pay36 (F := Ideal) v110 k0_pay33 k0_pay34)
        (iota Kind.tc S128x1024 32 [0] iota_S128x1024_d0_w32) (ix3 0 r q)
      = (thousand (lanes v13 v15 v25 v31 v37 v43)).outAt r.val q.val := by
  set c := thousand (lanes v13 v15 v25 v31 v37 v43) with hc
  have hk : ∀ k : Fin 1024, v110 (ix2 0 k) = BitVec.ofBool (flagAt c.kept k.val) := by
    intro k
    rw [h110]
    exact kept_at v13 v15 v25 v31 v37 v43 v57 v70 _ hV hpad _ c.top (by rw [h70]; exact off_at v13 v15 v25 v31 v37 v43 v57 hV hpad) k
  have hrank := rank_at (flagAt c.kept) v110 hk
  have hfinal := final_at (flagAt c.kept) v110 hk
  have hread : k0_pay1 v13 v15 v25 v31 v37 v43 (k0_pay35 (F := Ideal) v110 k0_pay33 k0_pay34) (k0_pay36 (F := Ideal) v110 k0_pay33 k0_pay34)
        (iota Kind.tc S128x1024 32 [0] iota_S128x1024_d0_w32) (ix3 0 r q)
      = ∑ x : Fin 1024, Scalar.select (IntOp.andi (IntOp.cmpi CmpIPredicate.eq (BitVec.ofNat 32 r.val)
          (k0_pay35 (F := Ideal) v110 k0_pay33 k0_pay34 (ix2 0 x))) (k0_pay36 (F := Ideal) v110 k0_pay33 k0_pay34 (ix2 0 x)))
          ((lanes v13 v15 v25 v31 v37 v43).field q.val x) 0 := by
    pointwise [k0_pay1]
    refine Finset.sum_congr rfl fun x _ => ?_
    fin_cases q <;> rfl
  rw [hread]
  have hterm : ∀ x : Fin 1024, Scalar.select (IntOp.andi (IntOp.cmpi CmpIPredicate.eq (BitVec.ofNat 32 r.val)
      (k0_pay35 (F := Ideal) v110 k0_pay33 k0_pay34 (ix2 0 x))) (k0_pay36 (F := Ideal) v110 k0_pay33 k0_pay34 (ix2 0 x)))
      ((lanes v13 v15 v25 v31 v37 v43).field q.val x) 0
      = if flagAt c.kept x.val = true ∧ before (flagAt c.kept) x.val = r.val ∧ r.val < 100 then (lanes v13 v15 v25 v31 v37 v43).field q.val x else 0 := by
    intro x
    rw [hfinal]
    cases hx : flagAt c.kept x.val with
    | false =>
      generalize IntOp.cmpi _ _ _ = b
      rw [if_neg (by simp), Bool.false_and]
      rcases BitVec.eq_zero_or_eq_one b with rfl | rfl <;> rfl
    | true =>
      rw [hrank x hx]
      have hle := before_le (flagAt c.kept) x.val
      have e : IntOp.cmpi CmpIPredicate.eq (BitVec.ofNat 32 r.val) (BitVec.ofNat 32 (before (flagAt c.kept) x.val))
          = BitVec.ofBool (decide (before (flagAt c.kept) x.val = r.val)) := by
        unfold IntOp.cmpi
        congr 1
        by_cases hb : before (flagAt c.kept) x.val = r.val
        · simp [hb]
        · rw [decide_eq_false hb, beq_eq_false_iff_ne]
          intro he
          have := congrArg BitVec.toNat he
          simp only [BitVec.toNat_ofNat] at this
          rw [Nat.mod_eq_of_lt (by omega), Nat.mod_eq_of_lt (by omega)] at this
          exact hb this.symm
      rw [e]
      by_cases hb : before (flagAt c.kept) x.val = r.val
      · rw [hb]
        by_cases h100 : r.val < 100 <;> simp [h100, Scalar.select, IntOp.andi]
      · rw [if_neg (fun h => hb h.2.1), decide_eq_false hb]
        cases decide (before (flagAt c.kept) x.val < 100) <;> rfl
  simp only [hterm]
  by_cases hex : ∃ k : Fin 1000, c.kept k = true ∧ before (flagAt c.kept) k.val = r.val ∧ r.val < 100
  · obtain ⟨k, h1, h2, h3⟩ := hex
    rw [c.outAt_of_kept r.val q.val k h1 h2 h3, Finset.sum_eq_single (up k)]
    · have hf : flagAt c.kept (up k).val = true := by
        show flagAt c.kept k.val = true
        rw [flagAt_fin]; exact h1
      rw [if_pos ⟨hf, h2, h3⟩]
      rfl
    · intro b _ hb
      apply if_neg
      rintro ⟨g1, g2, -⟩
      apply hb
      apply Fin.ext
      apply before_inj (flagAt c.kept) g1
      · show flagAt c.kept k.val = true
        rw [flagAt_fin]; exact h1
      · rw [g2]; exact h2.symm
    · simp
  · rw [c.outAt_of_none r.val q.val]
    · apply Finset.sum_eq_zero
      intro x _
      apply if_neg
      rintro ⟨g1, g2, g3⟩
      have hx : x.val < 1000 := by
        by_contra hge
        unfold flagAt at g1
        rw [dif_neg hge] at g1
        cases g1
      refine hex ⟨⟨x.val, hx⟩, ?_, g2, g3⟩
      rw [← flagAt_fin c.kept ⟨x.val, hx⟩]
      exact g1
    · intro k h1 h2
      by_contra hlt
      exact hex ⟨k, h1, h2, by omega⟩

end

/-- The conjunction of three one-bit words. -/
theorem ofBool_and3 (a b d : Bool) : IntOp.andi (IntOp.andi (BitVec.ofBool a) (BitVec.ofBool b)) (BitVec.ofBool d) = BitVec.ofBool (a && b && d) := by
  cases a <;> cases b <;> cases d <;> rfl

/-- What the body stores, from the blocks it reads. -/
def bodyOut {F : FTy → Type} [FloatOps F] (x0 x1 x2 x3 x4 x5 x6 x7 : Vec F S1x1x1024 .f32) (h1 w1 : Vec F S1x1x1 .f32) : Vec F S1x128x8 .f32 :=
  let v57 := k0_pay21 (k0_pay8 x0) (k0_pay9 x1) (k0_pay10 x4) (k0_pay11 x5) (k0_pay12 x6) (k0_pay14 h1) (k0_pay15 w1) (k0_pay16 x0 x2 w1) (k0_pay17 x1 x3)
  let v70 := k0_pay22 (k0_pay8 x0) (k0_pay9 x1) (k0_pay10 x4) (k0_pay11 x5) (k0_pay12 x6) (k0_pay14 h1) (k0_pay15 w1) (k0_pay16 x0 x2 w1) (k0_pay17 x1 x3)
  let v31 := k0_pay18 (k0_pay14 h1) (k0_pay17 x1 x3)
  let v37 := k0_pay19 (k0_pay8 x0) (k0_pay10 x4) (k0_pay15 w1)
  let v43 := k0_pay20 (k0_pay9 x1) (k0_pay11 x5) (k0_pay14 h1)
  let v110 := k0_pay32 v57 (suppOut (k0_pay13 x7) (k0_pay16 x0 x2 w1) v31 v37 v43 v57 v70 (FloatOps.ofBits FTy.f32 4286578688#32)
    (iota Kind.tc S1x1024 32 [1] iota_S1x1024_d1_w32))
  k0_pay1 (k0_pay12 x6) (k0_pay13 x7) (k0_pay16 x0 x2 w1) v31 v37 v43 (k0_pay35 v110 (k0_pay33 (F := F)) k0_pay34) (k0_pay36 v110 (k0_pay33 (F := F)) k0_pay34)
    (iota Kind.tc S128x1024 32 [0] iota_S128x1024_d0_w32)

/-- The candidates of an image, from the blocks read and the image's height and width. -/
def cands (x0 x1 x2 x3 x4 x5 x6 x7 : Vec Ideal S1x1x1024 .f32) (h w : EReal) : Cands 1000 :=
  boxes (fun k => x0 (ix3 0 0 (up k))) (fun k => x1 (ix3 0 0 (up k))) (fun k => x2 (ix3 0 0 (up k))) (fun k => x3 (ix3 0 0 (up k)))
    (fun k => x4 (ix3 0 0 (up k))) (fun k => x5 (ix3 0 0 (up k))) (fun k => x6 (ix3 0 0 (up k))) (fun k => x7 (ix3 0 0 (up k))) h w

/-- What the body stores, of what it loads: the selection among its lanes. -/
theorem body_at (x0 x1 x2 x3 x4 x5 x6 x7 : Vec Ideal S1x1x1024 .f32) (h1 w1 : Vec Ideal S1x1x1 .f32)
    (hpad : ∀ k : Fin 1024, 1000 ≤ k.val → ¬ (0 : EReal) < x6 (ix3 0 0 k)) (r : Fin 128) (q : Fin 8) :
    bodyOut x0 x1 x2 x3 x4 x5 x6 x7 h1 w1 (ix3 0 r q)
      = (cands x0 x1 x2 x3 x4 x5 x6 x7 (h1 (ix3 0 0 0)) (w1 (ix3 0 0 0))).outAt r.val q.val := by
  have e13 : ∀ k : Fin 1024, k0_pay12 x6 (ix2 0 k) = x6 (ix3 0 0 k) := by intro k; pointwise [k0_pay12]
  have e15 : ∀ k : Fin 1024, k0_pay13 x7 (ix2 0 k) = x7 (ix3 0 0 k) := by intro k; pointwise [k0_pay13]
  have e25 : ∀ k : Fin 1024, k0_pay16 x0 x2 w1 (ix2 0 k) = min (w1 (ix3 0 0 0) - 1) (max 0 (x0 (ix3 0 0 k) - x2 (ix3 0 0 k))) := by
    intro k; pointwise [k0_pay16, k0_pay8, k0_pay15]
  have e31 : ∀ k : Fin 1024, k0_pay18 (k0_pay14 h1) (k0_pay17 x1 x3) (ix2 0 k) = min (h1 (ix3 0 0 0) - 1) (max 0 (x1 (ix3 0 0 k) - x3 (ix3 0 0 k))) := by
    intro k; pointwise [k0_pay18, k0_pay14, k0_pay17, k0_pay9]
  have e37 : ∀ k : Fin 1024, k0_pay19 (k0_pay8 x0) (k0_pay10 x4) (k0_pay15 w1) (ix2 0 k) = min (w1 (ix3 0 0 0) - 1) (max 0 (x0 (ix3 0 0 k) + x4 (ix3 0 0 k))) := by
    intro k; pointwise [k0_pay19, k0_pay8, k0_pay10, k0_pay15]
  have e43 : ∀ k : Fin 1024, k0_pay20 (k0_pay9 x1) (k0_pay11 x5) (k0_pay14 h1) (ix2 0 k) = min (h1 (ix3 0 0 0) - 1) (max 0 (x1 (ix3 0 0 k) + x5 (ix3 0 0 k))) := by
    intro k; pointwise [k0_pay20, k0_pay9, k0_pay11, k0_pay14]
  have ec : thousand (lanes (k0_pay12 x6) (k0_pay13 x7) (k0_pay16 x0 x2 w1) (k0_pay18 (k0_pay14 h1) (k0_pay17 x1 x3))
      (k0_pay19 (k0_pay8 x0) (k0_pay10 x4) (k0_pay15 w1)) (k0_pay20 (k0_pay9 x1) (k0_pay11 x5) (k0_pay14 h1)))
      = cands x0 x1 x2 x3 x4 x5 x6 x7 (h1 (ix3 0 0 0)) (w1 (ix3 0 0 0)) := by
    unfold thousand lanes cands boxes
    simp only [e13, e15, e25, e31, e37, e43]
  rw [← ec]
  unfold bodyOut
  refine stored_at _ _ _ _ _ _ _ ?_ ?_ _ ?_ _ rfl r q
  · intro k
    pointwise [k0_pay21]
    unfold Cands.valid lanes
    exact ofBool_and3 _ _ _
  · intro k hk
    unfold Cands.valid lanes
    simp only [e13]
    rw [decide_eq_false (hpad k hk)]
    rfl
  · unfold topLane
    pointwise [k0_pay22]

end Cert.Proof.SelectIdeal
-- ==== Proof.SelectKernel.lean ====
/-
  The selection kernel's array: row `r`, column `q` of image `i` is what the selection of the image's candidates gives.
-/
module

public import proofs.«01_k».proof.Proof.SelectBody

@[expose] public section

set_option maxRecDepth 16384

noncomputable section

namespace Cert.Proof.SelectIdeal

open Cert.Proof.SelectMath Cert.SelectIdeal Cert.SelectIdeal.Gen
open Idealize.ShloMosaic Idealize.ShloMosaic.TcCoe Idealize.ShloMosaic.Tactic Idealize.SL.Sem
open Idealize.ShloMosaic.Pipeline (Dat Cfg Window)

section
variable {F : FTy → Type} [FloatOps F]
variable (m : (ℓ : Loc nD τ sig) → Buf (Elt F) ℓ)

/-- The block the body leaves, of the point's input blocks. -/
theorem outsAt_eq (c : Dev nD) (t : Fin cfg0.N) : outsAt m c t
    = bodyOut (iblk m c 0 t) (iblk m c 1 t) (iblk m c 2 t) (iblk m c 3 t) (iblk m c 4 t) (iblk m c 5 t) (iblk m c 6 t) (iblk m c 7 t)
        (View.ld (iblk m c 8 t) (Rect.unit (s := S1x1x128) ![0, 0, 0] S1x1x1.size inb_S1x1x128_S1x1x1_0_0_0))
        (View.ld (iblk m c 8 t) (Rect.unit (s := S1x1x128) ![0, 0, 1] S1x1x1.size inb_S1x1x128_S1x1x1_0_0_1)) := by
  unfold outsAt
  unfold kernelRun
  frame_out
  rfl

/-- Every window moves with the image. -/
theorem idxOf (i : grid0.Coords) : cc0_transform_9 i = ![(i 0).val, 0, 0] := by
  have h0 : (i 0).val < 16 := (i 0).isLt
  funext a
  fin_cases a
  · show (BitVec.ofNat 32 (i 0).val).toNat = (i 0).val
    rw [BitVec.toNat_ofNat]; exact Nat.mod_eq_of_lt (by omega)
  · rfl
  · rfl

/-- The image of a grid point. -/
def img (t : Fin cfg0.N) : Fin 16 := ⟨(grid0.coords t 0).val, (grid0.coords t 0).isLt⟩

theorem index0_0 (t : Fin cfg0.N) : win0_0.index t = ![(grid0.coords t 0).val, 0, 0] := idxOf _
theorem index0_1 (t : Fin cfg0.N) : win0_1.index t = ![(grid0.coords t 0).val, 0, 0] := idxOf _
theorem index0_2 (t : Fin cfg0.N) : win0_2.index t = ![(grid0.coords t 0).val, 0, 0] := idxOf _
theorem index0_3 (t : Fin cfg0.N) : win0_3.index t = ![(grid0.coords t 0).val, 0, 0] := idxOf _
theorem index0_4 (t : Fin cfg0.N) : win0_4.index t = ![(grid0.coords t 0).val, 0, 0] := idxOf _
theorem index0_5 (t : Fin cfg0.N) : win0_5.index t = ![(grid0.coords t 0).val, 0, 0] := idxOf _
theorem index0_6 (t : Fin cfg0.N) : win0_6.index t = ![(grid0.coords t 0).val, 0, 0] := idxOf _
theorem index0_7 (t : Fin cfg0.N) : win0_7.index t = ![(grid0.coords t 0).val, 0, 0] := idxOf _
theorem index0_8 (t : Fin cfg0.N) : win0_8.index t = ![(grid0.coords t 0).val, 0, 0] := idxOf _
theorem index0_9 (t : Fin cfg0.N) : win0_9.index t = ![(grid0.coords t 0).val, 0, 0] := idxOf _

/-- The blocks of the nine inputs, read at a lane. -/
theorem blk0_at (c : Dev nD) (t : Fin cfg0.N) (k : Fin 1024) :
    iblk m c 0 t (ix3 0 0 k) = V m c main_v26 (ix3 (img t) (0 : Fin 1) k) := by
  unfold iblk
  blk_simp
  refine congrArg (V m c main_v26) (funext fun a => ?_)
  fin_cases a <;> apply Fin.ext <;> blk_simp <;> rw [index0_0]
  · rfl
  · rfl
  · exact (Nat.zero_add _)

theorem blk1_at (c : Dev nD) (t : Fin cfg0.N) (k : Fin 1024) :
    iblk m c 1 t (ix3 0 0 k) = V m c main_v39 (ix3 (img t) (0 : Fin 1) k) := by
  unfold iblk
  blk_simp
  refine congrArg (V m c main_v39) (funext fun a => ?_)
  fin_cases a <;> apply Fin.ext <;> blk_simp <;> rw [index0_1]
  · rfl
  · rfl
  · exact (Nat.zero_add _)

theorem blk2_at (c : Dev nD) (t : Fin cfg0.N) (k : Fin 1024) :
    iblk m c 2 t (ix3 0 0 k) = V m c main_v52 (ix3 (img t) (0 : Fin 1) k) := by
  unfold iblk
  blk_simp
  refine congrArg (V m c main_v52) (funext fun a => ?_)
  fin_cases a <;> apply Fin.ext <;> blk_simp <;> rw [index0_2]
  · rfl
  · rfl
  · exact (Nat.zero_add _)

theorem blk3_at (c : Dev nD) (t : Fin cfg0.N) (k : Fin 1024) :
    iblk m c 3 t (ix3 0 0 k) = V m c main_v65 (ix3 (img t) (0 : Fin 1) k) := by
  unfold iblk
  blk_simp
  refine congrArg (V m c main_v65) (funext fun a => ?_)
  fin_cases a <;> apply Fin.ext <;> blk_simp <;> rw [index0_3]
  · rfl
  · rfl
  · exact (Nat.zero_add _)

theorem blk4_at (c : Dev nD) (t : Fin cfg0.N) (k : Fin 1024) :
    iblk m c 4 t (ix3 0 0 k) = V m c main_v78 (ix3 (img t) (0 : Fin 1) k) := by
  unfold iblk
  blk_simp
  refine congrArg (V m c main_v78) (funext fun a => ?_)
  fin_cases a <;> apply Fin.ext <;> blk_simp <;> rw [index0_4]
  · rfl
  · rfl
  · exact (Nat.zero_add _)

theorem blk5_at (c : Dev nD) (t : Fin cfg0.N) (k : Fin 1024) :
    iblk m c 5 t (ix3 0 0 k) = V m c main_v91 (ix3 (img t) (0 : Fin 1) k) := by
  unfold iblk
  blk_simp
  refine congrArg (V m c main_v91) (funext fun a => ?_)
  fin_cases a <;> apply Fin.ext <;> blk_simp <;> rw [index0_5]
  · rfl
  · rfl
  · exact (Nat.zero_add _)

theorem blk6_at (c : Dev nD) (t : Fin cfg0.N) (k : Fin 1024) :
    iblk m c 6 t (ix3 0 0 k) = V m c main_v93 (ix3 (img t) (0 : Fin 1) k) := by
  unfold iblk
  blk_simp
  refine congrArg (V m c main_v93) (funext fun a => ?_)
  fin_cases a <;> apply Fin.ext <;> blk_simp <;> rw [index0_6]
  · rfl
  · rfl
  · exact (Nat.zero_add _)

theorem blk7_at (c : Dev nD) (t : Fin cfg0.N) (k : Fin 1024) :
    iblk m c 7 t (ix3 0 0 k) = V m c main_v98 (ix3 (img t) (0 : Fin 1) k) := by
  unfold iblk
  blk_simp
  refine congrArg (V m c main_v98) (funext fun a => ?_)
  fin_cases a <;> apply Fin.ext <;> blk_simp <;> rw [index0_7]
  · rfl
  · rfl
  · exact (Nat.zero_add _)

theorem blk8_at (c : Dev nD) (t : Fin cfg0.N) (k : Fin 128) :
    iblk m c 8 t (ix3 0 0 k) = V m c main_v113 (ix3 (img t) (0 : Fin 1) k) := by
  unfold iblk
  blk_simp
  refine congrArg (V m c main_v113) (funext fun a => ?_)
  fin_cases a <;> apply Fin.ext <;> blk_simp <;> rw [index0_8]
  · rfl
  · rfl
  · exact (Nat.zero_add _)

/-- Every block of the result is written. -/
theorem covers : (cfg0.win 9).CoversWhere (fun _ => True) := by
  refine ⟨by decide, fun t _ => ⟨trivial, (cfg0.win 9).xsize_eq_or_end rfl _⟩, fun β _ => ?_⟩
  · obtain ⟨t₀, h₀⟩ := grid0.coords_surjective (fun a => match a with
      | ⟨0, _⟩ => (⟨(β (0 : Fin 3)).val, (β (0 : Fin 3)).isLt⟩ : Fin 16))
    obtain ⟨t, -, hf, hix⟩ := (cfg0.win 9).exists_flush_same_index rfl t₀
    refine ⟨t, fun a => ?_, hf⟩
    rw [hix]
    show cc0_transform_9 (grid0.coords t₀) a = _
    rw [idxOf, h₀]
    fin_cases a
    · rfl
    · have := (β (1 : Fin 3)).isLt
      show 0 = (β (1 : Fin 3)).val
      have h1 : (cfg0.win 9).nblk (1 : Fin 3) = 1 := by decide
      omega
    · have := (β (2 : Fin 3)).isLt
      show 0 = (β (2 : Fin 3)).val
      have h1 : (cfg0.win 9).nblk (2 : Fin 3) = 1 := by decide
      omega

end

variable (m : (ℓ : Loc nD τ sig) → Buf (Elt Ideal) ℓ)

/-- The candidates of an image, from the arrays the call is given. -/
def kcands (c : Dev nD) (i : Fin 16) : Cands 1000 :=
  boxes (fun k => V m c main_v26 (ix3 i (0 : Fin 1) (up k))) (fun k => V m c main_v39 (ix3 i (0 : Fin 1) (up k)))
    (fun k => V m c main_v52 (ix3 i (0 : Fin 1) (up k))) (fun k => V m c main_v65 (ix3 i (0 : Fin 1) (up k)))
    (fun k => V m c main_v78 (ix3 i (0 : Fin 1) (up k))) (fun k => V m c main_v91 (ix3 i (0 : Fin 1) (up k)))
    (fun k => V m c main_v93 (ix3 i (0 : Fin 1) (up k))) (fun k => V m c main_v98 (ix3 i (0 : Fin 1) (up k)))
    (V m c main_v113 (ix3 i (0 : Fin 1) (0 : Fin 128))) (V m c main_v113 (ix3 i (0 : Fin 1) (1 : Fin 128)))

/-- The candidates in a point's blocks are the lanes of its image. -/
theorem cands_blk (c : Dev nD) (t : Fin cfg0.N) :
    cands (iblk m c 0 t) (iblk m c 1 t) (iblk m c 2 t) (iblk m c 3 t) (iblk m c 4 t) (iblk m c 5 t) (iblk m c 6 t) (iblk m c 7 t)
      (V m c main_v113 (ix3 (img t) (0 : Fin 1) (0 : Fin 128))) (V m c main_v113 (ix3 (img t) (0 : Fin 1) (1 : Fin 128))) = kcands m c (img t) := by
  unfold cands kcands
  simp only [blk0_at, blk1_at, blk2_at, blk3_at, blk4_at, blk5_at, blk6_at, blk7_at]

/-- The height the body loads. -/
theorem ld_h (c : Dev nD) (t : Fin cfg0.N) :
    View.ld (iblk m c 8 t) (Rect.unit (s := S1x1x128) ![0, 0, 0] S1x1x1.size inb_S1x1x128_S1x1x1_0_0_0) (ix3 (0 : Fin 1) (0 : Fin 1) (0 : Fin 1))
      = V m c main_v113 (ix3 (img t) (0 : Fin 1) (0 : Fin 128)) := by
  rw [← blk8_at]
  refine congrArg (iblk m c 8 t) (funext fun a => ?_)
  fin_cases a <;> rfl

/-- The width the body loads. -/
theorem ld_w (c : Dev nD) (t : Fin cfg0.N) :
    View.ld (iblk m c 8 t) (Rect.unit (s := S1x1x128) ![0, 0, 1] S1x1x1.size inb_S1x1x128_S1x1x1_0_0_1) (ix3 (0 : Fin 1) (0 : Fin 1) (0 : Fin 1))
      = V m c main_v113 (ix3 (img t) (0 : Fin 1) (1 : Fin 128)) := by
  rw [← blk8_at]
  refine congrArg (iblk m c 8 t) (funext fun a => ?_)
  fin_cases a <;> rfl

/-- The kernel's array at a row and column, of the padded arrays the host hands it. -/
theorem kernel_at (c : Dev nD) (hpad : ∀ (i : Fin 16) (k : Fin 1024), 1000 ≤ k.val → ¬ (0 : EReal) < V m c main_v93 (ix3 i (0 : Fin 1) k))
    (i : Fin 16) (r : Fin 128) (q : Fin 8) :
    (dats m 0 c).arrAt 9 cfg0.N (ix3 i r q) = (kcands m c i).outAt r.val q.val := by
  refine ((dats m 0 c).arrAt_apply_of_coversWhere 9
    (fun j : S16x128x8.Idx => (kcands m c (j 0)).outAt (j 1).val (j 2).val)
    (P := fun j : S16x128x8.Idx => True) _ covers (fun t hf y => ?_) (fun j => ?_) (ix3 i r q)).trans (if_pos trivial)
  · blk_simp
    rw [after_9, outsAt_eq]
    have hy0 : (y (0 : Fin 3)).val < 1 := Nat.lt_of_lt_of_le (y (0 : Fin 3)).isLt ((win0 9).xsize_le (grid0.coords t) (0 : Fin 3))
    have hy1 : (y (1 : Fin 3)).val < 128 := Nat.lt_of_lt_of_le (y (1 : Fin 3)).isLt ((win0 9).xsize_le (grid0.coords t) (1 : Fin 3))
    have hy2 : (y (2 : Fin 3)).val < 8 := Nat.lt_of_lt_of_le (y (2 : Fin 3)).isLt ((win0 9).xsize_le (grid0.coords t) (2 : Fin 3))
    have ey : y = ix3 (0 : Fin 1) (⟨(y (1 : Fin 3)).val, hy1⟩ : Fin 128) (⟨(y (2 : Fin 3)).val, hy2⟩ : Fin 8) := by
      funext a
      fin_cases a
      · apply Fin.ext
        show (y (0 : Fin 3)).val = 0
        omega
      · rfl
      · rfl
    have e0 : (win0_9.blk t).view.emb y (0 : Fin 3) = img t := by
      apply Fin.ext
      blk_simp [index0_9]
      rfl
    have e1 : win0_9.index t (1 : Fin 3) * 128 + (y (1 : Fin 3)).val = (y (1 : Fin 3)).val := by
      rw [index0_9]
      exact Nat.zero_add _
    have e2 : win0_9.index t (2 : Fin 3) * 8 + (y (2 : Fin 3)).val = (y (2 : Fin 3)).val := by
      rw [index0_9]
      exact Nat.zero_add _
    refine (congrArg (bodyOut (iblk m c 0 t) (iblk m c 1 t) (iblk m c 2 t) (iblk m c 3 t) (iblk m c 4 t) (iblk m c 5 t) (iblk m c 6 t) (iblk m c 7 t)
        (View.ld (iblk m c 8 t) (Rect.unit (s := S1x1x128) ![0, 0, 0] S1x1x1.size inb_S1x1x128_S1x1x1_0_0_0))
        (View.ld (iblk m c 8 t) (Rect.unit (s := S1x1x128) ![0, 0, 1] S1x1x1.size inb_S1x1x128_S1x1x1_0_0_1))) ey).trans ?_
    rw [body_at, ld_h, ld_w, cands_blk, e1, e2]
    · exact congrArg (fun i => (kcands m c i).outAt (y (1 : Fin 3)).val (y (2 : Fin 3)).val) e0.symm
    · intro k hk
      rw [blk6_at]
      exact hpad _ k hk
  · simp

end Cert.Proof.SelectIdeal

end
-- ==== Proof.SelectGather.lean ====
/-
The gathers of the selection's two programs, read at one index of the result: each component of the
index vector is read as a signed word and clamped to the last row (column) of the table.
-/
module

public import proofs.«01_k».proof.Proof.Gen.SelectIdeal
public import Idealize.ShloMosaic.Lib.Pointwise
public import Idealize.ShloMosaic.Lib.Routing.OpsSet

@[expose] public section
set_option maxRecDepth 16384
noncomputable section
namespace Cert.Proof.SelectGather
open Idealize.ShloMosaic

variable {α : Type}

/-- A signed 32-bit word as an index, clamped to `0 … n - 1`. -/
def clampTo (n : Nat) (h : 0 < n) (w : BitVec 32) : Fin n := ⟨min w.toInt.toNat (n - 1), by omega⟩

/-- The pair gather from the locations. -/
theorem points (x : Cert.SelectIdeal.S2097152x2.Idx → α) (idx : IVec Cert.SelectIdeal.S16x1000x2 32) (i : Fin 16) (k : Fin 1000) :
    Host.gather Cert.SelectIdeal.gather_S2097152x2_S16x1000x2_S16x1000_n_01_n_n_01_2_11 x idx (Idealize.ShloMosaic.ix2 i k) = x (Idealize.ShloMosaic.ix2 (clampTo 2097152 (by decide) (idx (Idealize.ShloMosaic.ix3 i k (0 : Fin 2)))) (clampTo 2 (by decide) (idx (Idealize.ShloMosaic.ix3 i k (1 : Fin 2))))) := by
  have hsi0 : ∀ h, Cert.SelectIdeal.gather_S2097152x2_S16x1000x2_S16x1000_n_01_n_n_01_2_11.siIdx (Idealize.ShloMosaic.ix2 i k) ⟨0, h⟩ = Idealize.ShloMosaic.ix3 i k (0 : Fin 2) := fun h => by
    funext b
    match b with
    | ⟨0, _⟩ => rfl
    | ⟨1, _⟩ => rfl
    | ⟨2, _⟩ => rfl
  have hsi1 : ∀ h, Cert.SelectIdeal.gather_S2097152x2_S16x1000x2_S16x1000_n_01_n_n_01_2_11.siIdx (Idealize.ShloMosaic.ix2 i k) ⟨1, h⟩ = Idealize.ShloMosaic.ix3 i k (1 : Fin 2) := fun h => by
    funext b
    match b with
    | ⟨0, _⟩ => rfl
    | ⟨1, _⟩ => rfl
    | ⟨2, _⟩ => rfl
  unfold Host.gather
  refine congrArg x (funext fun a => Fin.ext ?_)
  match a with
  | ⟨0, _⟩ =>
    have e : Cert.SelectIdeal.gather_S2097152x2_S16x1000x2_S16x1000_n_01_n_n_01_2_11.start (Idealize.ShloMosaic.ix2 i k) idx 0 = min (idx (Idealize.ShloMosaic.ix3 i k (0 : Fin 2))).toInt.toNat 2097151 := by
      unfold GatherDims.start
      rw [dif_pos (by decide)]
      exact congrArg (fun y => min (idx y).toInt.toNat 2097151) (hsi0 _)
    exact e
  | ⟨1, _⟩ =>
    have e : Cert.SelectIdeal.gather_S2097152x2_S16x1000x2_S16x1000_n_01_n_n_01_2_11.start (Idealize.ShloMosaic.ix2 i k) idx 1 = min (idx (Idealize.ShloMosaic.ix3 i k (1 : Fin 2))).toInt.toNat 1 := by
      unfold GatherDims.start
      rw [dif_pos (by decide)]
      exact congrArg (fun y => min (idx y).toInt.toNat 1) (hsi1 _)
    exact e

/-- The pair gather from the scaled regressions. -/
theorem sides (x : Cert.SelectIdeal.S2097152x4.Idx → α) (idx : IVec Cert.SelectIdeal.S16x1000x2 32) (i : Fin 16) (k : Fin 1000) :
    Host.gather Cert.SelectIdeal.gather_S2097152x4_S16x1000x2_S16x1000_n_01_n_n_01_2_11 x idx (Idealize.ShloMosaic.ix2 i k) = x (Idealize.ShloMosaic.ix2 (clampTo 2097152 (by decide) (idx (Idealize.ShloMosaic.ix3 i k (0 : Fin 2)))) (clampTo 4 (by decide) (idx (Idealize.ShloMosaic.ix3 i k (1 : Fin 2))))) := by
  have hsi0 : ∀ h, Cert.SelectIdeal.gather_S2097152x4_S16x1000x2_S16x1000_n_01_n_n_01_2_11.siIdx (Idealize.ShloMosaic.ix2 i k) ⟨0, h⟩ = Idealize.ShloMosaic.ix3 i k (0 : Fin 2) := fun h => by
    funext b
    match b with
    | ⟨0, _⟩ => rfl
    | ⟨1, _⟩ => rfl
    | ⟨2, _⟩ => rfl
  have hsi1 : ∀ h, Cert.SelectIdeal.gather_S2097152x4_S16x1000x2_S16x1000_n_01_n_n_01_2_11.siIdx (Idealize.ShloMosaic.ix2 i k) ⟨1, h⟩ = Idealize.ShloMosaic.ix3 i k (1 : Fin 2) := fun h => by
    funext b
    match b with
    | ⟨0, _⟩ => rfl
    | ⟨1, _⟩ => rfl
    | ⟨2, _⟩ => rfl
  unfold Host.gather
  refine congrArg x (funext fun a => Fin.ext ?_)
  match a with
  | ⟨0, _⟩ =>
    have e : Cert.SelectIdeal.gather_S2097152x4_S16x1000x2_S16x1000_n_01_n_n_01_2_11.start (Idealize.ShloMosaic.ix2 i k) idx 0 = min (idx (Idealize.ShloMosaic.ix3 i k (0 : Fin 2))).toInt.toNat 2097151 := by
      unfold GatherDims.start
      rw [dif_pos (by decide)]
      exact congrArg (fun y => min (idx y).toInt.toNat 2097151) (hsi0 _)
    exact e
  | ⟨1, _⟩ =>
    have e : Cert.SelectIdeal.gather_S2097152x4_S16x1000x2_S16x1000_n_01_n_n_01_2_11.start (Idealize.ShloMosaic.ix2 i k) idx 1 = min (idx (Idealize.ShloMosaic.ix3 i k (1 : Fin 2))).toInt.toNat 3 := by
      unfold GatherDims.start
      rw [dif_pos (by decide)]
      exact congrArg (fun y => min (idx y).toInt.toNat 3) (hsi1 _)
    exact e

/-- The gather from the table of strides. -/
theorem stride (x : Cert.SelectIdeal.S5.Idx → α) (idx : IVec Cert.SelectIdeal.S2097152x1 32) (p : Fin 2097152) :
    Host.gather Cert.SelectIdeal.gather_S5_S2097152x1_S2097152_n_0_n_n_0_1_1 x idx (Idealize.ShloMosaic.ix1 p) = x (Idealize.ShloMosaic.ix1 (clampTo 5 (by decide) (idx (Idealize.ShloMosaic.ix2 p (0 : Fin 1))))) := by
  have hsi0 : ∀ h, Cert.SelectIdeal.gather_S5_S2097152x1_S2097152_n_0_n_n_0_1_1.siIdx (Idealize.ShloMosaic.ix1 p) ⟨0, h⟩ = Idealize.ShloMosaic.ix2 p (0 : Fin 1) := fun h => by
    funext b
    match b with
    | ⟨0, _⟩ => rfl
    | ⟨1, _⟩ => rfl
  unfold Host.gather
  refine congrArg x (funext fun a => Fin.ext ?_)
  match a with
  | ⟨0, _⟩ =>
    have e : Cert.SelectIdeal.gather_S5_S2097152x1_S2097152_n_0_n_n_0_1_1.start (Idealize.ShloMosaic.ix1 p) idx 0 = min (idx (Idealize.ShloMosaic.ix2 p (0 : Fin 1))).toInt.toNat 4 := by
      unfold GatherDims.start
      rw [dif_pos (by decide)]
      exact congrArg (fun y => min (idx y).toInt.toNat 4) (hsi0 _)
    exact e

/-- Where update `n` of a scatter at index vector `(0, b)` lands: row `n`, column `b`. -/
theorem lands (idx : IVec Cert.SelectIdeal.S2 32) (b : Fin 128) (h0 : idx (Idealize.ShloMosaic.ix1 (0 : Fin 2)) = 0#32)
    (h1 : (idx (Idealize.ShloMosaic.ix1 (1 : Fin 2))).toInt = b.val) (n : Fin 16) :
    Cert.SelectIdeal.scatter_S16x1x128_S2_S16_0_12_12_0.resultIdx? (Idealize.ShloMosaic.ix1 n) idx = some (Idealize.ShloMosaic.ix3 n (0 : Fin 1) b) := by
  have hs0 : ∀ h, Cert.SelectIdeal.scatter_S16x1x128_S2_S16_0_12_12_0.siIdx (Idealize.ShloMosaic.ix1 n) ⟨0, h⟩ = Idealize.ShloMosaic.ix1 (0 : Fin 2) := fun h => by
    funext a; match a with
    | ⟨0, _⟩ => rfl
  have hs1 : ∀ h, Cert.SelectIdeal.scatter_S16x1x128_S2_S16_0_12_12_0.siIdx (Idealize.ShloMosaic.ix1 n) ⟨1, h⟩ = Idealize.ShloMosaic.ix1 (1 : Fin 2) := fun h => by
    funext a; match a with
    | ⟨0, _⟩ => rfl
  have e1 : Cert.SelectIdeal.scatter_S16x1x128_S2_S16_0_12_12_0.start (Idealize.ShloMosaic.ix1 n) idx 1 = 0 := by
    unfold ScatterDims.start
    rw [dif_pos (by decide)]
    exact (congrArg (fun y => (idx y).toInt) (hs0 _)).trans (by rw [h0]; rfl)
  have e2 : Cert.SelectIdeal.scatter_S16x1x128_S2_S16_0_12_12_0.start (Idealize.ShloMosaic.ix1 n) idx 2 = b.val := by
    unfold ScatterDims.start
    rw [dif_pos (by decide)]
    exact (congrArg (fun y => (idx y).toInt) (hs1 _)).trans h1
  have e : ∀ a : Fin 3, Cert.SelectIdeal.scatter_S16x1x128_S2_S16_0_12_12_0.start (Idealize.ShloMosaic.ix1 n) idx a
      + Cert.SelectIdeal.scatter_S16x1x128_S2_S16_0_12_12_0.window (Idealize.ShloMosaic.ix1 n) a = ((Idealize.ShloMosaic.ix3 n (0 : Fin 1) b) a).val := fun a => by
    match a with
    | ⟨0, _⟩ => exact Int.zero_add _
    | ⟨1, _⟩ => exact congrArg (fun z : Int => z + 0) e1
    | ⟨2, _⟩ => exact (congrArg (fun z : Int => z + 0) e2).trans (Int.add_zero _)
  unfold ScatterDims.resultIdx?
  rw [dif_pos (fun a => by
    have := e a
    have h2 := ((Idealize.ShloMosaic.ix3 n (0 : Fin 1) b) a).isLt
    constructor
    · omega
    · rw [this]; exact_mod_cast h2)]
  refine congrArg some (funext fun a => Fin.ext ?_)
  show Int.toNat _ = _
  rw [e a]
  exact Int.toNat_natCast _

/-- The scatter of one value per row into column `b`: that column is overwritten, the others stay. -/
theorem column (x : Cert.SelectIdeal.S16x1x128.Idx → α) (idx : IVec Cert.SelectIdeal.S2 32) (upd : Cert.SelectIdeal.S16.Idx → α) (b : Fin 128)
    (h0 : idx (Idealize.ShloMosaic.ix1 (0 : Fin 2)) = 0#32) (h1 : (idx (Idealize.ShloMosaic.ix1 (1 : Fin 2))).toInt = b.val) (i : Fin 16) (y : Fin 128) :
    Host.scatter Cert.SelectIdeal.scatter_S16x1x128_S2_S16_0_12_12_0 (fun _ b => b) x idx upd (Idealize.ShloMosaic.ix3 i (0 : Fin 1) y)
      = if y = b then upd (Idealize.ShloMosaic.ix1 i) else x (Idealize.ShloMosaic.ix3 i (0 : Fin 1) y) := by
  have hk : ∀ k : Cert.SelectIdeal.S16.Idx, ∃ n : Fin 16, k = Idealize.ShloMosaic.ix1 n := fun k => ⟨k 0, funext fun a => by match a with | ⟨0, _⟩ => rfl⟩
  by_cases hy : y = b
  · rw [if_pos hy, hy]
    refine Routing.scatter_set_hit _ _ _ _ _ _ (fun k e => ?_) (Idealize.ShloMosaic.ix1 i) (lands idx b h0 h1 i)
    obtain ⟨n, rfl⟩ := hk k
    rw [lands idx b h0 h1 n] at e
    have : n = i := congrFun (Option.some.inj e) 0
    rw [this]
  · rw [if_neg hy]
    refine Routing.scatter_set_miss _ _ _ _ _ fun k e => hy ?_
    obtain ⟨n, rfl⟩ := hk k
    rw [lands idx b h0 h1 n] at e
    exact (congrFun (Option.some.inj e) 2).symm

end Cert.Proof.SelectGather
-- ==== Proof.SelectPick.lean ====
/-
  The candidates of an image as both programs take them from the inputs: the scores are sorted along the flattened
  (location, class) axis, and each of the first thousand gives a location, a class label, a score and a box.
-/
module

public import proofs.«01_k».proof.Proof.SelectSpec
public import proofs.«01_k».proof.Proof.SelectGather

@[expose] public section

set_option maxRecDepth 16384

noncomputable section

namespace Cert.Proof.SelectPick

open Idealize.ShloMosaic Cert.Proof.SelectMath Cert.SelectIdeal Cert.SelectIdeal.Gen

/-- The sorted scores and their flat positions. -/
def sorted (A : S16x2097152x128.Idx → EReal) : (S16x1000.Idx → EReal) × (S16x1000.Idx → BitVec 32) :=
  Host.topK S16x1000 1 (FloatOps.cmpfTotal (F := Ideal) (φ := FTy.f32) CmpDirection.gt)
    (fun j : S16x23068672.Idx => A (Idealize.ShloMosaic.ix3 (j 0) ⟨(j 1).val / 11, by have : (j 1).val < 23068672 := (j 1).isLt; omega⟩
      ⟨(j 1).val % 11, by omega⟩)) sliceFits_S16x23068672_S16x1000

/-- The sign of a word. -/
def signOf (w : BitVec 32) : BitVec 32 := if w = 0 then 0 else if w.msb = true then -1 else 1

/-- The floor quotient of a flat position by the eleven classes. -/
def quotient (w : BitVec 32) : BitVec 32 :=
  Scalar.select (IntOp.andi (IntOp.cmpi .ne (signOf w) (signOf 11#32)) (IntOp.cmpi .ne (IntOp.remsi .host w 11#32) 0#32))
    (IntOp.subi (IntOp.divsi .host w 11#32) 1#32) (IntOp.divsi .host w 11#32)

/-- A negative index counts from the end. -/
def wrap (n w : BitVec 32) : BitVec 32 := Scalar.select (IntOp.cmpi .slt w 0#32) (IntOp.addi w n) w

/-- The location of a flat position. -/
def pointOf (w : BitVec 32) : Fin 2097152 := SelectGather.clampTo 2097152 (by decide) (wrap 2097152#32 (quotient w))

/-- The divisor of the remainder. -/
def divisor : BitVec 32 := Scalar.select (IntOp.cmpi .eq 11#32 0#32) 1#32 11#32

/-- The label of a flat position: its class, counted from one. -/
def labelOf (w : BitVec 32) : BitVec 32 :=
  IntOp.addi (Scalar.select
    (IntOp.andi (IntOp.cmpi .ne (IntOp.cmpi .slt (IntOp.remsi .host w divisor) 0#32) (IntOp.cmpi .slt divisor 0#32))
      (IntOp.cmpi .ne (IntOp.remsi .host w divisor) 0#32))
    (IntOp.addi (IntOp.remsi .host w divisor) divisor) (IntOp.remsi .host w divisor)) 1#32

/-- The pattern of each level's stride: 8, 16, 32, 64, 128. -/
def strideBits : Fin 5 → BitVec 32 := fun
  | 0 => 0x41000000#32 | 1 => 0x41800000#32 | 2 => 0x42000000#32 | 3 => 0x42800000#32 | 4 => 0x43000000#32

/-- The stride of a location. -/
def strideOf (L : S2097152.Idx → BitVec 32) (p : Fin 2097152) : EReal :=
  Ideal.ofBits FTy.f32 (strideBits (SelectGather.clampTo 5 (by decide) (wrap 5#32 (L (Idealize.ShloMosaic.ix1 p)))))

/-- An image's side as a float, read from the table of sizes. -/
def side (Z : S16x2.Idx → BitVec 32) (i : Fin 16) (j : Fin 2) : EReal :=
  FloatOps.sitofp (F := Ideal) FTy.f32 (Z (Idealize.ShloMosaic.ix2 i j))

/-- The candidates of image `i`. -/
def picks (A : S16x2097152x128.Idx → EReal) (P : S2097152x2.Idx → EReal) (L : S2097152.Idx → BitVec 32)
    (B : S2097152x4.Idx → EReal) (Z : S16x2.Idx → BitVec 32) (i : Fin 16) : Cands 1000 :=
  let pt (k : Fin 1000) : Fin 2097152 := pointOf ((sorted A).2 (Idealize.ShloMosaic.ix2 i k))
  let reach (j : Fin 4) (k : Fin 1000) : EReal := B (Idealize.ShloMosaic.ix2 (pt k) j) * strideOf L (pt k)
  boxes (fun k => P (Idealize.ShloMosaic.ix2 (pt k) (0 : Fin 2))) (fun k => P (Idealize.ShloMosaic.ix2 (pt k) (1 : Fin 2)))
    (reach 0) (reach 1) (reach 2) (reach 3)
    (fun k => (sorted A).1 (Idealize.ShloMosaic.ix2 i k))
    (fun k => FloatOps.sitofp (F := Ideal) FTy.f32 (labelOf ((sorted A).2 (Idealize.ShloMosaic.ix2 i k))))
    (side Z i 0) (side Z i 1)

end Cert.Proof.SelectPick
-- ==== Proof.SelectKernelHost.lean ====
/-
  What the selection kernel's nine arrays hold when it starts: the candidates taken from the inputs, padded to 1024 lanes.
-/
module

public import proofs.«01_k».proof.Proof.SelectKernel
public import proofs.«01_k».proof.Proof.SelectPick
public import Idealize.ShloMosaic.Lib.StableHlo.ReadAt

@[expose] public section

set_option maxRecDepth 16384

noncomputable section

namespace Cert.Proof.SelectIdeal

open Cert.Proof.SelectMath Cert.Proof.SelectPick Cert.SelectIdeal Cert.SelectIdeal.Gen
open Idealize.ShloMosaic Idealize.ShloMosaic.TcCoe Idealize.ShloMosaic.Tactic

variable (m : (ℓ : Loc nD τ sig) → Buf (Elt Ideal) ℓ)

/-- The flat position of candidate `k` of image `i`. -/
def flatAt (c : Dev nD) (i : Fin 16) (k : Fin 1000) : BitVec 32 := (sorted (m (c, Proc.tc.devRef main_arg0))).2 (ix2 i k)

/-- The table of strides at a level. -/
theorem strideBits_eq (q : Fin 5) : lit0 (S5.rowMajor (ix1 q)) = strideBits q := by
  fin_cases q <;> rfl

/-- The stride gathered for location `p`. -/
theorem gathered (c : Dev nD) (p : Fin 2097152) :
    Host.gather gather_S5_S2097152x1_S2097152_n_0_n_n_0_1_1 (fun i : S5.Idx => Ideal.ofBits FTy.f32 (lit0 (S5.rowMajor i)))
        (broadcastInDim S2097152x1 ![0] bcast_S2097152_S2097152x1_0
          (select
            (cmpi CmpIPredicate.slt (m (c, Proc.tc.devRef main_arg2))
              (broadcastInDim S2097152 ![] bcast_S_S2097152 (constantI S_ 32 0#32)))
            (addi (m (c, Proc.tc.devRef main_arg2))
              (broadcastInDim S2097152 ![] bcast_S_S2097152 (constantI S_ 32 5#32)))
            (m (c, Proc.tc.devRef main_arg2))))
        (ix1 p)
      = strideOf (m (c, Proc.tc.devRef main_arg2)) p := by
  rw [SelectGather.stride]
  refine (congrArg (Ideal.ofBits FTy.f32) (strideBits_eq _)).trans ?_
  refine congrArg (fun w => Ideal.ofBits FTy.f32 (strideBits (SelectGather.clampTo 5 (by decide) w))) ?_
  pointwise []
  rfl

/-- Coordinate 0 of the candidates' locations. -/
theorem point_x (c : Dev nD) (i : Fin 16) (k : Fin 1000) : V m c main_v26 (ix3 i (0 : Fin 1) (up k))
      = m (c, Proc.tc.devRef main_arg1) (ix2 (pointOf (flatAt m c i k)) (0 : Fin 2)) := by
  entry_read
  unfold hostOps0 hostOps0_1 hostOps0_2 hostOps0_3 hostOps0_4 hostOps0_5 hostOps0_6 hostOps0_7 hostOps0_8 hostOps0_9 hostOps0_10 hostOps0_11 hostOps0_12 hostOps0_13 hostOps0_14 hostOps0_15 hostOps0_16 hostOps0_17 hostOps0_18 hostOps0_19 hostOps0_20
  after_reads_at
  rw [dif_pos (show (up k).val < 1000 from k.isLt), SelectGather.points]
  after_reads_at
  rfl

/-- Coordinate 1 of the candidates' locations. -/
theorem point_y (c : Dev nD) (i : Fin 16) (k : Fin 1000) : V m c main_v39 (ix3 i (0 : Fin 1) (up k))
      = m (c, Proc.tc.devRef main_arg1) (ix2 (pointOf (flatAt m c i k)) (1 : Fin 2)) := by
  entry_read
  unfold hostOps0 hostOps0_1 hostOps0_2 hostOps0_3 hostOps0_4 hostOps0_5 hostOps0_6 hostOps0_7 hostOps0_8 hostOps0_9 hostOps0_10 hostOps0_11 hostOps0_12 hostOps0_13 hostOps0_14 hostOps0_15 hostOps0_16 hostOps0_17 hostOps0_18 hostOps0_19 hostOps0_20
  after_reads_at
  rw [dif_pos (show (up k).val < 1000 from k.isLt), SelectGather.points]
  after_reads_at
  rfl

/-- Scaled distance 0 of the candidates. -/
theorem side_0 (c : Dev nD) (i : Fin 16) (k : Fin 1000) : V m c main_v52 (ix3 i (0 : Fin 1) (up k))
      = FloatOps.mulf (F := Ideal) (φ := FTy.f32) (m (c, Proc.tc.devRef main_arg3) (ix2 (pointOf (flatAt m c i k)) (0 : Fin 4)))
          (strideOf (m (c, Proc.tc.devRef main_arg2)) (pointOf (flatAt m c i k))) := by
  entry_read
  unfold hostOps0 hostOps0_1 hostOps0_2 hostOps0_3 hostOps0_4 hostOps0_5 hostOps0_6 hostOps0_7 hostOps0_8 hostOps0_9 hostOps0_10 hostOps0_11 hostOps0_12 hostOps0_13 hostOps0_14 hostOps0_15 hostOps0_16 hostOps0_17 hostOps0_18 hostOps0_19 hostOps0_20
  after_reads_at
  rw [dif_pos (show (up k).val < 1000 from k.isLt), SelectGather.sides]
  after_reads_at
  exact congrArg (FloatOps.mulf (F := Ideal) (φ := FTy.f32) (m (c, Proc.tc.devRef main_arg3) (ix2 (pointOf (flatAt m c i k)) (0 : Fin 4))))
    (gathered m c (pointOf (flatAt m c i k)))

/-- Scaled distance 1 of the candidates. -/
theorem side_1 (c : Dev nD) (i : Fin 16) (k : Fin 1000) : V m c main_v65 (ix3 i (0 : Fin 1) (up k))
      = FloatOps.mulf (F := Ideal) (φ := FTy.f32) (m (c, Proc.tc.devRef main_arg3) (ix2 (pointOf (flatAt m c i k)) (1 : Fin 4)))
          (strideOf (m (c, Proc.tc.devRef main_arg2)) (pointOf (flatAt m c i k))) := by
  entry_read
  unfold hostOps0 hostOps0_1 hostOps0_2 hostOps0_3 hostOps0_4 hostOps0_5 hostOps0_6 hostOps0_7 hostOps0_8 hostOps0_9 hostOps0_10 hostOps0_11 hostOps0_12 hostOps0_13 hostOps0_14 hostOps0_15 hostOps0_16 hostOps0_17 hostOps0_18 hostOps0_19 hostOps0_20
  after_reads_at
  rw [dif_pos (show (up k).val < 1000 from k.isLt), SelectGather.sides]
  after_reads_at
  exact congrArg (FloatOps.mulf (F := Ideal) (φ := FTy.f32) (m (c, Proc.tc.devRef main_arg3) (ix2 (pointOf (flatAt m c i k)) (1 : Fin 4))))
    (gathered m c (pointOf (flatAt m c i k)))

/-- Scaled distance 2 of the candidates. -/
theorem side_2 (c : Dev nD) (i : Fin 16) (k : Fin 1000) : V m c main_v78 (ix3 i (0 : Fin 1) (up k))
      = FloatOps.mulf (F := Ideal) (φ := FTy.f32) (m (c, Proc.tc.devRef main_arg3) (ix2 (pointOf (flatAt m c i k)) (2 : Fin 4)))
          (strideOf (m (c, Proc.tc.devRef main_arg2)) (pointOf (flatAt m c i k))) := by
  entry_read
  unfold hostOps0 hostOps0_1 hostOps0_2 hostOps0_3 hostOps0_4 hostOps0_5 hostOps0_6 hostOps0_7 hostOps0_8 hostOps0_9 hostOps0_10 hostOps0_11 hostOps0_12 hostOps0_13 hostOps0_14 hostOps0_15 hostOps0_16 hostOps0_17 hostOps0_18 hostOps0_19 hostOps0_20
  after_reads_at
  rw [dif_pos (show (up k).val < 1000 from k.isLt), SelectGather.sides]
  after_reads_at
  exact congrArg (FloatOps.mulf (F := Ideal) (φ := FTy.f32) (m (c, Proc.tc.devRef main_arg3) (ix2 (pointOf (flatAt m c i k)) (2 : Fin 4))))
    (gathered m c (pointOf (flatAt m c i k)))

/-- Scaled distance 3 of the candidates. -/
theorem side_3 (c : Dev nD) (i : Fin 16) (k : Fin 1000) : V m c main_v91 (ix3 i (0 : Fin 1) (up k))
      = FloatOps.mulf (F := Ideal) (φ := FTy.f32) (m (c, Proc.tc.devRef main_arg3) (ix2 (pointOf (flatAt m c i k)) (3 : Fin 4)))
          (strideOf (m (c, Proc.tc.devRef main_arg2)) (pointOf (flatAt m c i k))) := by
  entry_read
  unfold hostOps0 hostOps0_1 hostOps0_2 hostOps0_3 hostOps0_4 hostOps0_5 hostOps0_6 hostOps0_7 hostOps0_8 hostOps0_9 hostOps0_10 hostOps0_11 hostOps0_12 hostOps0_13 hostOps0_14 hostOps0_15 hostOps0_16 hostOps0_17 hostOps0_18 hostOps0_19 hostOps0_20
  after_reads_at
  rw [dif_pos (show (up k).val < 1000 from k.isLt), SelectGather.sides]
  after_reads_at
  exact congrArg (FloatOps.mulf (F := Ideal) (φ := FTy.f32) (m (c, Proc.tc.devRef main_arg3) (ix2 (pointOf (flatAt m c i k)) (3 : Fin 4))))
    (gathered m c (pointOf (flatAt m c i k)))

/-- The scores, at a candidate. -/
theorem score_v (c : Dev nD) (i : Fin 16) (k : Fin 1000) : V m c main_v93 (ix3 i (0 : Fin 1) (up k))
      = (sorted (m (c, Proc.tc.devRef main_arg0))).1 (ix2 i k) := by
  entry_read
  unfold hostOps0 hostOps0_1 hostOps0_2 hostOps0_3 hostOps0_4 hostOps0_5 hostOps0_6 hostOps0_7 hostOps0_8 hostOps0_9 hostOps0_10 hostOps0_11 hostOps0_12 hostOps0_13 hostOps0_14 hostOps0_15 hostOps0_16 hostOps0_17 hostOps0_18 hostOps0_19 hostOps0_20
  after_reads_at
  rw [dif_pos (show (up k).val < 1000 from k.isLt)]
  rfl

/-- The scores, past the candidates: minus one. -/
theorem score_pad (c : Dev nD) (i : Fin 16) (k : Fin 1024) (hk : 1000 ≤ k.val) : V m c main_v93 (ix3 i (0 : Fin 1) k)
      = Ideal.ofBits FTy.f32 3212836864#32 := by
  entry_read
  unfold hostOps0 hostOps0_1 hostOps0_2 hostOps0_3 hostOps0_4 hostOps0_5 hostOps0_6 hostOps0_7 hostOps0_8 hostOps0_9 hostOps0_10 hostOps0_11 hostOps0_12 hostOps0_13 hostOps0_14 hostOps0_15 hostOps0_16 hostOps0_17 hostOps0_18 hostOps0_19 hostOps0_20
  after_reads_at
  rw [dif_neg (Nat.not_lt.2 hk)]
  rfl

/-- The labels, as floats. -/
theorem label_v (c : Dev nD) (i : Fin 16) (k : Fin 1000) : V m c main_v98 (ix3 i (0 : Fin 1) (up k))
      = FloatOps.sitofp (F := Ideal) FTy.f32 (labelOf (flatAt m c i k)) := by
  entry_read
  unfold hostOps0 hostOps0_1 hostOps0_2 hostOps0_3 hostOps0_4 hostOps0_5 hostOps0_6 hostOps0_7 hostOps0_8 hostOps0_9 hostOps0_10 hostOps0_11 hostOps0_12 hostOps0_13 hostOps0_14 hostOps0_15 hostOps0_16 hostOps0_17 hostOps0_18 hostOps0_19 hostOps0_20
  after_reads_at
  rw [dif_pos (show (up k).val < 1000 from k.isLt)]
  rfl

/-- The image's height, as a float. -/
theorem height (c : Dev nD) (i : Fin 16) : V m c main_v113 (ix3 i (0 : Fin 1) (0 : Fin 128))
      = side (m (c, Proc.tc.devRef main_arg4)) i 0 := by
  entry_read
  unfold hostOps0 hostOps0_1 hostOps0_2 hostOps0_3 hostOps0_4 hostOps0_5 hostOps0_6 hostOps0_7 hostOps0_8 hostOps0_9 hostOps0_10 hostOps0_11 hostOps0_12 hostOps0_13 hostOps0_14 hostOps0_15 hostOps0_16 hostOps0_17 hostOps0_18 hostOps0_19 hostOps0_20
  after_reads_at
  refine (SelectGather.column _ _ _ (1 : Fin 128) ?_ ?_ _ _).trans ?_
  · after_reads_at
  · after_reads_at
    rfl
  rw [if_neg (by decide)]
  refine (SelectGather.column _ _ _ (0 : Fin 128) ?_ ?_ _ _).trans ?_
  · after_reads_at
  · after_reads_at
    rfl
  rw [if_pos rfl]
  rfl

/-- The image's width, as a float. -/
theorem width (c : Dev nD) (i : Fin 16) : V m c main_v113 (ix3 i (0 : Fin 1) (1 : Fin 128))
      = side (m (c, Proc.tc.devRef main_arg4)) i 1 := by
  entry_read
  unfold hostOps0 hostOps0_1 hostOps0_2 hostOps0_3 hostOps0_4 hostOps0_5 hostOps0_6 hostOps0_7 hostOps0_8 hostOps0_9 hostOps0_10 hostOps0_11 hostOps0_12 hostOps0_13 hostOps0_14 hostOps0_15 hostOps0_16 hostOps0_17 hostOps0_18 hostOps0_19 hostOps0_20
  after_reads_at
  refine (SelectGather.column _ _ _ (1 : Fin 128) ?_ ?_ _ _).trans ?_
  · after_reads_at
  · after_reads_at
    rfl
  rw [if_pos rfl]
  rfl

end Cert.Proof.SelectIdeal
-- ==== Proof.SelectKernelValue.lean ====
/-
  The selection kernel's array, from the inputs: row `r`, column `q` of image `i` is what the selection of the candidates gives.
-/
module

public import proofs.«01_k».proof.Proof.SelectKernelHost

@[expose] public section

set_option maxRecDepth 16384

noncomputable section

namespace Cert.Proof.SelectIdeal

open Cert.Proof.SelectMath Cert.Proof.SelectPick Cert.SelectIdeal Cert.SelectIdeal.Gen
open Idealize.ShloMosaic Idealize.ShloMosaic.TcCoe Idealize.ShloMosaic.Tactic

variable (m : (ℓ : Loc nD τ sig) → Buf (Elt Ideal) ℓ)

/-- The candidates of image `i`, from the inputs. -/
def inCands (c : Dev nD) (i : Fin 16) : Cands 1000 :=
  picks (m (c, Proc.tc.devRef main_arg0)) (m (c, Proc.tc.devRef main_arg1)) (m (c, Proc.tc.devRef main_arg2))
    (m (c, Proc.tc.devRef main_arg3)) (m (c, Proc.tc.devRef main_arg4)) i

/-- Candidates of equal coordinates, scores, labels and image sides are equal. -/
theorem boxes_congr {n : ℕ} {a1 a2 a3 a4 a5 a6 a7 a8 b1 b2 b3 b4 b5 b6 b7 b8 : Fin n → EReal} {h w h' w' : EReal}
    (e1 : ∀ k, a1 k = b1 k) (e2 : ∀ k, a2 k = b2 k) (e3 : ∀ k, a3 k = b3 k) (e4 : ∀ k, a4 k = b4 k) (e5 : ∀ k, a5 k = b5 k)
    (e6 : ∀ k, a6 k = b6 k) (e7 : ∀ k, a7 k = b7 k) (e8 : ∀ k, a8 k = b8 k) (eh : h = h') (ew : w = w') :
    boxes a1 a2 a3 a4 a5 a6 a7 a8 h w = boxes b1 b2 b3 b4 b5 b6 b7 b8 h' w' := by
  rw [funext e1, funext e2, funext e3, funext e4, funext e5, funext e6, funext e7, funext e8, eh, ew]

/-- The lanes of an image below 1000 are the candidates of the inputs. -/
theorem kcands_eq (c : Dev nD) (i : Fin 16) : kcands m c i = inCands m c i := by
  unfold kcands inCands picks
  exact boxes_congr (point_x m c i) (point_y m c i) (side_0 m c i) (side_1 m c i) (side_2 m c i) (side_3 m c i)
    (score_v m c i) (label_v m c i) (height m c i) (width m c i)

/-- The kernel's array, of the inputs. -/
theorem kernel_value (c : Dev nD) (i : Fin 16) (r : Fin 128) (q : Fin 8) :
    (dats m 0 c).arrAt 9 cfg0.N (ix3 i r q) = (inCands m c i).outAt r.val q.val := by
  rw [← kcands_eq]
  refine kernel_at m c (fun i k hk h => ?_) i r q
  rw [score_pad m c i k hk, Consts.neg_one] at h
  exact absurd (EReal.coe_lt_coe_iff.1 (show ((0 : ℝ) : EReal) < ((-1 : ℝ) : EReal) from h)) (by norm_num)

end Cert.Proof.SelectIdeal
-- ==== Proof.SelectWord.lean ====
/-
  Labels as floats and back: rounding the float of a word to an integer and converting it gives the word.
-/
module

public import Idealize.ShloMosaic.PureOps.Ideal

@[expose] public section

noncomputable section

namespace Cert.Proof.SelectMath

open Idealize.ShloMosaic

/-- The word nearest to a float, ties to even. -/
def wordOf (x : EReal) : BitVec 32 := Ideal.fptosi 32 (Ideal.liftRound Ideal.roundHalfEven x)

/-- An integer is its own nearest integer. -/
theorem roundHalfEven_int (n : ℤ) : Ideal.roundHalfEven (n : ℝ) = n := by
  unfold Ideal.roundHalfEven
  simp

/-- The word of an integer in range. -/
theorem wordOf_int (n : ℤ) (h : -2 ^ 31 ≤ n) (h' : n < 2 ^ 31) : wordOf ((n : ℝ) : EReal) = BitVec.ofInt 32 n := by
  unfold wordOf Ideal.fptosi
  congr 1
  show max (-(2 ^ (32 - 1) : ℕ) : ℤ) (min ((2 ^ (32 - 1) : ℕ) - 1)
    (if (0 : ℝ) ≤ ((Ideal.roundHalfEven (n : ℝ) : ℤ) : ℝ) then ⌊((Ideal.roundHalfEven (n : ℝ) : ℤ) : ℝ)⌋
      else ⌈((Ideal.roundHalfEven (n : ℝ) : ℤ) : ℝ)⌉)) = n
  rw [roundHalfEven_int, Int.floor_intCast, Int.ceil_intCast, ite_self, min_eq_right (by norm_num; omega),
    max_eq_right (by norm_num; omega)]

/-- The word of a word's float is the word. -/
theorem wordOf_sitofp (w : BitVec 32) : wordOf (FloatOps.sitofp (F := Ideal) FTy.f32 w) = w := by
  have h := BitVec.toInt_lt (x := w)
  have h' := BitVec.le_toInt (x := w)
  refine (wordOf_int w.toInt (by norm_num at h'; omega) (by norm_num at h; omega)).trans ?_
  exact BitVec.ofInt_toInt

/-- The word of zero is zero. -/
theorem wordOf_zero : wordOf 0 = 0#32 := by
  have h := wordOf_int 0 (by norm_num) (by norm_num)
  simpa using h

end Cert.Proof.SelectMath

end
-- ==== Proof.SelectKernelTail.lean ====
/-
  The selection kernel's two results: the host lines after the call cut the first hundred rows out of the array, take its first
  five columns as they are and round its sixth column to words.
-/
module

public import proofs.«01_k».proof.Proof.SelectKernelValue
public import proofs.«01_k».proof.Proof.SelectWord
public import Idealize.ShloMosaic.Lib.StableHlo.ReadAt

@[expose] public section

set_option maxRecDepth 16384

noncomputable section

namespace Cert.Proof.SelectIdeal

open Cert.Proof.SelectMath Cert.Proof.SelectPick Cert.SelectIdeal Cert.SelectIdeal.Gen
open Idealize.ShloMosaic Idealize.ShloMosaic.TcCoe Idealize.ShloMosaic.StableHlo

/-- The image and the row that a flat row number stands for. -/
def imageOf (n : Fin 1600) : Fin 16 := ⟨n.val / 100, by omega⟩

section Tail

variable (W : Valuation τ sig (Elt Ideal))

/-- The array's row for a flat row number. -/
def rowOf (n : Fin 1600) : Fin 128 := ⟨n.val % 100, by omega⟩

/-- The first result holds the first five columns of the rows. -/
theorem rows_read (n : Fin 1600) (q : Fin 5) :
    (StableHlo.after ([hostOps1, hostOps1_1, hostOps1_2] : List (List (HloOp τ sig (Elt Ideal)))).flatten W
        (Proc.devRef .tc main_v116) : S1600x5.Idx → EReal) (ix2 n q)
      = (W (Proc.devRef .tc main_v114) : S16x128x8.Idx → EReal) (ix3 (imageOf n) (rowOf n) ⟨q.val, by omega⟩) := by
  after_reads_at
  rfl

/-- The second result holds the words of the rows' sixth column. -/
theorem labels_read (n : Fin 1600) :
    (StableHlo.after ([hostOps1, hostOps1_1, hostOps1_2] : List (List (HloOp τ sig (Elt Ideal)))).flatten W
        (Proc.devRef .tc main_v121) : S1600.Idx → BitVec 32) (ix1 n)
      = wordOf ((W (Proc.devRef .tc main_v114) : S16x128x8.Idx → EReal) (ix3 (imageOf n) (rowOf n) (5 : Fin 8))) := by
  after_reads_at
  rfl

end Tail

variable (m : (ℓ : Loc nD τ sig) → Buf (Elt Ideal) ℓ)

/-- What the host lines after the call leave in a buffer. -/
abbrev endAt (c : Dev nD) (b : Ref sig .tc) : Buf (Elt Ideal) ((c.tc : Thread nD τ).loc b) :=
  Pipeline.afterTail₀ cfgs (dats m) 0 (V0 m) [hostOps1, hostOps1_1, hostOps1_2] c b

/-- The array when the call has ended. -/
theorem array_read (c : Dev nD) (i : Fin 16) (r : Fin 128) (q : Fin 8) :
    (Pipeline.withArrays (cfgs 0).spec c (V0 m c) (fun w => (dats m 0 c).arrAt w (cfgs 0).N) (Proc.devRef .tc main_v114) :
      S16x128x8.Idx → EReal) (ix3 i r q) = (inCands m c i).outAt r.val q.val :=
  (congrFun (Pipeline.withArrays_arr (cfgs 0).spec launch0.win.arr_inj c (V0 m c)
    (fun w => (dats m 0 c).arrAt w (cfgs 0).N) 9) (ix3 i r q)).trans (kernel_value m c i r q)

/-- The kernel's first result: corners and score of every row. -/
theorem rows_value (c : Dev nD) (n : Fin 1600) (q : Fin 5) :
    (endAt m c main_v116 : S1600x5.Idx → EReal) (ix2 n q) = (inCands m c (imageOf n)).outAt (n.val % 100) q.val :=
  (rows_read _ n q).trans (array_read m c _ _ _)

/-- The kernel's second result: the label of every row. -/
theorem labels_value (c : Dev nD) (n : Fin 1600) :
    (endAt m c main_v121 : S1600.Idx → BitVec 32) (ix1 n) = wordOf ((inCands m c (imageOf n)).outAt (n.val % 100) 5) :=
  (labels_read _ n).trans (congrArg wordOf (array_read m c _ _ _))

end Cert.Proof.SelectIdeal

end
-- ==== Proof.SelectGatherRef.lean ====
/-
The gathers of the selection's reference, read at one index of the result: each component of the
index vector is read as a signed word and clamped to the last row (column) of the table.
-/
module

public import proofs.«01_k».proof.Proof.SelectGather
public import proofs.«01_k».proof.Proof.Gen.SelectReferenceIdeal
public import Idealize.ShloMosaic.Lib.Pointwise
public import Idealize.ShloMosaic.Lib.Routing.OpsSet

@[expose] public section
set_option maxRecDepth 16384
noncomputable section
namespace Cert.Proof.SelectGather
open Idealize.ShloMosaic

variable {α : Type}

/-- The gather from the table of strides. -/
theorem strideRef (x : Cert.SelectReferenceIdeal.S5.Idx → α) (idx : IVec Cert.SelectReferenceIdeal.S2097152x1 32) (p : Fin 2097152) :
    Host.gather Cert.SelectReferenceIdeal.gather_S5_S2097152x1_S2097152_n_0_n_n_0_1_1 x idx (Idealize.ShloMosaic.ix1 p) = x (Idealize.ShloMosaic.ix1 (clampTo 5 (by decide) (idx (Idealize.ShloMosaic.ix2 p (0 : Fin 1))))) := by
  have hsi0 : ∀ h, Cert.SelectReferenceIdeal.gather_S5_S2097152x1_S2097152_n_0_n_n_0_1_1.siIdx (Idealize.ShloMosaic.ix1 p) ⟨0, h⟩ = Idealize.ShloMosaic.ix2 p (0 : Fin 1) := fun h => by
    funext b
    match b with
    | ⟨0, _⟩ => rfl
    | ⟨1, _⟩ => rfl
  unfold Host.gather
  refine congrArg x (funext fun a => Fin.ext ?_)
  match a with
  | ⟨0, _⟩ =>
    have e : Cert.SelectReferenceIdeal.gather_S5_S2097152x1_S2097152_n_0_n_n_0_1_1.start (Idealize.ShloMosaic.ix1 p) idx 0 = min (idx (Idealize.ShloMosaic.ix2 p (0 : Fin 1))).toInt.toNat 4 := by
      unfold GatherDims.start
      rw [dif_pos (by decide)]
      exact congrArg (fun y => min (idx y).toInt.toNat 4) (hsi0 _)
    exact e

/-- The row gather from the corners of every location. -/
theorem rows (x : Cert.SelectReferenceIdeal.S2097152x4.Idx → α) (idx : IVec Cert.SelectReferenceIdeal.S16x1000x1 32) (i : Fin 16) (k : Fin 1000) (j : Fin 4) :
    Host.gather Cert.SelectReferenceIdeal.gather_S2097152x4_S16x1000x1_S16x1000x4_2_0_n_n_0_2_14 x idx (Idealize.ShloMosaic.ix3 i k j) = x (Idealize.ShloMosaic.ix2 (clampTo 2097152 (by decide) (idx (Idealize.ShloMosaic.ix3 i k (0 : Fin 1)))) j) := by
  have hsi0 : ∀ h, Cert.SelectReferenceIdeal.gather_S2097152x4_S16x1000x1_S16x1000x4_2_0_n_n_0_2_14.siIdx (Idealize.ShloMosaic.ix3 i k j) ⟨0, h⟩ = Idealize.ShloMosaic.ix3 i k (0 : Fin 1) := fun h => by
    funext b
    match b with
    | ⟨0, _⟩ => rfl
    | ⟨1, _⟩ => rfl
    | ⟨2, _⟩ => rfl
  unfold Host.gather
  refine congrArg x (funext fun a => Fin.ext ?_)
  match a with
  | ⟨0, _⟩ =>
    have e : Cert.SelectReferenceIdeal.gather_S2097152x4_S16x1000x1_S16x1000x4_2_0_n_n_0_2_14.start (Idealize.ShloMosaic.ix3 i k j) idx 0 = min (idx (Idealize.ShloMosaic.ix3 i k (0 : Fin 1))).toInt.toNat 2097151 := by
      unfold GatherDims.start
      rw [dif_pos (by decide)]
      exact congrArg (fun y => min (idx y).toInt.toNat 2097151) (hsi0 _)
    exact e
  | ⟨1, _⟩ => exact Nat.zero_add ((Idealize.ShloMosaic.ix2 (clampTo 2097152 (by decide) (idx (Idealize.ShloMosaic.ix3 i k (0 : Fin 1)))) j) 1).val

/-- The gather of the picked boxes along the candidates. -/
theorem takeBox (x : Cert.SelectReferenceIdeal.S16x1000x4.Idx → α) (idx : IVec Cert.SelectReferenceIdeal.S16x100x1 32) (i : Fin 16) (q : Fin 100) (j : Fin 4) :
    Host.gather Cert.SelectReferenceIdeal.gather_S16x1000x4_S16x100x1_S16x100x4_2_1_0_0_1_2_114 x idx (Idealize.ShloMosaic.ix3 i q j) = x (Idealize.ShloMosaic.ix3 i (clampTo 1000 (by decide) (idx (Idealize.ShloMosaic.ix3 i q (0 : Fin 1)))) j) := by
  have hsi0 : ∀ h, Cert.SelectReferenceIdeal.gather_S16x1000x4_S16x100x1_S16x100x4_2_1_0_0_1_2_114.siIdx (Idealize.ShloMosaic.ix3 i q j) ⟨0, h⟩ = Idealize.ShloMosaic.ix3 i q (0 : Fin 1) := fun h => by
    funext b
    match b with
    | ⟨0, _⟩ => rfl
    | ⟨1, _⟩ => rfl
    | ⟨2, _⟩ => rfl
  unfold Host.gather
  refine congrArg x (funext fun a => Fin.ext ?_)
  match a with
  | ⟨0, _⟩ => exact Nat.zero_add ((Idealize.ShloMosaic.ix3 i (clampTo 1000 (by decide) (idx (Idealize.ShloMosaic.ix3 i q (0 : Fin 1)))) j) 0).val
  | ⟨1, _⟩ =>
    have e : Cert.SelectReferenceIdeal.gather_S16x1000x4_S16x100x1_S16x100x4_2_1_0_0_1_2_114.start (Idealize.ShloMosaic.ix3 i q j) idx 1 = min (idx (Idealize.ShloMosaic.ix3 i q (0 : Fin 1))).toInt.toNat 999 := by
      unfold GatherDims.start
      rw [dif_pos (by decide)]
      exact congrArg (fun y => min (idx y).toInt.toNat 999) (hsi0 _)
    exact e
  | ⟨2, _⟩ => exact Nat.zero_add ((Idealize.ShloMosaic.ix3 i (clampTo 1000 (by decide) (idx (Idealize.ShloMosaic.ix3 i q (0 : Fin 1)))) j) 2).val

/-- The gather of the picked labels along the candidates. -/
theorem takeLabel (x : Cert.SelectReferenceIdeal.S16x1000.Idx → α) (idx : IVec Cert.SelectReferenceIdeal.S16x100x1 32) (i : Fin 16) (q : Fin 100) :
    Host.gather Cert.SelectReferenceIdeal.gather_S16x1000_S16x100x1_S16x100_n_1_0_0_1_2_11 x idx (Idealize.ShloMosaic.ix2 i q) = x (Idealize.ShloMosaic.ix2 i (clampTo 1000 (by decide) (idx (Idealize.ShloMosaic.ix3 i q (0 : Fin 1))))) := by
  have hsi0 : ∀ h, Cert.SelectReferenceIdeal.gather_S16x1000_S16x100x1_S16x100_n_1_0_0_1_2_11.siIdx (Idealize.ShloMosaic.ix2 i q) ⟨0, h⟩ = Idealize.ShloMosaic.ix3 i q (0 : Fin 1) := fun h => by
    funext b
    match b with
    | ⟨0, _⟩ => rfl
    | ⟨1, _⟩ => rfl
    | ⟨2, _⟩ => rfl
  unfold Host.gather
  refine congrArg x (funext fun a => Fin.ext ?_)
  match a with
  | ⟨0, _⟩ => exact Nat.zero_add ((Idealize.ShloMosaic.ix2 i (clampTo 1000 (by decide) (idx (Idealize.ShloMosaic.ix3 i q (0 : Fin 1))))) 0).val
  | ⟨1, _⟩ =>
    have e : Cert.SelectReferenceIdeal.gather_S16x1000_S16x100x1_S16x100_n_1_0_0_1_2_11.start (Idealize.ShloMosaic.ix2 i q) idx 1 = min (idx (Idealize.ShloMosaic.ix3 i q (0 : Fin 1))).toInt.toNat 999 := by
      unfold GatherDims.start
      rw [dif_pos (by decide)]
      exact congrArg (fun y => min (idx y).toInt.toNat 999) (hsi0 _)
    exact e

end Cert.Proof.SelectGather
-- ==== Proof.SelectRefHead.lean ====
/-
  What the reference's host code computes before its suppression loop, first part: the candidates' corners, scores, labels.
-/
module

public import proofs.«01_k».proof.Proof.SelectPick
public import proofs.«01_k».proof.Proof.SelectGatherRef
public import proofs.«01_k».proof.Proof.Gen.SelectReferenceIdeal.Run
public import Idealize.ShloMosaic.Lib.Claim
public import Idealize.ShloMosaic.Lib.StableHlo.ReadAt

@[expose] public section

set_option maxRecDepth 16384

noncomputable section

namespace Cert.Proof.SelectRef

open Cert.Proof.SelectMath Cert.Proof.SelectPick
open Cert.SelectReferenceIdeal Cert.SelectReferenceIdeal.Gen Cert.SelectReferenceIdeal.Value
open Idealize.ShloMosaic Idealize.ShloMosaic.TcCoe Idealize.ShloMosaic.StableHlo

variable (V : Valuation τ sig (Elt Ideal))

/-- The contents after the stretches that compute the corners. -/
abbrev corners : Valuation τ sig (Elt Ideal) :=
  afterL [hostOps0, hostOps0_1, hostOps0_2, hostOps0_3, hostOps0_4, hostOps0_5, hostOps0_6, hostOps0_7, hostOps0_8, hostOps0_9,
    hostOps0_10, hostOps0_11, hostOps0_12, hostOps0_13] V

/-- The flat position of candidate `k` of image `i`. -/
def flatAt (i : Fin 16) (k : Fin 1000) : BitVec 32 := (sorted (V (Proc.devRef .tc main_arg0))).2 (ix2 i k)

/-- The candidates of image `i`, from the inputs. -/
def inCands (i : Fin 16) : Cands 1000 :=
  picks (V (Proc.devRef .tc main_arg0)) (V (Proc.devRef .tc main_arg1)) (V (Proc.devRef .tc main_arg2))
    (V (Proc.devRef .tc main_arg3)) (V (Proc.devRef .tc main_arg4)) i

/-- Coordinate `j` of the candidate's location. -/
def locOf (i : Fin 16) (k : Fin 1000) (j : Fin 2) : EReal := V (Proc.devRef .tc main_arg1) (ix2 (pointOf (flatAt V i k)) j)

/-- Distance `j` of the candidate, before it is scaled. -/
def distOf (i : Fin 16) (k : Fin 1000) (j : Fin 4) : EReal := V (Proc.devRef .tc main_arg3) (ix2 (pointOf (flatAt V i k)) j)

/-- The table of strides at a level. -/
theorem strideBits_eq (q : Fin 5) : lit0 (S5.rowMajor (ix1 q)) = strideBits q := by
  fin_cases q <;> rfl

/-- The stride gathered for location `p`. -/
theorem gathered (p : Fin 2097152) :
    Host.gather gather_S5_S2097152x1_S2097152_n_0_n_n_0_1_1 (fun i : S5.Idx => Ideal.ofBits FTy.f32 (lit0 (S5.rowMajor i)))
        (broadcastInDim S2097152x1 ![0] bcast_S2097152_S2097152x1_0
          (select
            (cmpi CmpIPredicate.slt (V (Proc.devRef .tc main_arg2))
              (broadcastInDim S2097152 ![] bcast_S_S2097152 (constantI S_ 32 0#32)))
            (addi (V (Proc.devRef .tc main_arg2))
              (broadcastInDim S2097152 ![] bcast_S_S2097152 (constantI S_ 32 5#32)))
            (V (Proc.devRef .tc main_arg2))))
        (ix1 p)
      = strideOf (V (Proc.devRef .tc main_arg2)) p := by
  rw [SelectGather.strideRef]
  refine (congrArg (Ideal.ofBits FTy.f32) (strideBits_eq _)).trans ?_
  refine congrArg (fun w => Ideal.ofBits FTy.f32 (strideBits (SelectGather.clampTo 5 (by decide) w))) ?_
  pointwise []
  rfl

/-- The scores, zero where not positive. -/
theorem score_at (i : Fin 16) (k : Fin 1000) : (corners V (Proc.devRef .tc main_v30) : S16x1000.Idx → EReal) (ix2 i k) = if 0 < (inCands V i).v k then (inCands V i).v k else 0 := by
  simp only [afterL_cons, afterL_nil]
  after_reads_at
  exact congrArg (fun z : EReal => if 0 < (inCands V i).v k then (inCands V i).v k else z) Ideal.ofBits_zero_f32
/-- The labels. -/
theorem label_at (i : Fin 16) (k : Fin 1000) : (corners V (Proc.devRef .tc main_v20) : S16x1000.Idx → BitVec 32) (ix2 i k) = labelOf (flatAt V i k) := by
  simp only [afterL_cons, afterL_nil]
  after_reads_at
  rfl
/-- Which scores are positive. -/
theorem positive_at (i : Fin 16) (k : Fin 1000) : (corners V (Proc.devRef .tc main_v29) : S16x1000.Idx → BitVec 1) (ix2 i k) = BitVec.ofBool (decide (0 < (inCands V i).v k)) := by
  simp only [afterL_cons, afterL_nil]
  after_reads_at
  rfl
/-- Corner coordinate x1. -/
theorem x1_at (i : Fin 16) (k : Fin 1000) : (corners V (Proc.devRef .tc main_v39) : S16x1000.Idx → EReal) (ix2 i k) = (inCands V i).x1 k := by
  simp only [afterL_cons, afterL_nil]
  after_reads_at
  rw [SelectGather.rows]
  after_reads_at
  exact congrArg₂ (fun z s : EReal => min (side (V (Proc.devRef .tc main_arg4)) i 1 - 1) (max z (locOf V i k 0 - (distOf V i k 0) * s))) Ideal.ofBits_zero_f32 (gathered V (pointOf (flatAt V i k)))

/-- Corner coordinate y1. -/
theorem y1_at (i : Fin 16) (k : Fin 1000) : (corners V (Proc.devRef .tc main_v44) : S16x1000.Idx → EReal) (ix2 i k) = (inCands V i).y1 k := by
  simp only [afterL_cons, afterL_nil]
  after_reads_at
  rw [SelectGather.rows]
  after_reads_at
  exact congrArg₂ (fun z s : EReal => min (side (V (Proc.devRef .tc main_arg4)) i 0 - 1) (max z (locOf V i k 1 - (distOf V i k 1) * s))) Ideal.ofBits_zero_f32 (gathered V (pointOf (flatAt V i k)))

/-- Corner coordinate x2. -/
theorem x2_at (i : Fin 16) (k : Fin 1000) : (corners V (Proc.devRef .tc main_v49) : S16x1000.Idx → EReal) (ix2 i k) = (inCands V i).x2 k := by
  simp only [afterL_cons, afterL_nil]
  after_reads_at
  rw [SelectGather.rows]
  after_reads_at
  exact congrArg₂ (fun z s : EReal => min (side (V (Proc.devRef .tc main_arg4)) i 1 - 1) (max z (locOf V i k 0 + (distOf V i k 2) * s))) Ideal.ofBits_zero_f32 (gathered V (pointOf (flatAt V i k)))

/-- Corner coordinate y2. -/
theorem y2_at (i : Fin 16) (k : Fin 1000) : (corners V (Proc.devRef .tc main_v54) : S16x1000.Idx → EReal) (ix2 i k) = (inCands V i).y2 k := by
  simp only [afterL_cons, afterL_nil]
  after_reads_at
  rw [SelectGather.rows]
  after_reads_at
  exact congrArg₂ (fun z s : EReal => min (side (V (Proc.devRef .tc main_arg4)) i 0 - 1) (max z (locOf V i k 1 + (distOf V i k 3) * s))) Ideal.ofBits_zero_f32 (gathered V (pointOf (flatAt V i k)))

end Cert.Proof.SelectRef
-- ==== Proof.SelectRefMid.lean ====
/-
  What the reference's host code computes before its suppression loop, second part: validity, the largest coordinate and the
  overlap of every two candidates, from the corners.
-/
module

public import proofs.«01_k».proof.Proof.SelectRefHead

@[expose] public section

set_option maxRecDepth 16384

noncomputable section

namespace Cert.Proof.SelectRef

open Cert.Proof.SelectMath Cert.Proof.SelectPick
open Cert.SelectReferenceIdeal Cert.SelectReferenceIdeal.Gen Cert.SelectReferenceIdeal.Value
open Idealize.ShloMosaic Idealize.ShloMosaic.TcCoe Idealize.ShloMosaic.StableHlo

variable (W : Valuation τ sig (Elt Ideal))

/-- The contents when the loop starts, from those after the corners. -/
abbrev mid : Valuation τ sig (Elt Ideal) := afterL [hostOps0_14, hostOps0_15, hostOps0_16] W

/-- A clipped corner coordinate, as a number. -/
def coord (W : Valuation τ sig (Elt Ideal)) (j : Fin 4) (i : Fin 16) (k : Fin 1000) : EReal :=
  match j with
  | 0 => (W (Proc.devRef .tc main_v39) : S16x1000.Idx → EReal) (ix2 i k)
  | 1 => (W (Proc.devRef .tc main_v44) : S16x1000.Idx → EReal) (ix2 i k)
  | 2 => (W (Proc.devRef .tc main_v49) : S16x1000.Idx → EReal) (ix2 i k)
  | 3 => (W (Proc.devRef .tc main_v54) : S16x1000.Idx → EReal) (ix2 i k)

/-- A candidate's label, as a number. -/
def labelNum (i : Fin 16) (k : Fin 1000) : EReal :=
  FloatOps.sitofp (F := Ideal) FTy.f32 ((W (Proc.devRef .tc main_v20) : S16x1000.Idx → BitVec 32) (ix2 i k))

/-- Validity, as a bit. -/
def validBit (i : Fin 16) (k : Fin 1000) : BitVec 1 :=
  IntOp.andi
    (IntOp.andi ((W (Proc.devRef .tc main_v29) : S16x1000.Idx → BitVec 1) (ix2 i k))
      (BitVec.ofBool (decide (0 ≤ coord W 2 i k - coord W 0 i k + 1))))
    (BitVec.ofBool (decide (0 ≤ coord W 3 i k - coord W 1 i k + 1)))

/-- The four corner coordinates side by side. -/
def stack (i : Fin 16) (k : Fin 1000) (j : Fin 4) : EReal :=
  if h : j.val < 1 then (upto hostOps0_14 W 4 (Proc.devRef .tc main_v55) : S16x1000x1.Idx → EReal) (ix3 i k ⟨j.val, h⟩)
  else if h : j.val - 1 < 1 then
    (upto hostOps0_14 W 4 (Proc.devRef .tc main_v56) : S16x1000x1.Idx → EReal) (ix3 i k ⟨j.val - 1, h⟩)
  else if h : j.val - 1 - 1 < 1 then
    (upto hostOps0_14 W 4 (Proc.devRef .tc main_v57) : S16x1000x1.Idx → EReal) (ix3 i k ⟨j.val - 1 - 1, h⟩)
  else (upto hostOps0_14 W 4 (Proc.devRef .tc main_v58) : S16x1000x1.Idx → EReal)
    (ix3 i k ⟨j.val - 1 - 1 - 1, by have := j.isLt; omega⟩)

/-- The largest coordinate of the valid boxes, an invalid box counting as zero. -/
def topNum (i : Fin 16) : EReal :=
  Finset.fold max (Ideal.ofBits FTy.f32 4286578688#32)
    (fun x : Fin 1000 × Fin 4 => Scalar.select (validBit W i x.1) (stack W i x.1 x.2) (0 : EReal)) Finset.univ

/-- A shifted coordinate. -/
def shifted (j : Fin 4) (i : Fin 16) (k : Fin 1000) : EReal := coord W j i k + labelNum W i k * (topNum W i + 1)

/-- The reference's area of a box: sides below zero count as zero. -/
def areaRef (i : Fin 16) (k : Fin 1000) : EReal :=
  max (shifted W 2 i k - shifted W 0 i k + 1) 0 * max (shifted W 3 i k - shifted W 1 i k + 1) 0

/-- The reference's intersection of two boxes. -/
def interRef (i : Fin 16) (a b : Fin 1000) : EReal :=
  max (min (shifted W 2 i a) (shifted W 2 i b) - max (shifted W 0 i a) (shifted W 0 i b) + 1) 0
    * max (min (shifted W 3 i a) (shifted W 3 i b) - max (shifted W 1 i a) (shifted W 1 i b) + 1) 0

/-- The four coordinates before they are stacked. -/
private theorem part_x1 (i : Fin 16) (k : Fin 1000) :
    (upto hostOps0_14 W 4 (Proc.devRef .tc main_v55) : S16x1000x1.Idx → EReal) (ix3 i k (0 : Fin 1)) = coord W 0 i k := by
  after_reads_at
  rfl

private theorem part_y1 (i : Fin 16) (k : Fin 1000) :
    (upto hostOps0_14 W 4 (Proc.devRef .tc main_v56) : S16x1000x1.Idx → EReal) (ix3 i k (0 : Fin 1)) = coord W 1 i k := by
  after_reads_at
  rfl

private theorem part_x2 (i : Fin 16) (k : Fin 1000) :
    (upto hostOps0_14 W 4 (Proc.devRef .tc main_v57) : S16x1000x1.Idx → EReal) (ix3 i k (0 : Fin 1)) = coord W 2 i k := by
  after_reads_at
  rfl

private theorem part_y2 (i : Fin 16) (k : Fin 1000) :
    (upto hostOps0_14 W 4 (Proc.devRef .tc main_v58) : S16x1000x1.Idx → EReal) (ix3 i k (0 : Fin 1)) = coord W 3 i k := by
  after_reads_at
  rfl

/-- The stacked boxes hold the four coordinates. -/
theorem stack_eq (i : Fin 16) (k : Fin 1000) (j : Fin 4) : stack W i k j = coord W j i k := by
  match j with
  | 0 => exact part_x1 W i k
  | 1 => exact part_y1 W i k
  | 2 => exact part_x2 W i k
  | 3 => exact part_y2 W i k

/-- The stacked boxes: a coordinate. -/
theorem box_x1 (i : Fin 16) (k : Fin 1000) : (mid W (Proc.devRef .tc main_v59) : S16x1000x4.Idx → EReal) (ix3 i k (0 : Fin 4)) = coord W 0 i k := by
  simp only [afterL_cons, afterL_nil]
  after_reads_at
  rw [unary_result']
  pointwise []
  rfl

/-- The stacked boxes: a coordinate. -/
theorem box_y1 (i : Fin 16) (k : Fin 1000) : (mid W (Proc.devRef .tc main_v59) : S16x1000x4.Idx → EReal) (ix3 i k (1 : Fin 4)) = coord W 1 i k := by
  simp only [afterL_cons, afterL_nil]
  after_reads_at
  rw [unary_result']
  pointwise []
  rfl

/-- The stacked boxes: a coordinate. -/
theorem box_x2 (i : Fin 16) (k : Fin 1000) : (mid W (Proc.devRef .tc main_v59) : S16x1000x4.Idx → EReal) (ix3 i k (2 : Fin 4)) = coord W 2 i k := by
  simp only [afterL_cons, afterL_nil]
  after_reads_at
  rw [unary_result']
  pointwise []
  rfl

/-- The stacked boxes: a coordinate. -/
theorem box_y2 (i : Fin 16) (k : Fin 1000) : (mid W (Proc.devRef .tc main_v59) : S16x1000x4.Idx → EReal) (ix3 i k (3 : Fin 4)) = coord W 3 i k := by
  simp only [afterL_cons, afterL_nil]
  after_reads_at
  rw [unary_result']
  pointwise []
  rfl

/-- Validity, on the reference. -/
theorem valid_at (i : Fin 16) (k : Fin 1000) : (mid W (Proc.devRef .tc main_v71) : S16x1000.Idx → BitVec 1) (ix2 i k) = validBit W i k := by
  simp only [afterL_cons, afterL_nil]
  after_reads_at
  rfl

/-- The loop starts from validity. -/
theorem keep_at (i : Fin 16) (k : Fin 1000) : (mid W (Proc.devRef .tc main_v138_4) : S16x1000.Idx → BitVec 1) (ix2 i k) = validBit W i k := by
  simp only [afterL_cons, afterL_nil]
  after_reads_at
  delta id
  pointwise []
  rfl

/-- The places compared with the counter. -/
theorem place_at (k : Fin 1000) : (mid W (Proc.devRef .tc main_v138_1) : S1x1000.Idx → BitVec 32) (ix2 (0 : Fin 1) k) = BitVec.ofNat 32 k.val := by
  simp only [afterL_cons, afterL_nil]
  after_reads_at
  delta id
  pointwise []

/-- The counter starts at zero. -/
theorem count_at  : (mid W (Proc.devRef .tc main_v138_3) : S_.Idx → BitVec 32) (ix0) = 0#32 := by
  simp only [afterL_cons, afterL_nil]
  after_reads_at
  rfl

/-- The overlap of two boxes, on the reference. -/
theorem iou_at (i : Fin 16) (a b : Fin 1000) : (mid W (Proc.devRef .tc main_v138_0) : S16x1000x1000.Idx → EReal) (ix3 i a b) = Ideal.div (interRef W i a b) (max (areaRef W i a + areaRef W i b - interRef W i a b) (Ideal.ofBits FTy.f32 814313567#32)) := by
  simp only [afterL_cons, afterL_nil]
  after_reads_at
  delta id
  pointwise []
  rfl

end Cert.Proof.SelectRef
-- ==== Proof.SelectRefLoop.lean ====
/-
  The reference's suppression loop: after its thousand trips the candidates kept are those of the greedy choice.
-/
module

public import proofs.«01_k».proof.Proof.SelectSpec
public import proofs.«01_k».proof.Proof.Gen.SelectReferenceIdeal.Run
public import Idealize.ShloMosaic.Lib.DynamicIndex
public import Idealize.ShloMosaic.Lib.Pointwise
public import Idealize.ShloMosaic.Lib.Tactic.WordOmega
public import Idealize.ShloMosaic.Lib.Claim

@[expose] public section

set_option maxRecDepth 16384

noncomputable section

namespace Cert.Proof.SelectRef

open Cert.Proof.SelectMath
open Cert.SelectReferenceIdeal Cert.SelectReferenceIdeal.Gen Cert.SelectReferenceIdeal.Value
open Idealize.ShloMosaic Idealize.ShloMosaic.TcCoe Idealize.ShloMosaic.StableHlo

/-- The place a slice is cut at: the counter itself, not being negative. -/
theorem start_eq (c : S_.Idx → BitVec 32) (t : Fin 1000) (hc : c ix0 = BitVec.ofNat 32 t.val) :
    BitVec.toInt (select (cmpi CmpIPredicate.slt c (constantI S_ 32 0#32)) (addi c (constantI S_ 32 1000#32)) c
      (Shape.Idx.first h_S_)) = t.val := by
  have ht := t.isLt
  have he : c = fun _ => BitVec.ofNat 32 t.val := funext fun i => by rw [← hc]; congr 1; exact funext fun a => a.elim0
  rw [he]
  show BitVec.toInt (Scalar.select (IntOp.cmpi CmpIPredicate.slt (BitVec.ofNat 32 t.val) 0#32)
    (BitVec.ofNat 32 t.val + 1000#32) (BitVec.ofNat 32 t.val)) = t.val
  have hi : (BitVec.ofNat 32 t.val).toInt = t.val := by
    rw [BitVec.toInt_eq_toNat_of_lt] <;> simp only [BitVec.toNat_ofNat] <;> omega
  have hn : IntOp.cmpi CmpIPredicate.slt (BitVec.ofNat 32 t.val) 0#32 = 0#1 := by
    unfold IntOp.cmpi
    simp only [BitVec.slt, hi]
    rw [show decide ((t.val : ℤ) < (0#32 : BitVec 32).toInt) = false from decide_eq_false (by simp)]
    rfl
  rw [hn, show Scalar.select 0#1 (BitVec.ofNat 32 t.val + 1000#32) (BitVec.ofNat 32 t.val) = BitVec.ofNat 32 t.val from rfl, hi]

/-- The index of a row cut out of the overlaps at place `t`. -/
theorem index_overlaps (hr) (start : Fin 3 → Int) (h0 : start 0 = 0) {t' : ℕ} (h1 : start 1 = t') (h2 : start 2 = 0)
    (i : Fin 16) (t k : Fin 1000) (p0 p1 p2) (ht : t.val = t' := by rfl) :
    (ix3 ⟨Host.clampedStart S16x1000x1000 S16x1x1000 hr start 0 + i.val, p0⟩
      ⟨Host.clampedStart S16x1000x1000 S16x1x1000 hr start 1, p1⟩
      ⟨Host.clampedStart S16x1000x1000 S16x1x1000 hr start 2 + k.val, p2⟩ : S16x1000x1000.Idx) = ix3 i t k := by
  have e0 : Host.clampedStart S16x1000x1000 S16x1x1000 hr start 0 = 0 := Host.clampedStart_of_le _ _ 0 0 h0 (show 0 + 16 ≤ 16 by omega)
  have e1 : Host.clampedStart S16x1000x1000 S16x1x1000 hr start 1 = t.val :=
    Host.clampedStart_of_le _ _ 1 t.val (ht ▸ h1) (show t.val + 1 ≤ 1000 by have := t.isLt; omega)
  have e2 : Host.clampedStart S16x1000x1000 S16x1x1000 hr start 2 = 0 := Host.clampedStart_of_le _ _ 2 0 h2 (show 0 + 1000 ≤ 1000 by omega)
  congr 1
  · apply Fin.ext; simp only [e0, Nat.zero_add]
  · apply Fin.ext; exact e1
  · apply Fin.ext; simp only [e2, Nat.zero_add]

/-- The index of a column cut out of the flags at place `t`. -/
theorem index_flags (hr) (start : Fin 2 → Int) (h0 : start 0 = 0) {t' : ℕ} (h1 : start 1 = t')
    (i : Fin 16) (t : Fin 1000) (p0 p1) (ht : t.val = t' := by rfl) :
    (ix2 ⟨Host.clampedStart S16x1000 S16x1 hr start 0 + i.val, p0⟩
      ⟨Host.clampedStart S16x1000 S16x1 hr start 1, p1⟩ : S16x1000.Idx) = ix2 i t := by
  have e0 : Host.clampedStart S16x1000 S16x1 hr start 0 = 0 := Host.clampedStart_of_le _ _ 0 0 h0 (show 0 + 16 ≤ 16 by omega)
  have e1 : Host.clampedStart S16x1000 S16x1 hr start 1 = t.val :=
    Host.clampedStart_of_le _ _ 1 t.val (ht ▸ h1) (show t.val + 1 ≤ 1000 by have := t.isLt; omega)
  congr 1
  · apply Fin.ext; simp only [e0, Nat.zero_add]
  · apply Fin.ext; exact e1

variable (V0 : Valuation τ sig (Elt Ideal))

/-- The loop's overlaps, flags, places and counter. -/
def iouOf (i : Fin 16) (a b : Fin 1000) : EReal := (V0 (Proc.devRef .tc main_v138_0) : S16x1000x1000.Idx → EReal) (ix3 i a b)
/-- The keep flag of a candidate, the row of places, and the counter of the loop. -/
def flagOf (i : Fin 16) (k : Fin 1000) : BitVec 1 := (V0 (Proc.devRef .tc main_v138_4) : S16x1000.Idx → BitVec 1) (ix2 i k)
def placeOf (k : Fin 1000) : BitVec 32 := (V0 (Proc.devRef .tc main_v138_1) : S1x1000.Idx → BitVec 32) (ix2 (0 : Fin 1) k)
def countOf : BitVec 32 := (V0 (Proc.devRef .tc main_v138_3) : S_.Idx → BitVec 32) ix0

/-- The flags after a trip. -/
theorem step_flag (t : Fin 1000) (hc : countOf V0 = BitVec.ofNat 32 t.val) (i : Fin 16) (k : Fin 1000) :
    (step_main_v138_4 V0 : S16x1000.Idx → BitVec 1) (ix2 i k)
      = IntOp.andi (flagOf V0 i k) (~~~ (IntOp.andi
          (IntOp.andi (BitVec.ofBool (decide (Ideal.ofBits FTy.f32 1058642330#32 < iouOf V0 i t k)))
            (IntOp.cmpi CmpIPredicate.sgt (placeOf V0 k) (countOf V0)))
          (flagOf V0 i t))) := by
  unfold step_main_v138_4
  delta id
  pointwise []
  refine congrArg (fun z => IntOp.andi (flagOf V0 i k) (~~~ z)) (congrArg₂ IntOp.andi
    (congrArg (fun z => IntOp.andi (BitVec.ofBool (decide (Ideal.ofBits FTy.f32 1058642330#32
      < (V0 (Proc.devRef .tc main_v138_0) : S16x1000x1000.Idx → EReal) z)))
        (IntOp.cmpi CmpIPredicate.sgt (placeOf V0 k) (countOf V0))) ?_)
    (congrArg (V0 (Proc.devRef .tc main_v138_4) : S16x1000.Idx → BitVec 1) ?_))
  · exact index_overlaps _ _ rfl (start_eq _ t hc) rfl i t k _ _ _
  · exact index_flags _ _ rfl (start_eq _ t hc) i t _ _

/-- What suppresses what, from the loop's overlaps. -/
def supOf (i : Fin 16) (a b : Fin 1000) : Bool := decide (Ideal.ofBits FTy.f32 1058642330#32 < iouOf V0 i a b)

/-- Whether a place comes after the trip's. -/
theorem later_eq (t : ℕ) (k : Fin 1000) (ht : t < 1000) :
    IntOp.cmpi CmpIPredicate.sgt (BitVec.ofNat 32 k.val) (BitVec.ofNat 32 t) = BitVec.ofBool (decide (t < k.val)) := by
  have hk := k.isLt
  have h1 : (BitVec.ofNat 32 t).toInt = t := by
    rw [BitVec.toInt_eq_toNat_of_lt] <;> simp only [BitVec.toNat_ofNat] <;> omega
  have h2 : (BitVec.ofNat 32 k.val).toInt = k.val := by
    rw [BitVec.toInt_eq_toNat_of_lt] <;> simp only [BitVec.toNat_ofNat] <;> omega
  unfold IntOp.cmpi
  simp only [BitVec.slt, h1, h2, Nat.cast_lt]

/-- The new flag of a candidate, in Booleans. -/
theorem flag_bool (a b c d : Bool) :
    IntOp.andi (BitVec.ofBool a) (~~~ IntOp.andi (IntOp.andi (BitVec.ofBool b) (BitVec.ofBool c)) (BitVec.ofBool d))
      = BitVec.ofBool (a && !(b && c && d)) := by
  cases a <;> cases b <;> cases c <;> cases d <;> rfl

/-- After `t` trips the flags are the greedy choice's. -/
theorem loop_flags (keep0 : Fin 16 → Fin 1000 → Bool) (hk : ∀ i k, flagOf V0 i k = BitVec.ofBool (keep0 i k))
    (hp : ∀ k, placeOf V0 k = BitVec.ofNat 32 k.val) (hc : countOf V0 = 0#32) (t : ℕ) (ht : t ≤ 1000) :
    (∀ i a b, iouOf (STEP^[t] V0) i a b = iouOf V0 i a b) ∧ (∀ k, placeOf (STEP^[t] V0) k = BitVec.ofNat 32 k.val)
      ∧ countOf (STEP^[t] V0) = BitVec.ofNat 32 t
      ∧ ∀ i k, flagOf (STEP^[t] V0) i k = BitVec.ofBool (greedy (supOf V0 i) (keep0 i) t k) := by
  induction t with
  | zero => exact ⟨fun _ _ _ => rfl, hp, hc, hk⟩
  | succ t ih =>
    obtain ⟨h0, h1, h2, h3⟩ := ih (by omega)
    have ht' : t < 1000 := by omega
    rw [Function.iterate_succ_apply']
    refine ⟨fun i a b => ?_, fun k => ?_, ?_, fun i k => ?_⟩
    · exact (congrFun (STEP_main_v138_0 (STEP^[t] V0)) (ix3 i a b)).trans (h0 i a b)
    · exact (congrFun (STEP_main_v138_1 (STEP^[t] V0)) (ix2 (0 : Fin 1) k)).trans (h1 k)
    · refine (congrFun (STEP_main_v138_3 (STEP^[t] V0)) ix0).trans ?_
      show countOf (STEP^[t] V0) + 1#32 = _
      rw [h2]
      apply BitVec.eq_of_toNat_eq
      simp only [BitVec.toNat_add, BitVec.toNat_ofNat]
      omega
    · refine (congrFun (STEP_main_v138_4 (STEP^[t] V0)) (ix2 i k)).trans ?_
      refine (step_flag (STEP^[t] V0) ⟨t, ht'⟩ h2 i k).trans ?_
      rw [h0, h1, h2, h3, h3, later_eq t k ht']
      show _ = BitVec.ofBool (greedy (supOf V0 i) (keep0 i) (t + 1) k)
      rw [show greedy (supOf V0 i) (keep0 i) (t + 1) k
        = (greedy (supOf V0 i) (keep0 i) t k
          && !(supOf V0 i ⟨t, ht'⟩ k && decide (t < k.val) && greedy (supOf V0 i) (keep0 i) t ⟨t, ht'⟩)) from dif_pos ht']
      exact flag_bool _ _ _ _

end Cert.Proof.SelectRef
-- ==== Proof.SelectTame.lean ====
/-
  Boxes with ordered corners inside an image: the floor under the union and the clips of the areas do nothing, and the largest
  coordinate may be taken over all boxes, an invalid one counting as zero.
-/
module

public import proofs.«01_k».proof.Proof.SelectSpec
public import proofs.«01_k».proof.Proof.SelectArith
public import proofs.«01_k».proof.Proof.Consts

@[expose] public section

noncomputable section

namespace Cert.Proof.SelectMath

open Idealize.ShloMosaic

namespace Cands

variable {n : ℕ} (c : Cands n)

/-- Corners real, in order and not negative, below `B`; labels real. -/
def Tame (B : ℝ) : Prop := ∀ k, ∃ a1 b1 a2 b2 l : ℝ,
  c.x1 k = a1 ∧ c.y1 k = b1 ∧ c.x2 k = a2 ∧ c.y2 k = b2 ∧ c.cl k = l ∧ 0 ≤ a1 ∧ 0 ≤ b1 ∧ a1 ≤ a2 ∧ b1 ≤ b2 ∧ a2 ≤ B ∧ b2 ≤ B

/-- The corner coordinates by number. -/
def coordinate (j : Fin 4) (k : Fin n) : EReal :=
  match j with
  | 0 => c.x1 k
  | 1 => c.y1 k
  | 2 => c.x2 k
  | 3 => c.y2 k

variable {c} {B : ℝ}

/-- A coordinate is not negative. -/
theorem Tame.coordinate_nonneg (h : c.Tame B) (j : Fin 4) (k : Fin n) : 0 ≤ c.coordinate j k := by
  obtain ⟨a1, b1, a2, b2, l, e1, e2, e3, e4, e5, h1, h2, h3, h4, h5, h6⟩ := h k
  match j with
  | 0 => exact (EReal.coe_nonneg.mpr h1).trans_eq e1.symm
  | 1 => exact (EReal.coe_nonneg.mpr h2).trans_eq e2.symm
  | 2 => exact (EReal.coe_nonneg.mpr (h1.trans h3)).trans_eq e3.symm
  | 3 => exact (EReal.coe_nonneg.mpr (h2.trans h4)).trans_eq e4.symm

/-- A coordinate is at most the bound. -/
theorem Tame.coordinate_le (h : c.Tame B) (j : Fin 4) (k : Fin n) : c.coordinate j k ≤ B := by
  obtain ⟨a1, b1, a2, b2, l, e1, e2, e3, e4, e5, h1, h2, h3, h4, h5, h6⟩ := h k
  match j with
  | 0 => exact e1.le.trans (EReal.coe_le_coe_iff.mpr (h3.trans h5))
  | 1 => exact e2.le.trans (EReal.coe_le_coe_iff.mpr (h4.trans h6))
  | 2 => exact e3.le.trans (EReal.coe_le_coe_iff.mpr h5)
  | 3 => exact e4.le.trans (EReal.coe_le_coe_iff.mpr h6)

/-- The largest coordinate is the maximum over all boxes with the invalid ones' coordinates taken as zero. -/
theorem Tame.top_eq [NeZero n] (h : c.Tame B) (M : EReal)
    (hM : ∀ b, M ≤ b ↔ ∀ k j, (if c.valid k = true then c.coordinate j k else 0) ≤ b) : c.top = M := by
  unfold top
  refine SelectMath.top_eq (fun k => c.valid k = true) (fun k j => c.coordinate j k)
    (fun k j => h.coordinate_nonneg j k) _ M (fun b => ?_) hM
  rw [iSup_le_iff]
  refine forall_congr' fun k => ?_
  by_cases hk : c.valid k = true
  · rw [if_pos hk]
    constructor
    · intro hb j _
      have h1 := (le_max_left _ _).trans hb
      have h2 := (le_max_right _ _).trans hb
      match j with
      | 0 => exact (le_max_left _ _).trans h1
      | 1 => exact (le_max_right _ _).trans h1
      | 2 => exact (le_max_left _ _).trans h2
      | 3 => exact (le_max_right _ _).trans h2
    · intro hb
      exact max_le (max_le (hb 0 hk) (hb 1 hk)) (max_le (hb 2 hk) (hb 3 hk))
  · rw [if_neg hk]
    exact ⟨fun _ j hj => absurd hj hk, fun _ => bot_le⟩

/-- The largest coordinate is a real number. -/
theorem Tame.top_real (h : c.Tame B) : ∃ M : ℝ, c.top = M := by
  unfold top
  simp only
  split
  · exact ⟨0, rfl⟩
  · rename_i hne
    generalize hm : (⨆ k : Fin n, if c.valid k then max (max (c.x1 k) (c.y1 k)) (max (c.x2 k) (c.y2 k)) else ⊥) = m at hne ⊢
    have hle : m ≤ B := by
      rw [← hm]
      refine iSup_le fun k => ?_
      split
      · exact max_le (max_le (h.coordinate_le 0 k) (h.coordinate_le 1 k)) (max_le (h.coordinate_le 2 k) (h.coordinate_le 3 k))
      · exact bot_le
    have htop : m ≠ ⊤ := fun e => by rw [e] at hle; exact absurd hle (not_le.mpr (EReal.coe_lt_top B))
    exact ⟨m.toReal, (EReal.coe_toReal htop hne).symm⟩

/-- The overlap with the areas' sides clipped at zero and the union floored at a small number is the overlap. -/
theorem Tame.overlap_eq (h : c.Tame B) (i k : Fin n) (f : EReal) (e : ℝ) (hf : f = e) (he : e ≤ 1) :
    Ideal.div
        (max (min (c.x2 i + c.off c.top i) (c.x2 k + c.off c.top k) - max (c.x1 i + c.off c.top i) (c.x1 k + c.off c.top k) + 1) 0
          * max (min (c.y2 i + c.off c.top i) (c.y2 k + c.off c.top k) - max (c.y1 i + c.off c.top i) (c.y1 k + c.off c.top k) + 1) 0)
        (max
          (max (c.x2 i + c.off c.top i - (c.x1 i + c.off c.top i) + 1) 0 * max (c.y2 i + c.off c.top i - (c.y1 i + c.off c.top i) + 1) 0
            + max (c.x2 k + c.off c.top k - (c.x1 k + c.off c.top k) + 1) 0 * max (c.y2 k + c.off c.top k - (c.y1 k + c.off c.top k) + 1) 0
            - max (min (c.x2 i + c.off c.top i) (c.x2 k + c.off c.top k) - max (c.x1 i + c.off c.top i) (c.x1 k + c.off c.top k) + 1) 0
              * max (min (c.y2 i + c.off c.top i) (c.y2 k + c.off c.top k) - max (c.y1 i + c.off c.top i) (c.y1 k + c.off c.top k) + 1) 0)
          f)
      = c.overlap c.top i k := by
  obtain ⟨M, hM⟩ := h.top_real
  obtain ⟨a1, b1, a2, b2, l, e1, e2, e3, e4, e5, h1, h2, h3, h4, h5, h6⟩ := h i
  obtain ⟨c1, d1, c2, d2, l', f1, f2, f3, f4, f5, g1, g2, g3, g4, g5, g6⟩ := h k
  have hs : ∀ x l : ℝ, (x : EReal) + (l : EReal) * ((M : EReal) + 1) = ((x + l * (M + 1) : ℝ) : EReal) := fun x l => by
    rw [← EReal.coe_one, ← EReal.coe_add, ← EReal.coe_mul, ← EReal.coe_add]
  unfold overlap area inter off
  rw [hM, hf, e1, e2, e3, e4, e5, f1, f2, f3, f4, f5]
  simp only [hs]
  rw [area_clip _ _ _ _ (by linarith) (by linarith), area_clip _ _ _ _ (by linarith) (by linarith),
    union_floor _ _ _ _ _ _ _ _ e (by linarith) (by linarith) (by linarith) (by linarith) he]
  simp only [max_comm (0 : EReal)]

end Cands

/-- A clipped coordinate is a real number inside the image. -/
theorem clip_real (w : ℝ) (hw : 1 ≤ w) (z : EReal) : ∃ a : ℝ, min ((w : EReal) - 1) (max 0 z) = a ∧ 0 ≤ a ∧ a ≤ w - 1 := by
  have hw' : (w : EReal) - 1 = ((w - 1 : ℝ) : EReal) := by rw [← EReal.coe_one, ← EReal.coe_sub]
  have h0 : (0 : EReal) ≤ min ((w : EReal) - 1) (max 0 z) := by
    rw [hw']; exact le_min (EReal.coe_nonneg.mpr (by linarith)) (le_max_left _ _)
  have h1 : min ((w : EReal) - 1) (max 0 z) ≤ ((w - 1 : ℝ) : EReal) := by rw [hw']; exact min_le_left _ _
  generalize min ((w : EReal) - 1) (max 0 z) = y at h0 h1
  have ht : y ≠ ⊤ := fun e => by rw [e] at h1; exact absurd h1 (not_le.mpr (EReal.coe_lt_top _))
  have hb : y ≠ ⊥ := fun e => by rw [e] at h0; exact absurd h0 (not_le.mpr EReal.bot_lt_zero)
  have hy : ((y.toReal : ℝ) : EReal) = y := EReal.coe_toReal ht hb
  refine ⟨y.toReal, hy.symm, ?_, ?_⟩
  · rw [← hy] at h0; exact EReal.coe_nonneg.mp h0
  · rw [← hy] at h1; exact EReal.coe_le_coe_iff.mp h1

/-- Clipping keeps the order of a corner before and one after a point. -/
theorem clip_le (w l r r' : EReal) (hr : 0 ≤ r) (hr' : 0 ≤ r') : min (w - 1) (max 0 (l - r)) ≤ min (w - 1) (max 0 (l + r')) := by
  refine min_le_min le_rfl (max_le_max le_rfl ?_)
  rw [sub_eq_add_neg]
  exact add_le_add le_rfl (((EReal.neg_le_neg_iff.mpr hr).trans_eq neg_zero).trans hr')

/-- Boxes at distances at least zero around their points, clipped to an image with sides at least one. -/
theorem boxes_tame {n : ℕ} (lx ly r0 r1 r2 r3 v cl : Fin n → EReal) (h w : EReal) (h' w' : ℝ) (eh : h = h') (ew : w = w')
    (hh : 1 ≤ h') (hw : 1 ≤ w') (p0 : ∀ k, 0 ≤ r0 k) (p1 : ∀ k, 0 ≤ r1 k) (p2 : ∀ k, 0 ≤ r2 k) (p3 : ∀ k, 0 ≤ r3 k)
    (hcl : ∀ k, ∃ l : ℝ, cl k = l) : (boxes lx ly r0 r1 r2 r3 v cl h w).Tame (max (w' - 1) (h' - 1)) := by
  intro k
  subst eh ew
  obtain ⟨a1, ea1, ha1, -⟩ := clip_real w' hw (lx k - r0 k)
  obtain ⟨b1, eb1, hb1, -⟩ := clip_real h' hh (ly k - r1 k)
  obtain ⟨a2, ea2, -, ha2⟩ := clip_real w' hw (lx k + r2 k)
  obtain ⟨b2, eb2, -, hb2⟩ := clip_real h' hh (ly k + r3 k)
  obtain ⟨l, el⟩ := hcl k
  refine ⟨a1, b1, a2, b2, l, ea1, eb1, ea2, eb2, el, ha1, hb1, ?_, ?_, ha2.trans (le_max_left _ _), hb2.trans (le_max_right _ _)⟩
  · have := clip_le (w' : EReal) (lx k) (r0 k) (r2 k) (p0 k) (p2 k)
    rw [ea1, ea2] at this
    exact EReal.coe_le_coe_iff.mp this
  · have := clip_le (h' : EReal) (ly k) (r1 k) (r3 k) (p1 k) (p3 k)
    rw [eb1, eb2] at this
    exact EReal.coe_le_coe_iff.mp this

end Cert.Proof.SelectMath
-- ==== Proof.SelectRefKept.lean ====
/-
  The reference's candidates, their overlaps and the flags after the suppression loop, in terms of the candidates taken from
  the inputs.
-/
module

public import proofs.«01_k».proof.Proof.SelectRefMid
public import proofs.«01_k».proof.Proof.SelectRefLoop
public import proofs.«01_k».proof.Proof.SelectTame

@[expose] public section

set_option maxRecDepth 16384

noncomputable section

namespace Cert.Proof.SelectRef

open Cert.Proof.SelectMath Cert.Proof.SelectPick
open Cert.SelectReferenceIdeal Cert.SelectReferenceIdeal.Gen Cert.SelectReferenceIdeal.Value
open Idealize.ShloMosaic Idealize.ShloMosaic.TcCoe Idealize.ShloMosaic.StableHlo

variable (V : Valuation τ sig (Elt Ideal))

/-- The clipped coordinates are the candidates'. -/
theorem coord_eq (j : Fin 4) (i : Fin 16) (k : Fin 1000) : coord (corners V) j i k = (inCands V i).coordinate j k := by
  match j with
  | 0 => exact x1_at V i k
  | 1 => exact y1_at V i k
  | 2 => exact x2_at V i k
  | 3 => exact y2_at V i k

/-- The labels as numbers are the candidates'. -/
theorem labelNum_eq (i : Fin 16) (k : Fin 1000) : labelNum (corners V) i k = (inCands V i).cl k :=
  congrArg (fun w : BitVec 32 => FloatOps.sitofp (F := Ideal) FTy.f32 w) (label_at V i k)

/-- The conjunction of three one-bit words. -/
theorem and_bits (a b c : Bool) :
    IntOp.andi (IntOp.andi (BitVec.ofBool a) (BitVec.ofBool b)) (BitVec.ofBool c) = BitVec.ofBool (a && b && c) := by
  cases a <;> cases b <;> cases c <;> rfl

/-- The first mask is the validity of the candidates. -/
theorem validBit_eq (i : Fin 16) (k : Fin 1000) : validBit (corners V) i k = BitVec.ofBool ((inCands V i).valid k) := by
  unfold validBit
  rw [positive_at, coord_eq, coord_eq, coord_eq, coord_eq]
  exact and_bits _ _ _

/-- A choice by a Boolean. -/
theorem select_bit (b : Bool) (x y : EReal) : Scalar.select (BitVec.ofBool b) x y = if b = true then x else y := by
  cases b <;> rfl

variable {i : Fin 16} {B : ℝ} (h : (inCands V i).Tame B)

include h in
theorem topNum_eq : topNum (corners V) i = (inCands V i).top := by
  symm
  refine h.top_eq _ fun b => ?_
  unfold topNum
  rw [Finset.fold_max_le]
  constructor
  · rintro ⟨-, hb⟩ k j
    have := hb (k, j) (Finset.mem_univ _)
    rwa [validBit_eq, stack_eq, coord_eq, select_bit] at this
  · intro hb
    refine ⟨by rw [show Ideal.ofBits FTy.f32 4286578688#32 = ⊥ from Consts.neg_inf]; exact bot_le, fun x _ => ?_⟩
    rw [validBit_eq, stack_eq, coord_eq, select_bit]
    exact hb x.1 x.2

include h in
theorem shifted_eq (j : Fin 4) (k : Fin 1000) :
    shifted (corners V) j i k = (inCands V i).coordinate j k + (inCands V i).off (inCands V i).top k := by
  unfold shifted
  rw [coord_eq, labelNum_eq, topNum_eq V h]
  rfl

include h in
/-- The loop's overlaps are the overlaps of the candidates. -/
theorem iou_eq (a b : Fin 1000) : iouOf (mid (corners V)) i a b = (inCands V i).overlap (inCands V i).top a b := by
  refine (iou_at (corners V) i a b).trans ?_
  unfold interRef areaRef
  simp only [shifted_eq V h]
  exact h.overlap_eq a b _ _ Consts.floor (by norm_num)

omit h in
theorem valid_flag (i : Fin 16) (k : Fin 1000) :
    flagOf (mid (corners V)) i k = BitVec.ofBool ((inCands V i).valid k) :=
  (keep_at (corners V) i k).trans (validBit_eq V i k)

/-- After the loop's thousand trips the flags are the kept candidates. -/
theorem kept_flag (h : ∀ i, ∃ B : ℝ, (inCands V i).Tame B) (i : Fin 16) (k : Fin 1000) :
    flagOf (STEP^[1000] (mid (corners V))) i k = BitVec.ofBool ((inCands V i).kept k) := by
  have hl := (loop_flags (mid (corners V)) (fun i k => (inCands V i).valid k) (valid_flag V) (place_at (corners V))
    (count_at (corners V)) 1000 le_rfl).2.2.2 i k
  rw [hl]
  obtain ⟨B, hB⟩ := h i
  have hs : supOf (mid (corners V)) i = (inCands V i).sup (inCands V i).top := by
    funext a b
    unfold supOf Cands.sup
    rw [iou_eq V hB]
  rw [hs]
  rfl

end Cert.Proof.SelectRef
-- ==== Proof.SelectSorted.lean ====
/-
  The greatest elements of each row, in order: their values and places, and that no value follows a smaller one.
-/
module

public import proofs.«01_k».proof.Proof.SelectGreedy
public import Idealize.ShloMosaic.Lib.IdealHost
public import Idealize.ShloMosaic.Lib.Pointwise

@[expose] public section

noncomputable section

namespace Cert.Proof.SelectSorted

open Idealize.ShloMosaic

variable {m n q : ℕ} (gt : EReal → EReal → BitVec 1) (x : (⟨2, ![m, n]⟩ : Shape).Idx → EReal)

/-- The place in row `i` whose value comes at place `r` of the sorted row. -/
def placed (i : Fin m) (r : Fin n) : Fin n := sortedFrom (fun a b => gt (x (ix2 i a)) (x (ix2 i b)) == 1#1) r

/-- An index of a row, rebuilt along the sorted axis. -/
theorem along_eq (i : Fin m) (r k : Fin n) :
    Shape.Idx.along (s := ⟨2, ![m, n]⟩) (ix2 i r) (1 : Fin 2) k = ix2 i k := by
  funext a
  match a with
  | 0 => rfl
  | 1 => rfl

/-- The order of the sort along a row. -/
private theorem order_eq (i : Fin m) (r : Fin n) :
    (fun k k' : Fin n => gt (x (Shape.Idx.along (s := ⟨2, ![m, n]⟩) (ix2 i r) (1 : Fin 2) k))
      (x (Shape.Idx.along (s := ⟨2, ![m, n]⟩) (ix2 i r) (1 : Fin 2) k')) == 1#1)
      = fun a b => gt (x (ix2 i a)) (x (ix2 i b)) == 1#1 := by
  funext a b
  exact congrArg₂ (fun u v => gt (x u) (x v) == 1#1) (along_eq i r a) (along_eq i r b)

/-- The sorted values at an index. -/
private theorem value_key (J : (⟨2, ![m, n]⟩ : Shape).Idx) (i : Fin m) (r : Fin n) (hJ : J = ix2 i r) :
    x (J.along (1 : Fin 2) (sortedFrom (fun k k' => gt (x (J.along (1 : Fin 2) k)) (x (J.along (1 : Fin 2) k')) == 1#1) (J 1)))
      = x (ix2 i (placed gt x i r)) := by
  subst hJ
  exact (congrArg x (along_eq i r _)).trans (congrArg (fun R => x (ix2 i (sortedFrom R r))) (order_eq gt x i r))

/-- The sorted places at an index. -/
private theorem place_key (J : (⟨2, ![m, n]⟩ : Shape).Idx) (i : Fin m) (r : Fin n) (hJ : J = ix2 i r) :
    BitVec.ofNat 32 ((J.along (1 : Fin 2) (sortedFrom (fun k k' => gt (x (J.along (1 : Fin 2) k)) (x (J.along (1 : Fin 2) k')) == 1#1)
        (J 1))) 1).val = BitVec.ofNat 32 (placed gt x i r).val := by
  subst hJ
  exact congrArg (fun R : Fin n → Fin n → Bool => BitVec.ofNat 32 (sortedFrom R r).val) (order_eq gt x i r)

/-- The leading columns, as an index of the whole row. -/
private theorem slice_index (i : Fin m) (r : Fin q) (hr : r.val < n) (J : (⟨2, ![m, n]⟩ : Shape).Idx)
    (h0 : (J 0).val = 0 + i.val) (h1 : (J 1).val = 0 + r.val) : J = ix2 i ⟨r.val, hr⟩ := by
  funext a
  match a with
  | 0 => exact Fin.ext (h0.trans (Nat.zero_add _))
  | 1 => exact Fin.ext (h1.trans (Nat.zero_add _))

/-- The value at place `r` of the greatest of row `i`. -/
theorem topK_value (h) (i : Fin m) (r : Fin q) (hr : r.val < n) :
    (Host.topK (s := ⟨2, ![m, n]⟩) ⟨2, ![m, q]⟩ 1 gt x h).1 (ix2 i r) = x (ix2 i (placed gt x i ⟨r.val, hr⟩)) := by
  exact value_key gt x _ i ⟨r.val, hr⟩ (slice_index i r hr _ rfl rfl)

/-- Where it stood in the row. -/
theorem topK_place (h) (i : Fin m) (r : Fin q) (hr : r.val < n) :
    (Host.topK (s := ⟨2, ![m, n]⟩) ⟨2, ![m, q]⟩ 1 gt x h).2 (ix2 i r) = BitVec.ofNat 32 (placed gt x i ⟨r.val, hr⟩).val := by
  exact place_key gt x _ i ⟨r.val, hr⟩ (slice_index i r hr _ rfl rfl)

/-- The greatest values come in falling order. -/
theorem topK_antitone (h) (i : Fin m) (r r' : Fin q) (hr : r.val < n) (hr' : r'.val < n) (hlt : r < r') :
    (Host.topK (s := ⟨2, ![m, n]⟩) ⟨2, ![m, q]⟩ 1 (FloatOps.cmpfTotal (F := Ideal) (φ := FTy.f32) CmpDirection.gt) x h).1 (ix2 i r')
      ≤ (Host.topK (s := ⟨2, ![m, n]⟩) ⟨2, ![m, q]⟩ 1 (FloatOps.cmpfTotal (F := Ideal) (φ := FTy.f32) CmpDirection.gt) x h).1 (ix2 i r) := by
  rw [topK_value _ x h i r hr, topK_value _ x h i r' hr']
  have hbit : ∀ a b : Fin n, (FloatOps.cmpfTotal (F := Ideal) (φ := FTy.f32) CmpDirection.gt (x (ix2 i a)) (x (ix2 i b)) == 1#1)
      = decide (x (ix2 i b) < x (ix2 i a)) := fun a b => by
    show ((BitVec.ofBool (decide (x (ix2 i b) < x (ix2 i a)))) == 1#1) = _
    cases decide (x (ix2 i b) < x (ix2 i a)) <;> rfl
  unfold placed
  simp only [hbit]
  have := sortedFrom_noInversion (fun a b => decide (x (ix2 i b) < x (ix2 i a))) (fun a b => decide (x (ix2 i b) < x (ix2 i a)))
    (fun a b hab => by simp only [decide_eq_true_eq, decide_eq_false_iff_not, not_lt] at hab ⊢; exact hab.le)
    (fun a b hab => hab) (fun a b c hab hbc => by
      simp only [decide_eq_false_iff_not, not_lt] at hab hbc ⊢; exact hab.trans hbc) ⟨r.val, hr⟩ ⟨r'.val, hr'⟩ hlt
  simpa using this

end Cert.Proof.SelectSorted
-- ==== Proof.SelectRefTail.lean ====
/-
  What the reference's host code computes after its suppression loop: the kept scores are sorted, the boxes and labels of the
  best hundred are gathered, and rows without a positive score are zero.
-/
module

public import proofs.«01_k».proof.Proof.SelectSorted
public import proofs.«01_k».proof.Proof.SelectGatherRef
public import proofs.«01_k».proof.Proof.Gen.SelectReferenceIdeal.Run
public import Idealize.ShloMosaic.Lib.Claim
public import Idealize.ShloMosaic.Lib.StableHlo.ReadAt

@[expose] public section

set_option maxRecDepth 16384

noncomputable section

namespace Cert.Proof.SelectRef

open Cert.SelectReferenceIdeal Cert.SelectReferenceIdeal.Gen Cert.SelectReferenceIdeal.Value
open Idealize.ShloMosaic Idealize.ShloMosaic.TcCoe Idealize.ShloMosaic.StableHlo
open Cert.Proof.SelectSorted (placed topK_value topK_place)

variable (X : Valuation τ sig (Elt Ideal))

/-- The order the scores are sorted by: greater first. -/
abbrev greater : EReal → EReal → BitVec 1 := FloatOps.cmpfTotal (F := Ideal) (φ := FTy.f32) CmpDirection.gt

/-- A negative place counts from the end. -/
def wrapped (w : BitVec 32) : BitVec 32 := Scalar.select (IntOp.cmpi CmpIPredicate.slt w 0#32) (IntOp.addi w 1000#32) w

/-- A place as a signed word. -/
theorem toInt_place (p : Fin 1000) : (BitVec.ofNat 32 p.val).toInt = p.val := by
  have := p.isLt
  rw [BitVec.toInt_eq_toNat_of_lt] <;> simp only [BitVec.toNat_ofNat] <;> omega

/-- A place is not negative, so wrapping leaves it. -/
theorem wrapped_place (p : Fin 1000) : wrapped (BitVec.ofNat 32 p.val) = BitVec.ofNat 32 p.val := by
  unfold wrapped
  have hn : IntOp.cmpi CmpIPredicate.slt (BitVec.ofNat 32 p.val) 0#32 = 0#1 := by
    unfold IntOp.cmpi
    simp only [BitVec.slt, toInt_place]
    rw [show decide ((p.val : ℤ) < (0#32 : BitVec 32).toInt) = false from decide_eq_false (by simp)]
    rfl
  rw [hn]
  rfl

/-- A place below a thousand is in range. -/
theorem in_range (p : Fin 1000) (w : BitVec 32) (hw : w = BitVec.ofNat 32 p.val) :
    IntOp.andi (IntOp.andi (IntOp.cmpi CmpIPredicate.sge (wrapped w) 0#32) (IntOp.cmpi CmpIPredicate.sle (wrapped w) 999#32)) 1#1
      = 1#1 := by
  have hp := p.isLt
  rw [hw, wrapped_place]
  unfold IntOp.cmpi
  simp only [BitVec.sle, toInt_place]
  rw [show decide ((0#32 : BitVec 32).toInt ≤ (p.val : ℤ)) = true from decide_eq_true (by simp),
    show decide ((p.val : ℤ) ≤ (999#32 : BitVec 32).toInt) = true from decide_eq_true (by
      rw [show (999#32 : BitVec 32).toInt = 999 from rfl]; omega)]
  rfl

/-- A place is in range, so clamping leaves it. -/
theorem clamp_place (h) (p : Fin 1000) (w : BitVec 32) (hw : w = BitVec.ofNat 32 p.val) :
    SelectGather.clampTo 1000 h (wrapped w) = p := by
  have hp := p.isLt
  rw [hw, wrapped_place]
  apply Fin.ext
  show min (BitVec.ofNat 32 p.val).toInt.toNat (1000 - 1) = p.val
  rw [toInt_place]
  omega

/-- A score counts when its candidate is kept. -/
theorem final_score (i : Fin 16) (k : Fin 1000) : (afterL [hostOps0_17, hostOps0_18] X (Proc.devRef .tc main_v139) : S16x1000.Idx → EReal) (ix2 i k) =
      Scalar.select ((X (Proc.devRef .tc main_v138_4) : S16x1000.Idx → BitVec 1) (ix2 i k))
        ((X (Proc.devRef .tc main_v30) : S16x1000.Idx → EReal) (ix2 i k)) (0 : EReal) := by
  simp only [afterL_cons, afterL_nil]
  after_reads_at
  delta id
  pointwise []

/-- The scores sorted at the end. -/
def finalOf (i : Fin 16) (k : Fin 1000) : EReal := (X (Proc.devRef .tc main_v139) : S16x1000.Idx → EReal) (ix2 i k)

/-- Where the score at place `r` of the sorted row stood. -/
def posOf (i : Fin 16) (r : Fin 100) : Fin 1000 :=
  placed greater (X (Proc.devRef .tc main_v139) : S16x1000.Idx → EReal) i ⟨r.val, by have := r.isLt; omega⟩

/-- The best scores. -/
theorem best_value (i : Fin 16) (r : Fin 100) : (afterL [hostOps0_19] X (Proc.devRef .tc main_values_35) : S16x100.Idx → EReal) (ix2 i r) = finalOf X i (posOf X i r) := by
  simp only [afterL_cons, afterL_nil]
  after_reads_at
  exact topK_value _ _ _ i r _

/-- Their places. -/
theorem best_place (i : Fin 16) (r : Fin 100) : (afterL [hostOps0_19] X (Proc.devRef .tc main_indices_36) : S16x100.Idx → BitVec 32) (ix2 i r) = BitVec.ofNat 32 (posOf X i r).val := by
  simp only [afterL_cons, afterL_nil]
  after_reads_at
  exact topK_place _ _ _ i r _

/-- Their places, as the boxes are gathered by. -/
theorem best_place3 (i : Fin 16) (r : Fin 100) : (afterL [hostOps0_19] X (Proc.devRef .tc main_v143) : S16x100x1.Idx → BitVec 32) (ix3 i r (0 : Fin 1)) = BitVec.ofNat 32 (posOf X i r).val := by
  simp only [afterL_cons, afterL_nil]
  after_reads_at
  exact topK_place _ _ _ i r _

/-- Whether a best score is positive. -/
theorem best_positive (i : Fin 16) (r : Fin 100) : (afterL [hostOps0_19] X (Proc.devRef .tc main_v142) : S16x100x1.Idx → BitVec 1) (ix3 i r (0 : Fin 1)) = BitVec.ofBool (decide (0 < finalOf X i (posOf X i r))) := by
  simp only [afterL_cons, afterL_nil]
  after_reads_at
  exact congrArg (fun z : EReal => BitVec.ofBool (decide (0 < z))) (topK_value _ _ _ i r _)

/-- A gathered box. -/
theorem take_box (i : Fin 16) (r : Fin 100) (j : Fin 4) (p : Fin 1000)
    (h : (X (Proc.devRef .tc main_v143) : S16x100x1.Idx → BitVec 32) (ix3 i r (0 : Fin 1)) = BitVec.ofNat 32 p.val) : (afterL [hostOps0_20] X (Proc.devRef .tc main_v144) : S16x100x4.Idx → EReal) (ix3 i r j) = (X (Proc.devRef .tc main_v59) : S16x1000x4.Idx → EReal) (ix3 i p j) := by
  simp only [afterL_cons, afterL_nil]
  after_reads_at
  rw [SelectGather.takeBox]
  refine (congrArg₂ (fun b (v : EReal) => Scalar.select b v (Ideal.ofBits FTy.f32 2143289344#32)) (?_ : _ = 1#1)
    (congrArg (fun z => (X (Proc.devRef .tc main_v59) : S16x1000x4.Idx → EReal) (ix3 i z j)) (clamp_place _ p _ h))).trans rfl
  exact (Finset.fold_singleton).trans (in_range p _ h)

/-- A gathered label. -/
theorem take_label (i : Fin 16) (r : Fin 100) (p : Fin 1000)
    (h : (X (Proc.devRef .tc main_indices_36) : S16x100.Idx → BitVec 32) (ix2 i r) = BitVec.ofNat 32 p.val) : (afterL [hostOps0_21] X (Proc.devRef .tc main_v145) : S16x100.Idx → BitVec 32) (ix2 i r) = (X (Proc.devRef .tc main_v20) : S16x1000.Idx → BitVec 32) (ix2 i p) := by
  simp only [afterL_cons, afterL_nil]
  after_reads_at
  rw [SelectGather.takeLabel]
  refine (congrArg₂ (fun b (v : BitVec 32) => Scalar.select b v 2147483648#32) (?_ : _ = 1#1)
    (congrArg (fun z => (X (Proc.devRef .tc main_v20) : S16x1000.Idx → BitVec 32) (ix2 i z)) (clamp_place _ p _ h))).trans rfl
  exact (Finset.fold_singleton).trans (in_range p _ h)

/-- The gathered boxes and the score column, before they are joined. -/
private theorem part_144 (i : Fin 16) (r : Fin 100) (j : Fin 4) :
    (upto hostOps0_22 X 1 (Proc.devRef .tc main_v144) : S16x100x4.Idx → EReal) (ix3 i r j) = (X (Proc.devRef .tc main_v144) : S16x100x4.Idx → EReal) (ix3 i r j) := by
  after_reads_at

private theorem part_146 (i : Fin 16) (r : Fin 100) :
    (upto hostOps0_22 X 1 (Proc.devRef .tc main_v146) : S16x100x1.Idx → EReal) (ix3 i r (0 : Fin 1)) = (X (Proc.devRef .tc main_values_35) : S16x100.Idx → EReal) (ix2 i r) := by
  after_reads_at

/-- A row before rows without a positive score are zeroed: corners, score, label. -/
def itemOf (i : Fin 16) (r : Fin 100) (q : ℕ) : EReal :=
  if h : q < 4 then (X (Proc.devRef .tc main_v144) : S16x100x4.Idx → EReal) (ix3 i r ⟨q, h⟩)
  else if q = 4 then (X (Proc.devRef .tc main_values_35) : S16x100.Idx → EReal) (ix2 i r)
  else FloatOps.sitofp (F := Ideal) FTy.f32 ((X (Proc.devRef .tc main_v145) : S16x100.Idx → BitVec 32) (ix2 i r))

/-- A row of the result: corners and score, zero where there is no positive score. -/
theorem row_read (i : Fin 16) (r : Fin 100) (q : Fin 5) :
    (afterL [hostOps0_22, hostOps0_23] X (Proc.devRef .tc main_v148) : S16x100x5.Idx → EReal) (ix3 i r q)
      = Scalar.select ((X (Proc.devRef .tc main_v142) : S16x100x1.Idx → BitVec 1) (ix3 i r (0 : Fin 1))) (itemOf X i r q.val) (0 : EReal) := by
  simp only [afterL_cons, afterL_nil]
  after_reads_at
  delta id
  refine congrArg₂ (fun v z : EReal => Scalar.select ((X (Proc.devRef .tc main_v142) : S16x100x1.Idx → BitVec 1)
    (ix3 i r (0 : Fin 1))) v z) ?_ Ideal.ofBits_zero_f32
  unfold itemOf
  have hq := q.isLt
  by_cases h4 : q.val < 4
  · rw [dif_pos h4, dif_pos h4]
    exact part_144 X i r ⟨q.val, h4⟩
  · rw [dif_neg h4, dif_neg h4, if_pos (show q.val = 4 by omega)]
    rw [show (⟨q.val - 4, show q.val - 4 < 1 by omega⟩ : Fin 1) = 0 from Subsingleton.elim _ _]
    exact part_146 X i r

/-- A label of the result: zero where there is no positive score. -/
theorem label_read (i : Fin 16) (r : Fin 100) :
    (afterL [hostOps0_24, hostOps0_25] X (Proc.devRef .tc main_v152) : S16x100.Idx → BitVec 32) (ix2 i r)
      = if (0 : EReal) < (X (Proc.devRef .tc main_values_35) : S16x100.Idx → EReal) (ix2 i r) then
          (X (Proc.devRef .tc main_v145) : S16x100.Idx → BitVec 32) (ix2 i r) else 0#32 := by
  simp only [afterL_cons, afterL_nil]
  after_reads_at
  delta id
  rfl

/-- The image and the row that a flat row number stands for. -/
def imageOf (n : Fin 1600) : Fin 16 := ⟨n.val / 100, by omega⟩
def rowOf (n : Fin 1600) : Fin 100 := ⟨n.val % 100, by omega⟩

/-- The rows, flattened. -/
theorem rows_flat (n : Fin 1600) (q : Fin 5) :
    (afterL [hostOps0_24, hostOps0_25, hostOps0_26] X (Proc.devRef .tc main_v149) : S1600x5.Idx → EReal) (ix2 n q)
      = (X (Proc.devRef .tc main_v148) : S16x100x5.Idx → EReal) (ix3 (imageOf n) (rowOf n) q) := by
  simp only [afterL_cons, afterL_nil]
  after_reads_at
  rfl

/-- The labels, flattened. -/
theorem labels_flat (n : Fin 1600) :
    (afterL [hostOps0_26] X (Proc.devRef .tc main_v153) : S1600.Idx → BitVec 32) (ix1 n)
      = (X (Proc.devRef .tc main_v152) : S16x100.Idx → BitVec 32) (ix2 (imageOf n) (rowOf n)) := by
  simp only [afterL_cons, afterL_nil]
  after_reads_at
  rfl

end Cert.Proof.SelectRef
-- ==== Proof.SelectChoose.lean ====
/-
  Sorting the kept candidates' scores, the others' taken as zero, puts the kept candidates first and in their order.
-/
module

public import proofs.«01_k».proof.Proof.SelectSpec
public import proofs.«01_k».proof.Proof.SelectGreedy

@[expose] public section

noncomputable section

namespace Cert.Proof.SelectMath

open Idealize.ShloMosaic

/-- The greedy choice keeps only what it started from. -/
theorem greedy_start {n : ℕ} (sup : Fin n → Fin n → Bool) (keep0 : Fin n → Bool) (i : ℕ) (k : Fin n)
    (h : greedy sup keep0 i k = true) : keep0 k = true := by
  induction i with
  | zero => exact h
  | succ i ih =>
    unfold greedy at h
    split at h
    · exact ih (Bool.and_eq_true_iff.mp h).1
    · exact ih h

namespace Cands

variable {n : ℕ} (c : Cands n)

/-- A kept candidate was valid. -/
theorem kept_valid (k : Fin n) (h : c.kept k = true) : c.valid k = true := greedy_start _ _ _ _ h

/-- A kept candidate has a positive score. -/
theorem kept_pos (k : Fin n) (h : c.kept k = true) : 0 < c.v k := by
  have := c.kept_valid k h
  unfold valid at this
  simp only [Bool.and_eq_true, decide_eq_true_eq] at this
  exact this.1.1

/-- A score that counts at the end. -/
def final (k : Fin n) : EReal := if c.kept k = true then c.v k else 0

/-- The order of the last sort. -/
def ahead (a b : Fin n) : Bool := decide (c.final b < c.final a)

variable (hv : ∀ a b : Fin n, a < b → c.v b ≤ c.v a)

include hv in
theorem ahead_kept (a b : Fin n) (h : a < b) (ha : c.kept a = true) (hb : c.kept b = true) : c.ahead b a = false := by
  unfold ahead final
  rw [if_pos ha, if_pos hb]
  exact decide_eq_false (not_lt.mpr (hv a b h))

/-- A kept candidate comes before one that is not kept. -/
theorem ahead_mixed (a b : Fin n) (ha : c.kept a = true) (hb : c.kept b = false) : c.ahead a b = true ∧ c.ahead b a = false := by
  unfold ahead final
  rw [if_pos ha, if_neg (by simp [hb])]
  exact ⟨decide_eq_true (c.kept_pos a ha), decide_eq_false (not_lt.mpr (c.kept_pos a ha).le)⟩

/-- Candidates that are not kept are not ordered. -/
theorem ahead_rest (a b : Fin n) (ha : c.kept a = false) (hb : c.kept b = false) : c.ahead a b = false := by
  unfold ahead final
  rw [if_neg (by simp [hb]), if_neg (by simp [ha])]
  exact decide_eq_false (lt_irrefl _)

include hv in
/-- The place of rank `r` holds the kept candidate with `r` kept before it. -/
theorem chosen_kept (r k : Fin n) (hk : c.kept k = true) (hr : before (flagAt c.kept) k.val = r.val) :
    sortedFrom c.ahead r = k :=
  sortedFrom_kept c.ahead c.kept (fun a b h ha hb => c.ahead_kept hv a b h ha hb) (fun a b ha hb => c.ahead_mixed a b ha hb)
    (fun a b ha hb => c.ahead_rest a b ha hb) r k hk hr

include hv in
/-- Where there is none, it holds one that is not kept. -/
theorem chosen_none (r : Fin n) (hr : ∀ k, c.kept k = true → before (flagAt c.kept) k.val ≠ r.val) :
    c.kept (sortedFrom c.ahead r) = false :=
  sortedFrom_not_kept c.ahead c.kept (fun a b h ha hb => c.ahead_kept hv a b h ha hb) (fun a b ha hb => c.ahead_mixed a b ha hb)
    (fun a b ha hb => c.ahead_rest a b ha hb) r hr

/-- Beyond the six columns the result is zero. -/
theorem outAt_beyond (r q : ℕ) (hq : 6 ≤ q) : c.outAt r q = 0 := by
  unfold outAt
  split
  · unfold field
    rw [if_neg (by omega), if_neg (by omega), if_neg (by omega), if_neg (by omega), if_neg (by omega), if_neg (by omega)]
  · rfl

/-- A row of the result read off the last sort: the fields of the candidate at that place when its score is positive. -/
theorem outAt_eq (r : Fin n) (q : ℕ) (hr : r.val < 100) :
    (∀ a b : Fin n, a < b → c.v b ≤ c.v a) →
    c.outAt r.val q = if 0 < c.final (sortedFrom c.ahead r) then c.field q (sortedFrom c.ahead r) else 0 := by
  intro hv
  by_cases h : ∃ k, c.kept k = true ∧ before (flagAt c.kept) k.val = r.val
  · obtain ⟨k, hk, hb⟩ := h
    rw [c.chosen_kept hv r k hk hb, c.outAt_of_kept r.val q k hk hb hr]
    unfold final
    rw [if_pos hk, if_pos (c.kept_pos k hk)]
  · have hn : ∀ k, c.kept k = true → before (flagAt c.kept) k.val ≠ r.val := fun k hk hb => h ⟨k, hk, hb⟩
    rw [c.outAt_of_none r.val q fun k hk hb => absurd hb (hn k hk)]
    unfold final
    rw [if_neg (by simp [c.chosen_none hv r hn])]

end Cands

end Cert.Proof.SelectMath
-- ==== Proof.SelectPickTame.lean ====
/-
  The candidates taken from inputs with distances at least zero and image sizes at least one are boxes with ordered corners
  inside their image, and their scores fall.
-/
module

public import proofs.«01_k».proof.Proof.SelectPick
public import proofs.«01_k».proof.Proof.SelectTame
public import proofs.«01_k».proof.Proof.SelectSorted

@[expose] public section

set_option maxRecDepth 16384

noncomputable section

namespace Cert.Proof.SelectPick

open Idealize.ShloMosaic Cert.Proof.SelectMath Cert.SelectIdeal Cert.SelectIdeal.Gen

/-- A stride is not negative. -/
theorem strideBits_nonneg (q : Fin 5) : 0 ≤ Ideal.ofBits FTy.f32 (strideBits q) := by
  fin_cases q <;> simp [strideBits, Ideal.ofBits, Ideal.ieee, -EReal.coe_mul, -EReal.coe_neg] <;>
    first | exact EReal.coe_nonneg.mpr (by norm_num) | norm_num

/-- With no negative side and image sides of at least one, the candidates of an image are tame. -/
theorem picks_tame (A : S16x2097152x128.Idx → EReal) (P : S2097152x2.Idx → EReal) (L : S2097152.Idx → BitVec 32)
    (B : S2097152x4.Idx → EReal) (Z : S16x2.Idx → BitVec 32) (hB : ∀ j, 0 ≤ B j) (hZ : ∀ j, 1 ≤ (Z j).toInt) (i : Fin 16) :
    ∃ b : ℝ, (picks A P L B Z i).Tame b := by
  have hreach : ∀ p j, 0 ≤ B (Idealize.ShloMosaic.ix2 p j) * strideOf L p := fun p j => EReal.mul_nonneg (hB _) (strideBits_nonneg _)
  refine ⟨_, boxes_tame _ _ _ _ _ _ _ _ (side Z i 0) (side Z i 1) ((Z (Idealize.ShloMosaic.ix2 i 0)).toInt : ℝ)
    ((Z (Idealize.ShloMosaic.ix2 i 1)).toInt : ℝ) rfl rfl ?_ ?_ (fun k => hreach _ _) (fun k => hreach _ _) (fun k => hreach _ _)
    (fun k => hreach _ _) (fun k => ⟨_, rfl⟩)⟩
  · exact_mod_cast hZ _
  · exact_mod_cast hZ _

/-- The candidates come in order of falling score. -/
theorem picks_falling (A : S16x2097152x128.Idx → EReal) (P : S2097152x2.Idx → EReal) (L : S2097152.Idx → BitVec 32)
    (B : S2097152x4.Idx → EReal) (Z : S16x2.Idx → BitVec 32) (i : Fin 16) (a b : Fin 1000) (h : a < b) :
    (picks A P L B Z i).v b ≤ (picks A P L B Z i).v a := by
  show (sorted A).1 (Idealize.ShloMosaic.ix2 i b) ≤ (sorted A).1 (Idealize.ShloMosaic.ix2 i a)
  unfold sorted
  exact SelectSorted.topK_antitone (m := 16) (n := 23068672) (q := 1000) _ _ i a b (by have := a.isLt; omega) (by have := b.isLt; omega) h

end Cert.Proof.SelectPick
-- ==== Proof.SelectRefResult.lean ====
/-
  The reference's two results: every row and label is what the choice among the candidates puts there.
-/
module

public import proofs.«01_k».proof.Proof.SelectRefKept
public import proofs.«01_k».proof.Proof.SelectRefTail
public import proofs.«01_k».proof.Proof.SelectChoose
public import proofs.«01_k».proof.Proof.SelectPickTame
public import proofs.«01_k».proof.Proof.ReferenceFrames
public import proofs.«01_k».proof.Proof.SelectWord

@[expose] public section

set_option maxRecDepth 16384

noncomputable section

namespace Cert.Proof.SelectRef

open Cert.Proof.SelectMath Cert.Proof.SelectPick Cert.Proof.ReferenceFrames
open Cert.SelectReferenceIdeal Cert.SelectReferenceIdeal.Gen Cert.SelectReferenceIdeal.Value
open Idealize.ShloMosaic Idealize.ShloMosaic.TcCoe Idealize.ShloMosaic.StableHlo

section Tail

/-- The places of the sort, by any order that agrees with the one of the final scores. -/
theorem pos_of (Y : Valuation τ sig (Elt Ideal)) (i : Fin 16) (r : Fin 100) (R : Fin 1000 → Fin 1000 → Bool)
    (hR : ∀ a b, decide (finalOf Y i b < finalOf Y i a) = R a b) :
    posOf Y i r = sortedFrom R ⟨r.val, by have := r.isLt; omega⟩ := by
  have h : ∀ x y : EReal, (greater x y == 1#1) = decide (y < x) := fun x y => by
    show (BitVec.ofBool (decide (y < x)) == 1#1) = _
    cases decide (y < x) <;> rfl
  have e : (fun a b => greater (finalOf Y i a) (finalOf Y i b) == 1#1) = R := by
    funext a b
    rw [h, hR]
  rw [← e]
  rfl

variable (X : Valuation τ sig (Elt Ideal))

/-- The contents after the last sort's scores are formed, after the sort, and after the boxes and labels are gathered. -/
abbrev scoredAt : Valuation τ sig (Elt Ideal) := afterL [hostOps0_17, hostOps0_18] X
abbrev sortedAt : Valuation τ sig (Elt Ideal) := afterL [hostOps0_19] (scoredAt X)
abbrev boxedAt : Valuation τ sig (Elt Ideal) := afterL [hostOps0_20] (sortedAt X)
abbrev labelledAt : Valuation τ sig (Elt Ideal) := afterL [hostOps0_21] (boxedAt X)

/-- A buffer that the scores and the sort do not write is unchanged by them. -/
theorem sorted_keep (r : Ref sig .tc) (h0 : r ∉ written17) (h1 : r ∉ written18) (h2 : r ∉ written19) :
    sortedAt X (Proc.devRef .tc r) = X (Proc.devRef .tc r) := by
  simp only [afterL_cons, afterL_nil]
  rw [after_of_writes_sub hostOps0_19 _ writes19 h2, after_of_writes_sub hostOps0_18 _ writes18 h1,
    after_of_writes_sub hostOps0_17 _ writes17 h0]

/-- A buffer that the gather of the boxes does not write is unchanged by it. -/
theorem boxed_keep (r : Ref sig .tc) (h : r ∉ written20) : boxedAt X (Proc.devRef .tc r) = sortedAt X (Proc.devRef .tc r) := by
  simp only [afterL_cons, afterL_nil]
  rw [after_of_writes_sub hostOps0_20 _ writes20 h]

/-- A buffer that the gather of the labels does not write is unchanged by it. -/
theorem labelled_keep (r : Ref sig .tc) (h : r ∉ written21) :
    labelledAt X (Proc.devRef .tc r) = boxedAt X (Proc.devRef .tc r) := by
  simp only [afterL_cons, afterL_nil]
  rw [after_of_writes_sub hostOps0_21 _ writes21 h]

/-- A buffer that the rows do not write is unchanged by them. -/
theorem rows_keep (r : Ref sig .tc) (h0 : r ∉ written22) (h1 : r ∉ written23) :
    afterL [hostOps0_22, hostOps0_23] (labelledAt X) (Proc.devRef .tc r) = labelledAt X (Proc.devRef .tc r) := by
  simp only [afterL_cons, afterL_nil]
  rw [after_of_writes_sub hostOps0_23 _ writes23 h1, after_of_writes_sub hostOps0_22 _ writes22 h0]

variable (C : Fin 16 → Cands 1000)

/-- What the tail reads, as candidates: flags, scores, boxes, labels. -/
structure Holds : Prop where
  flag : ∀ i k, (X (Proc.devRef .tc main_v138_4) : S16x1000.Idx → BitVec 1) (ix2 i k) = BitVec.ofBool ((C i).kept k)
  score : ∀ i k, (X (Proc.devRef .tc main_v30) : S16x1000.Idx → EReal) (ix2 i k) = if 0 < (C i).v k then (C i).v k else 0
  box : ∀ i k j, (X (Proc.devRef .tc main_v59) : S16x1000x4.Idx → EReal) (ix3 i k j) = (C i).coordinate j k
  label : ∀ i k, FloatOps.sitofp (F := Ideal) FTy.f32 ((X (Proc.devRef .tc main_v20) : S16x1000.Idx → BitVec 32) (ix2 i k)) = (C i).cl k

variable {X C} (hX : Holds X C)

include hX

/-- The scores that are sorted are the candidates' final scores. -/
theorem final_eq (i : Fin 16) (k : Fin 1000) : finalOf (scoredAt X) i k = (C i).final k := by
  unfold finalOf scoredAt Cands.final
  rw [final_score X i k, hX.flag, hX.score, select_bit]
  by_cases hk : (C i).kept k = true
  · rw [if_pos hk, if_pos hk, if_pos ((C i).kept_pos k hk)]
  · rw [if_neg hk, if_neg hk]

/-- The places the sort gives are those of the candidates in the order of their final scores. -/
theorem pos_eq (i : Fin 16) (r : Fin 100) :
    posOf (scoredAt X) i r = sortedFrom (C i).ahead ⟨r.val, by have := r.isLt; omega⟩ := by
  refine pos_of (scoredAt X) i r (C i).ahead fun a b => ?_
  rw [final_eq hX, final_eq hX]
  rfl

/-- A row that is filled holds the fields of its candidate. -/
theorem item_eq (i : Fin 16) (r : Fin 100) (q : ℕ) (hq : q < 6)
    (hpos : 0 < (C i).final (posOf (scoredAt X) i r)) :
    itemOf (labelledAt X) i r q = (C i).field q (posOf (scoredAt X) i r) := by
  have hkept : (C i).kept (posOf (scoredAt X) i r) = true := by
    by_contra hn
    unfold Cands.final at hpos
    rw [if_neg hn] at hpos
    exact absurd hpos (lt_irrefl _)
  unfold itemOf
  by_cases h4 : q < 4
  · rw [dif_pos h4, labelled_keep X main_v144 (by decide)]
    refine (take_box (sortedAt X) i r ⟨q, h4⟩ _ (best_place3 (scoredAt X) i r)).trans ?_
    rw [sorted_keep X main_v59 (by decide) (by decide) (by decide), hX.box]
    interval_cases q <;> rfl
  · rw [dif_neg h4]
    by_cases h5 : q = 4
    · subst h5
      rw [if_pos rfl, labelled_keep X main_values_35 (by decide), boxed_keep X main_values_35 (by decide)]
      refine (best_value (scoredAt X) i r).trans ?_
      rw [final_eq hX]
      unfold Cands.final
      rw [if_pos hkept]
      rfl
    · have h6 : q = 5 := by omega
      subst h6
      rw [if_neg (by decide)]
      refine (congrArg (fun w : BitVec 32 => FloatOps.sitofp (F := Ideal) FTy.f32 w)
        (take_label (boxedAt X) i r (posOf (scoredAt X) i r) ?_)).trans ?_
      · rw [boxed_keep X main_indices_36 (by decide)]
        exact best_place (scoredAt X) i r
      · rw [boxed_keep X main_v20 (by decide), sorted_keep X main_v20 (by decide) (by decide) (by decide), hX.label]
        rfl

/-- Rows before they are flattened. -/
theorem row_eq (hv : ∀ i (a b : Fin 1000), a < b → (C i).v b ≤ (C i).v a) (i : Fin 16) (r : Fin 100) (q : Fin 5) :
    (afterL [hostOps0_22, hostOps0_23] (labelledAt X) (Proc.devRef .tc main_v148) : S16x100x5.Idx → EReal) (ix3 i r q)
      = (C i).outAt r.val q.val := by
  have hr := r.isLt
  refine (row_read (labelledAt X) i r q).trans ?_
  rw [labelled_keep X main_v142 (by decide), boxed_keep X main_v142 (by decide)]
  refine (congrArg (fun b : BitVec 1 => Scalar.select b (itemOf (labelledAt X) i r q.val) (0 : EReal))
    (best_positive (scoredAt X) i r)).trans ?_
  beta_reduce
  rw [select_bit, final_eq hX]
  rw [(C i).outAt_eq ⟨r.val, by omega⟩ q.val hr (hv i), ← pos_eq hX i r]
  by_cases hp : 0 < (C i).final (posOf (scoredAt X) i r)
  · rw [if_pos hp, if_pos (decide_eq_true hp), item_eq hX i r q.val (by omega) hp]
  · rw [if_neg hp, if_neg (by rw [decide_eq_true_eq]; exact hp)]

/-- Labels before they are flattened. -/
theorem label_eq (hv : ∀ i (a b : Fin 1000), a < b → (C i).v b ≤ (C i).v a) (i : Fin 16) (r : Fin 100) :
    (afterL [hostOps0_24, hostOps0_25] (afterL [hostOps0_22, hostOps0_23] (labelledAt X)) (Proc.devRef .tc main_v152) :
      S16x100.Idx → BitVec 32) (ix2 i r) = wordOf ((C i).outAt r.val 5) := by
  have hr := r.isLt
  have hs : (afterL [hostOps0_22, hostOps0_23] (labelledAt X) (Proc.devRef .tc main_values_35) : S16x100.Idx → EReal) (ix2 i r)
      = (C i).final (posOf (scoredAt X) i r) := by
    rw [rows_keep X main_values_35 (by decide) (by decide), labelled_keep X main_values_35 (by decide),
      boxed_keep X main_values_35 (by decide)]
    exact (best_value (scoredAt X) i r).trans (final_eq hX i _)
  refine (label_read (afterL [hostOps0_22, hostOps0_23] (labelledAt X)) i r).trans ?_
  rw [hs, rows_keep X main_v145 (by decide) (by decide), (C i).outAt_eq ⟨r.val, by omega⟩ 5 hr (hv i), ← pos_eq hX i r]
  by_cases hp : 0 < (C i).final (posOf (scoredAt X) i r)
  · rw [if_pos hp, if_pos hp, ← item_eq hX i r 5 (by decide) hp]
    exact (wordOf_sitofp _).symm
  · rw [if_neg hp, if_neg hp]
    exact wordOf_zero.symm

/-- The reference's first result: corners and score of every row. -/
theorem tail_rows (hv : ∀ i (a b : Fin 1000), a < b → (C i).v b ≤ (C i).v a) (n : Fin 1600) (q : Fin 5) :
    (afterL postI X (Proc.devRef .tc main_v149) : S1600x5.Idx → EReal) (ix2 n q)
      = (C (imageOf n)).outAt (n.val % 100) q.val := by
  show (afterL [hostOps0_24, hostOps0_25, hostOps0_26] (afterL [hostOps0_22, hostOps0_23] (labelledAt X))
    (Proc.devRef .tc main_v149) : S1600x5.Idx → EReal) (ix2 n q) = _
  exact (rows_flat _ n q).trans (row_eq hX hv (imageOf n) (rowOf n) q)

/-- The reference's second result: the label of every row. -/
theorem tail_labels (hv : ∀ i (a b : Fin 1000), a < b → (C i).v b ≤ (C i).v a) (n : Fin 1600) :
    (afterL postI X (Proc.devRef .tc main_v153) : S1600.Idx → BitVec 32) (ix1 n)
      = wordOf ((C (imageOf n)).outAt (n.val % 100) 5) := by
  show (afterL [hostOps0_26] (afterL [hostOps0_24, hostOps0_25] (afterL [hostOps0_22, hostOps0_23] (labelledAt X)))
    (Proc.devRef .tc main_v153) : S1600.Idx → BitVec 32) (ix1 n) = _
  exact (labels_flat _ n).trans (label_eq hX hv (imageOf n) (rowOf n))

end Tail

section Run

variable (m : (ℓ : Loc nD τ sig) → Buf (Elt Ideal) ℓ) (c : Dev nD)

/-- What the loop starts from: the contents after the boxes are formed and offset, of the contents after the corners. -/
theorem entry_eq : entryContents preI m c = mid (corners (launchContents m c)) := by
  unfold entryContents
  simp only [afterL_cons, afterL_nil]

/-- The contents when the loop has ended. -/
abbrev ended : Valuation τ sig (Elt Ideal) := after condOps (atTrip condOps bodyI (entryContents preI m) 1000 c)

/-- A buffer that the loop does not write holds what it held before the loop. -/
theorem ended_keep (r : Ref sig .tc) (hc : r ∉ condOps_W) (h0 : r ∉ while0Ops0_W) (h1 : r ∉ while0Ops0_1_W)
    (h2 : r ∉ while0Ops0_2_W) : ended m c (Proc.devRef .tc r) = mid (corners (launchContents m c)) (Proc.devRef .tc r) := by
  unfold ended
  rw [after_of_writes_sub condOps _ condOps_writes hc, trips_keep r hc h0 h1 h2, entry_eq]

/-- A buffer that the middle stretches do not write is unchanged by them. -/
theorem mid_keep (W : Valuation τ sig (Elt Ideal)) (r : Ref sig .tc) (h0 : r ∉ hostOps0_14_W) (h1 : r ∉ hostOps0_15_W)
    (h2 : r ∉ hostOps0_16_W) : mid W (Proc.devRef .tc r) = W (Proc.devRef .tc r) := by
  simp only [afterL_cons, afterL_nil]
  rw [after_of_writes_sub hostOps0_16 _ hostOps0_16_writes h2, after_of_writes_sub hostOps0_15 _ hostOps0_15_writes h1,
    after_of_writes_sub hostOps0_14 _ hostOps0_14_writes h0]

/-- The flags after the loop, by its step on the carried buffers. -/
theorem ended_flags : ended m c (Proc.devRef .tc main_v138_4)
    = (STEP^[1000] (mid (corners (launchContents m c)))) (Proc.devRef .tc main_v138_4) := by
  rw [← entry_eq]
  exact (cond_keeps _ main_v138_4 (by decide)).trans (atK_agree m c 1000 main_v138_4 (by decide))

/-- The boxes before the loop. -/
theorem box_at (W : Valuation τ sig (Elt Ideal)) (i : Fin 16) (k : Fin 1000) (j : Fin 4) :
    (mid W (Proc.devRef .tc main_v59) : S16x1000x4.Idx → EReal) (ix3 i k j) = coord W j i k := by
  match j with
  | 0 => exact box_x1 W i k
  | 1 => exact box_y1 W i k
  | 2 => exact box_x2 W i k
  | 3 => exact box_y2 W i k

/-- When the loop has ended, the tail reads the choice among the candidates. -/
theorem ended_holds (h : ∀ i, ∃ B : ℝ, (inCands (launchContents m c) i).Tame B) :
    Holds (ended m c) (inCands (launchContents m c)) where
  flag i k := by
    rw [ended_flags]
    exact kept_flag (launchContents m c) h i k
  score i k := by
    rw [ended_keep m c main_v30 (by decide) (by decide) (by decide) (by decide),
      mid_keep _ main_v30 (by decide) (by decide) (by decide)]
    exact score_at (launchContents m c) i k
  box i k j := by
    rw [ended_keep m c main_v59 (by decide) (by decide) (by decide) (by decide)]
    exact (box_at _ i k j).trans (coord_eq (launchContents m c) j i k)
  label i k := by
    rw [ended_keep m c main_v20 (by decide) (by decide) (by decide) (by decide),
      mid_keep _ main_v20 (by decide) (by decide) (by decide)]
    exact labelNum_eq (launchContents m c) i k

/-- The reference's rows, of the arrays it is launched on. -/
theorem rows_value
    (hB : ∀ j, (0 : EReal) ≤ (m ((c.tc : Thread nD τ).loc main_arg3) : S2097152x4.Idx → EReal) j)
    (hZ : ∀ j, 1 ≤ ((m ((c.tc : Thread nD τ).loc main_arg4) : S16x2.Idx → BitVec 32) j).toInt) (n : Fin 1600) (q : Fin 5) :
    (finalContents condOps preI bodyI postI 1000 m c (Proc.devRef .tc main_v149) : S1600x5.Idx → EReal) (ix2 n q)
      = (inCands (launchContents m c) (imageOf n)).outAt (n.val % 100) q.val :=
  tail_rows  (ended_holds m c fun i => picks_tame _ _ _ _ _ hB hZ i)
    (fun i a b hab => picks_falling _ _ _ _ _ i a b hab) n q

/-- The reference's labels, of the arrays it is launched on. -/
theorem labels_value
    (hB : ∀ j, (0 : EReal) ≤ (m ((c.tc : Thread nD τ).loc main_arg3) : S2097152x4.Idx → EReal) j)
    (hZ : ∀ j, 1 ≤ ((m ((c.tc : Thread nD τ).loc main_arg4) : S16x2.Idx → BitVec 32) j).toInt) (n : Fin 1600) :
    (finalContents condOps preI bodyI postI 1000 m c (Proc.devRef .tc main_v153) : S1600.Idx → BitVec 32) (ix1 n)
      = wordOf ((inCands (launchContents m c) (imageOf n)).outAt (n.val % 100) 5) :=
  tail_labels  (ended_holds m c fun i => picks_tame _ _ _ _ _ hB hZ i)
    (fun i a b hab => picks_falling _ _ _ _ _ i a b hab) n

end Run

end Cert.Proof.SelectRef
-- ==== Proof.SelectValue.lean ====
/-
  The selection's value claim: the kernel and its reference end with the same rows and the same labels.
-/
module

public import proofs.«01_k».proof.Defs
public import proofs.«01_k».proof.Proof.Drawn
public import proofs.«01_k».proof.Proof.Gen.SelectIdeal.Frame
public import proofs.«01_k».proof.Proof.SelectIdealRun
public import proofs.«01_k».proof.Proof.SelectKernelTail
public import proofs.«01_k».proof.Proof.SelectRefResult
public import Idealize.ShloMosaic.Adequacy
public import Idealize.ShloMosaic.Init

@[expose] public section

set_option maxRecDepth 16384

noncomputable section

namespace Cert.Proof.SelectValue

open Idealize.ShloMosaic Idealize.ShloMosaic.TcCoe Idealize.ShloMosaic.StableHlo Idealize.SL.Sem
open Cert.Proof.SelectMath Cert.Proof.SelectPick

/-- The value claim. -/
theorem algebraic : Cert.algebraic_SelectIdeal_SelectReferenceIdeal_pre_drawn (hPre_drawn := Drawn.facts) := by
  intro m g m' g' hpre hagree
  refine ⟨fun c => Cert.Proof.SelectIdeal.endAt m c Cert.SelectIdeal.main_v116,
    fun c => Cert.Proof.SelectIdeal.endAt m c Cert.SelectIdeal.main_v121, ?_, ?_⟩
  · exact (θ_run _ _ _).mono (fun r h c =>
      ⟨(h.1 c).2 Cert.SelectIdeal.main_v116 (Pipeline.mem_restRefs_of _ (by decide) (by decide)),
      (h.1 c).2 Cert.SelectIdeal.main_v121 (Pipeline.mem_restRefs_of _ (by decide) (by decide)),
      ((h.1 c).2 Cert.SelectIdeal.main_arg0 (Pipeline.mem_restRefs_of _ (by decide) (by decide))).trans (Cert.SelectIdeal.Gen.W_main_arg0 m (Cert.Proof.SelectIdeal.dats m) c),
       ((h.1 c).2 Cert.SelectIdeal.main_arg1 (Pipeline.mem_restRefs_of _ (by decide) (by decide))).trans (Cert.SelectIdeal.Gen.W_main_arg1 m (Cert.Proof.SelectIdeal.dats m) c),
       ((h.1 c).2 Cert.SelectIdeal.main_arg2 (Pipeline.mem_restRefs_of _ (by decide) (by decide))).trans (Cert.SelectIdeal.Gen.W_main_arg2 m (Cert.Proof.SelectIdeal.dats m) c),
       ((h.1 c).2 Cert.SelectIdeal.main_arg3 (Pipeline.mem_restRefs_of _ (by decide) (by decide))).trans (Cert.SelectIdeal.Gen.W_main_arg3 m (Cert.Proof.SelectIdeal.dats m) c),
       ((h.1 c).2 Cert.SelectIdeal.main_arg4 (Pipeline.mem_restRefs_of _ (by decide) (by decide))).trans (Cert.SelectIdeal.Gen.W_main_arg4 m (Cert.Proof.SelectIdeal.dats m) c)⟩) (Cert.Proof.SelectIdeal.run_main (F := Ideal) m g)
  · refine (θ_run _ _ _).mono (fun r h c => ⟨(h c Cert.SelectReferenceIdeal.main_v149 rfl).trans ?_,
      (h c Cert.SelectReferenceIdeal.main_v153 rfl).trans ?_,
      (h c _ rfl).trans (ReferenceFrames.select_args m' c _ (by decide)), (h c _ rfl).trans (ReferenceFrames.select_args m' c _ (by decide)),
      (h c _ rfl).trans (ReferenceFrames.select_args m' c _ (by decide)), (h c _ rfl).trans (ReferenceFrames.select_args m' c _ (by decide)),
      (h c _ rfl).trans (ReferenceFrames.select_args m' c _ (by decide))⟩)
      (Cert.SelectReferenceIdeal.Value.run_fold (F := Ideal) m' g')
    all_goals
      haveI := Drawn.facts
      obtain ⟨hB, hZ⟩ := Drawn.all_of_fn _ _ _ _ _ (hpre c)
      obtain ⟨e0, e1, e2, e3, e4⟩ := hagree c
      have hc : ∀ i, SelectRef.inCands (launchContents m' c) i = SelectIdeal.inCands m c i := by
        intro i
        unfold SelectRef.inCands SelectIdeal.inCands
        exact congrFun (congr (congr (congr (congr (congrArg picks e0) e1) e2) e3) e4) i
      funext j
    · obtain ⟨n, q, rfl⟩ : ∃ (a : Fin 1600) (b : Fin 5), j = ix2 a b := ⟨j 0, j 1, eq_ix2 j⟩
      refine (SelectRef.rows_value m' c (fun j => ?_) (fun j => ?_) n q).trans ?_
      · rw [e3]; exact hB j
      · rw [e4]; exact hZ j
      · rw [hc]; exact (SelectIdeal.rows_value m c n q).symm
    · obtain ⟨n, rfl⟩ : ∃ a : Fin 1600, j = ix1 a := ⟨j 0, eq_ix1 j⟩
      refine (SelectRef.labels_value m' c (fun j => ?_) (fun j => ?_) n).trans ?_
      · rw [e3]; exact hB j
      · rw [e4]; exact hZ j
      · rw [hc]; exact (SelectIdeal.labels_value m c n).symm

end Cert.Proof.SelectValue

end
-- ==== Proof.lean ====
module

public import proofs.«01_k».proof.Defs
public import proofs.«01_k».proof.Proof.Gen.Score
public import proofs.«01_k».proof.Proof.Gen.Score.Skeleton
public import proofs.«01_k».proof.Proof.Gen.Score.Launch
public import proofs.«01_k».proof.Proof.Gen.Score.Points
public import proofs.«01_k».proof.Proof.Gen.Score.Frame
public import proofs.«01_k».proof.Proof.Gen.ScoreIdeal
public import proofs.«01_k».proof.Proof.Gen.ScoreIdeal.Skeleton
public import proofs.«01_k».proof.Proof.Gen.ScoreIdeal.Launch
public import proofs.«01_k».proof.Proof.Gen.ScoreIdeal.Points
public import proofs.«01_k».proof.Proof.Gen.ScoreIdeal.Frame
public import proofs.«01_k».proof.Proof.Gen.ScoreIdeal.Value
public import proofs.«01_k».proof.Proof.Gen.ScoreReferenceIdeal
public import proofs.«01_k».proof.Proof.Gen.ScoreReferenceIdeal.Run
public import proofs.«01_k».proof.Proof.Gen.Select
public import proofs.«01_k».proof.Proof.Gen.Select.Skeleton
public import proofs.«01_k».proof.Proof.Gen.Select.Launch
public import proofs.«01_k».proof.Proof.Gen.Select.Points
public import proofs.«01_k».proof.Proof.Gen.Select.Frame
public import proofs.«01_k».proof.Proof.Gen.SelectIdeal
public import proofs.«01_k».proof.Proof.Gen.SelectIdeal.Skeleton
public import proofs.«01_k».proof.Proof.Gen.SelectIdeal.Launch
public import proofs.«01_k».proof.Proof.Gen.SelectIdeal.Points
public import proofs.«01_k».proof.Proof.Gen.SelectIdeal.Frame
public import proofs.«01_k».proof.Proof.Gen.SelectReferenceIdeal
public import proofs.«01_k».proof.Proof.ReferenceFrames
public import proofs.«01_k».proof.Proof.Gen.SelectReferenceIdeal.Run
public import proofs.«01_k».proof.Proof.Gen.On_rows_scored
public import proofs.«01_k».proof.Proof.SelectRun
public import proofs.«01_k».proof.Proof.SelectIdealRun
public import proofs.«01_k».proof.Proof.ScoreValue
public import proofs.«01_k».proof.Proof.Drawn
public import proofs.«01_k».proof.Proof.SelectValue
public import Idealize.ShloMosaic.Adequacy
public import Idealize.ShloMosaic.Init

@[expose] public section

noncomputable section

namespace Cert.Proof

open Idealize.ShloMosaic Idealize.SL.Sem

theorem claim : Cert.Claim := by
  refine ⟨Cert.Score.Gen.facts, Cert.ScoreIdeal.Gen.facts, Cert.ScoreReferenceIdeal.Gen.facts, Cert.Select.Gen.facts,
    Cert.SelectIdeal.Gen.facts, Cert.SelectReferenceIdeal.Gen.facts, Cert.Proof.Drawn.facts, Cert.On_rows_scored.Gen.facts,
    fun m g _ => Cert.Score.Gen.frame m g,
    fun m g _ => Cert.ScoreIdeal.Gen.frame m g,
    Cert.Proof.ReferenceFrames.score,
    fun m g _ => Cert.Proof.Select.frame_main m g,
    fun m g _ => Cert.Proof.SelectIdeal.frame_main m g,
    fun m g _ => Cert.Proof.SelectIdeal.frame_main m g,
    Cert.Proof.ReferenceFrames.select,
    fun m g _ => Cert.Proof.ReferenceFrames.select m g trivial,
    trivial, Cert.Proof.ScoreValue.algebraic, trivial, Cert.Proof.SelectValue.algebraic⟩

end Cert.Proof

end
